-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0))).1 = (fun _ => 1#1)
    ∧ (Cert.Pre_finite2.fn (F := Ideal) (m ((c.tc : Thread Cert.Kernel2Ideal.nD Cert.Kernel2Ideal.τ).loc Cert.Kernel2Ideal.main_arg0))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0))).1 = (fun _ => 1#1)
    ∧ (Cert.Pre_finite2.fn (F := Ideal) (m ((c.tc : Thread Cert.Reference2Ideal.nD Cert.Reference2Ideal.τ).loc Cert.Reference2Ideal.main_arg0))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8)) (m ((c.tc : Thread Cert.Kernel6Ideal.nD Cert.Kernel6Ideal.τ).loc Cert.Kernel6Ideal.main_arg9))).2.2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5)) (m ((c.tc : Thread Cert.Reference6Ideal.nD Cert.Reference6Ideal.τ).loc Cert.Reference6Ideal.main_arg6)) (m ((c.tc : Thread Cert.Reference6Ideal.nD Cert.Reference6Ideal.τ).loc Cert.Reference6Ideal.main_arg7)) (m ((c.tc : Thread Cert.Reference6Ideal.nD Cert.Reference6Ideal.τ).loc Cert.Reference6Ideal.main_arg8)) (m ((c.tc : Thread Cert.Reference6Ideal.nD Cert.Reference6Ideal.τ).loc Cert.Reference6Ideal.main_arg9))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v38) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0))

def preserves_Kernel3_Kernel3Ideal : Prop :=
  IdealRules.named_const.Statement Cert.Kernel3Ideal.κ "qscale" .f32 0x3E38AA3B#32 (((8 * (Real.log 2))⁻¹ : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v19) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "qscale" .f32 0x3E38AA3B#32 (((8 * (Real.log 2))⁻¹ : ℝ) : EReal)

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v77)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v77) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v129) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v25_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v25_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v25_2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v87) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite2 : Cert.Pre_finite2.Facts) (hPre_finite4 : Cert.Pre_finite4.Facts) (hPre_finite6 : Cert.Pre_finite6.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
-- ==== Pre_finite.lean ====
abbrev S32768x3072 : Shape := ⟨2, ![32768, 3072]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S32768x3072 : S_.BroadcastsInDim S32768x3072 (![] : Fin 0 → Fin S32768x3072.rank)
  bcast_S_S1x64 : S_.BroadcastsInDim S1x64 (![] : Fin 0 → Fin S1x64.rank)

variable [Facts]

def fn {F : FTy → Type} [FloatOps F] (main_arg0 : FVec F S32768x3072 .bf16) (main_arg1 : FVec F S1x64 .f32) (main_arg2 : FVec F S1x64 .f32) (main_arg3 : FVec F S1x64 .f32) (main_arg4 : FVec F S1x64 .f32) (main_arg5 : FVec F S1x128 .f32) : IVec S32768x3072 1 × IVec S1x64 1 × IVec S1x64 1 × IVec S1x64 1 × IVec S1x64 1 :=
  let main_v0 : FVec F S32768x3072 .f32 := (extf .f32 · bitsLt_bf16_f32) main_arg0
  let main_v1 : FVec F S32768x3072 .f32 := Host.absf main_v0
  let main_cst : FVec F S_ .f32 := constant S_ .f32 0x7F800000#32
  let main_v2 : FVec F S32768x3072 .f32 := broadcastInDim S32768x3072 ![] bcast_S_S32768x3072 main_cst
  let main_v3 : IVec S32768x3072 1 := cmpf .olt main_v1 main_v2
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg4
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Pre_finite2.lean ====
abbrev S32768x3072 : Shape := ⟨2, ![32768, 3072]⟩
abbrev S32768x512 : Shape := ⟨2, ![32768, 512]⟩
abbrev S32768x4x128 : Shape := ⟨3, ![32768, 4, 128]⟩
abbrev S32768x4x32 : Shape := ⟨3, ![32768, 4, 32]⟩
abbrev S_ : Shape := ⟨0, ![]⟩

class Facts : Prop where
  slices_S32768x3072_S32768x512_0_2048 : S32768x3072.Slices ![0, 2048] S32768x512
  shapeCasts_S32768x512_S32768x4x128 : S32768x512.ShapeCasts S32768x4x128
  slices_S32768x4x128_S32768x4x32_0_0_96 : S32768x4x128.Slices ![0, 0, 96] S32768x4x32
  bitsLt_bf16_f32 : FTy.bits .bf16 < FTy.bits .f32
  bcast_S_S32768x3072 : S_.BroadcastsInDim S32768x3072 (![] : Fin 0 → Fin S32768x3072.rank)
  bcast_S_S32768x4x32 : S_.BroadcastsInDim S32768x4x32 (![] : Fin 0 → Fin S32768x4x32.rank)

variable [Facts]

def fn {F : FTy → Type} [FloatOps F] (main_arg0 : FVec F S32768x3072 .bf16) : IVec S32768x3072 1 × IVec S32768x4x32 1 :=
  let main_v0 : FVec F S32768x512 .bf16 := (extractStridedSlice S32768x512 ![0, 2048] · slices_S32768x3072_S32768x512_0_2048) main_arg0
  let main_v1 : FVec F S32768x4x128 .bf16 := shapeCast S32768x4x128 main_v0 shapeCasts_S32768x512_S32768x4x128
  let main_v2 : FVec F S32768x4x32 .bf16 := (extractStridedSlice S32768x4x32 ![0, 0, 96] · slices_S32768x4x128_S32768x4x32_0_0_96) main_v1
  let main_v3 : FVec F S32768x3072 .f32 := (extf .f32 · bitsLt_bf16_f32) main_arg0
  let main_v4 : FVec F S32768x3072 .f32 := Host.absf main_v3
  let main_cst : FVec F S_ .f32 := constant S_ .f32 0x7F800000#32
  let main_v5 : FVec F S32768x3072 .f32 := broadcastInDim S32768x3072 ![] bcast_S_S32768x3072 main_cst
  let main_v6 : IVec S32768x3072 1 := cmpf .olt main_v4 main_v5
  let main_v7 : FVec F S32768x4x32 .f32 := (extf .f32 · bitsLt_bf16_f32) main_v2
  let main_cst_0 : FVec F S_ .f32 := constant S_ .f32 0x00000000#32
  let main_v8 : FVec F S32768x4x32 .f32 := broadcastInDim S32768x4x32 ![] bcast_S_S32768x4x32 main_cst_0
  let main_v9 : IVec S32768x4x32 1 := cmpf .oeq main_v7 main_v8
  (main_v6, main_v9)
-- ==== Pre_finite4.lean ====
abbrev S32768x1024 : Shape := ⟨2, ![32768, 1024]⟩
abbrev S1x1024x1952 : Shape := ⟨3, ![1, 1024, 1952]⟩
abbrev S1x256 : Shape := ⟨2, ![1, 256]⟩
abbrev S1x256x384 : Shape := ⟨3, ![1, 256, 384]⟩
abbrev S1x128 : Shape := ⟨2, ![1, 128]⟩
abbrev S1x128x768 : Shape := ⟨3, ![1, 128, 768]⟩
abbrev S_ : Shape := ⟨0, ![]⟩

class Facts : Prop where
  bcast_S_S32768x1024 : S_.BroadcastsInDim S32768x1024 (![] : Fin 0 → Fin S32768x1024.rank)
  bcast_S_S1x1024x1952 : S_.BroadcastsInDim S1x1024x1952 (![] : Fin 0 → Fin S1x1024x1952.rank)
  bcast_S_S1x256 : S_.BroadcastsInDim S1x256 (![] : Fin 0 → Fin S1x256.rank)
  bcast_S_S1x256x384 : S_.BroadcastsInDim S1x256x384 (![] : Fin 0 → Fin S1x256x384.rank)
  bcast_S_S1x128 : S_.BroadcastsInDim S1x128 (![] : Fin 0 → Fin S1x128.rank)
  bcast_S_S1x128x768 : S_.BroadcastsInDim S1x128x768 (![] : Fin 0 → Fin S1x128x768.rank)

variable [Facts]

def fn {F : FTy → Type} [FloatOps F] (main_arg0 : FVec F S32768x1024 .f32) (main_arg1 : FVec F S1x1024x1952 .f32) (main_arg2 : FVec F S1x256 .f32) (main_arg3 : FVec F S1x256x384 .f32) (main_arg4 : FVec F S1x128 .f32) (main_arg5 : FVec F S1x128x768 .f32) : IVec S32768x1024 1 × IVec S1x1024x1952 1 × IVec S1x256 1 × IVec S1x256x384 1 × IVec S1x128 1 × IVec S1x128x768 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S1x1024x1952 .f32 := Host.absf main_arg1
  let main_cst_0 : FVec F S_ .f32 := constant S_ .f32 0x7F800000#32
  let main_v4 : FVec F S1x1024x1952 .f32 := broadcastInDim S1x1024x1952 ![] bcast_S_S1x1024x1952 main_cst_0
  let main_v5 : IVec S1x1024x1952 1 := cmpf .olt main_v3 main_v4
  let main_v6 : FVec F S1x256 .f32 := Host.absf main_arg2
  let main_cst_1 : FVec F S_ .f32 := constant S_ .f32 0x7F800000#32
  let main_v7 : FVec F S1x256 .f32 := broadcastInDim S1x256 ![] bcast_S_S1x256 main_cst_1
  let main_v8 : IVec S1x256 1 := cmpf .olt main_v6 main_v7
  let main_v9 : FVec F S1x256x384 .f32 := Host.absf main_arg3
  let main_cst_2 : FVec F S_ .f32 := constant S_ .f32 0x7F800000#32
  let main_v10 : FVec F S1x256x384 .f32 := broadcastInDim S1x256x384 ![] bcast_S_S1x256x384 main_cst_2
  let main_v11 : IVec S1x256x384 1 := cmpf .olt main_v9 main_v10
  let main_v12 : FVec F S1x128 .f32 := Host.absf main_arg4
  let main_cst_3 : FVec F S_ .f32 := constant S_ .f32 0x7F800000#32
  let main_v13 : FVec F S1x128 .f32 := broadcastInDim S1x128 ![] bcast_S_S1x128 main_cst_3
  let main_v14 : IVec S1x128 1 := cmpf .olt main_v12 main_v13
  let main_v15 : FVec F S1x128x768 .f32 := Host.absf main_arg5
  let main_cst_4 : FVec F S_ .f32 := constant S_ .f32 0x7F800000#32
  let main_v16 : FVec F S1x128x768 .f32 := broadcastInDim S1x128x768 ![] bcast_S_S1x128x768 main_cst_4
  let main_v17 : IVec S1x128x768 1 := cmpf .olt main_v15 main_v16
  (main_v2, main_v5, main_v8, main_v11, main_v14, main_v17)
-- ==== Pre_finite6.lean ====
abbrev S32768x512 : Shape := ⟨2, ![32768, 512]⟩
abbrev S1x1024x1024 : Shape := ⟨3, ![1, 1024, 1024]⟩
abbrev S32768x1024 : Shape := ⟨2, ![32768, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1x1024 : Shape := ⟨2, ![1, 1024]⟩
abbrev S1024 : Shape := ⟨1, ![1024]⟩
abbrev S_ : Shape := ⟨0, ![]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S2x1024x4_S1x1024x4_0_0_0 : S2x1024x4.Slices ![0, 0, 0] S1x1024x4
  shapeCasts_S1x1024x4_S1024x4 : S1x1024x4.ShapeCasts S1024x4
  bcast_S_S1024x4 : S_.BroadcastsInDim S1024x4 (![] : Fin 0 → Fin S1024x4.rank)
  slices_S2x4_S1x4_0_0 : S2x4.Slices ![0, 0] S1x4
  shapeCasts_S1x4_S4 : S1x4.ShapeCasts S4
  bcast_S_S4 : S_.BroadcastsInDim S4 (![] : Fin 0 → Fin S4.rank)
  slices_S2x1024x32_S1x1024x32_0_0_0 : S2x1024x32.Slices ![0, 0, 0] S1x1024x32
  shapeCasts_S1x1024x32_S1024x32 : S1x1024x32.ShapeCasts S1024x32
  bcast_S_S1024x32 : S_.BroadcastsInDim S1024x32 (![] : Fin 0 → Fin S1024x32.rank)
  slices_S2x32_S1x32_0_0 : S2x32.Slices ![0, 0] S1x32
  shapeCasts_S1x32_S32 : S1x32.ShapeCasts S32
  bcast_S_S32 : S_.BroadcastsInDim S32 (![] : Fin 0 → Fin S32.rank)

variable [Facts]

def fn_part1 {F : FTy → Type} [FloatOps F] (main_arg8 : FVec F S2x1024x32 .f32) (main_arg9 : FVec F S2x32 .f32) (main_v4 : IVec S1024 1) (main_v9 : IVec S1024 1) (main_v14 : IVec S1024x4 1) (main_v19 : IVec S4 1) : IVec S1024 1 × IVec S1024 1 × IVec S1024x4 1 × IVec S4 1 × IVec S1024x32 1 × IVec S32 1 :=
  let main_v20 : FVec F S1x1024x32 .f32 := (extractStridedSlice S1x1024x32 ![0, 0, 0] · slices_S2x1024x32_S1x1024x32_0_0_0) main_arg8
  let main_v21 : FVec F S1024x32 .f32 := shapeCast S1024x32 main_v20 shapeCasts_S1x1024x32_S1024x32
  let main_v22 : FVec F S1024x32 .f32 := Host.absf main_v21
  let main_cst_3 : FVec F S_ .f32 := constant S_ .f32 0x7F800000#32
  let main_v23 : FVec F S1024x32 .f32 := broadcastInDim S1024x32 ![] bcast_S_S1024x32 main_cst_3
  let main_v24 : IVec S1024x32 1 := cmpf .olt main_v22 main_v23
  let main_v25 : FVec F S1x32 .f32 := (extractStridedSlice S1x32 ![0, 0] · slices_S2x32_S1x32_0_0) main_arg9
  let main_v26 : FVec F S32 .f32 := shapeCast S32 main_v25 shapeCasts_S1x32_S32
  let main_v27 : FVec F S32 .f32 := Host.absf main_v26
  let main_cst_4 : FVec F S_ .f32 := constant S_ .f32 0x7F800000#32
  let main_v28 : FVec F S32 .f32 := broadcastInDim S32 ![] bcast_S_S32 main_cst_4
  let main_v29 : IVec S32 1 := cmpf .olt main_v27 main_v28
  (main_v4, main_v9, main_v14, main_v19, main_v24, main_v29)

def fn {F : FTy → Type} [FloatOps F] (main_arg0 : FVec F S32768x512 .bf16) (main_arg1 : FVec F S32768x512 .bf16) (main_arg2 : FVec F S1x1024x1024 .f32) (main_arg3 : FVec F S32768x1024 .f32) (main_arg4 : FVec F S2x1024 .f32) (main_arg5 : FVec F S2x1024 .f32) (main_arg6 : FVec F S2x1024x4 .f32) (main_arg7 : FVec F S2x4 .f32) (main_arg8 : FVec F S2x1024x32 .f32) (main_arg9 : FVec F S2x32 .f32) : IVec S1024 1 × IVec S1024 1 × IVec S1024x4 1 × IVec S4 1 × IVec S1024x32 1 × IVec S32 1 :=
  let main_v0 : FVec F S1x1024 .f32 := (extractStridedSlice S1x1024 ![0, 0] · slices_S2x1024_S1x1024_0_0) main_arg4
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_v5 : FVec F S1x1024 .f32 := (extractStridedSlice S1x1024 ![0, 0] · slices_S2x1024_S1x1024_0_0) main_arg5
  let main_v6 : FVec F S1024 .f32 := shapeCast S1024 main_v5 shapeCasts_S1x1024_S1024
  let main_v7 : FVec F S1024 .f32 := Host.absf main_v6
  let main_cst_0 : FVec F S_ .f32 := constant S_ .f32 0x7F800000#32
  let main_v8 : FVec F S1024 .f32 := broadcastInDim S1024 ![] bcast_S_S1024 main_cst_0
  let main_v9 : IVec S1024 1 := cmpf .olt main_v7 main_v8
  let main_v10 : FVec F S1x1024x4 .f32 := (extractStridedSlice S1x1024x4 ![0, 0, 0] · slices_S2x1024x4_S1x1024x4_0_0_0) main_arg6
  let main_v11 : FVec F S1024x4 .f32 := shapeCast S1024x4 main_v10 shapeCasts_S1x1024x4_S1024x4
  let main_v12 : FVec F S1024x4 .f32 := Host.absf main_v11
  let main_cst_1 : FVec F S_ .f32 := constant S_ .f32 0x7F800000#32
  let main_v13 : FVec F S1024x4 .f32 := broadcastInDim S1024x4 ![] bcast_S_S1024x4 main_cst_1
  let main_v14 : IVec S1024x4 1 := cmpf .olt main_v12 main_v13
  let main_v15 : FVec F S1x4 .f32 := (extractStridedSlice S1x4 ![0, 0] · slices_S2x4_S1x4_0_0) main_arg7
  let main_v16 : FVec F S4 .f32 := shapeCast S4 main_v15 shapeCasts_S1x4_S4
  let main_v17 : FVec F S4 .f32 := Host.absf main_v16
  let main_cst_2 : FVec F S_ .f32 := constant S_ .f32 0x7F800000#32
  let main_v18 : FVec F S4 .f32 := broadcastInDim S4 ![] bcast_S_S4 main_cst_2
  let main_v19 : IVec S4 1 := cmpf .olt main_v17 main_v18
  fn_part1 (F := F) main_arg8 main_arg9 main_v4 main_v9 main_v14 main_v19
-- ==== Kernel.lean ====
abbrev S32768x3072 : Shape := ⟨2, ![32768, 3072]⟩
abbrev S1x64 : Shape := ⟨2, ![1, 64]⟩
abbrev S1x128 : Shape := ⟨2, ![1, 128]⟩
abbrev S4 : Shape := ⟨1, ![4]⟩
abbrev S64 : Shape := ⟨1, ![64]⟩
abbrev S_ : Shape := ⟨0, ![]⟩
abbrev S1 : Shape := ⟨1, ![1]⟩
abbrev S128 : Shape := ⟨1, ![128]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S4x1x1 : Shape := ⟨3, ![4, 1, 1]⟩
abbrev S1x256x8192 : Shape := ⟨3, ![1, 256, 8192]⟩
abbrev S4x256x8192 : Shape := ⟨3, ![4, 256, 8192]⟩
abbrev S32768x512 : Shape := ⟨2, ![32768, 512]⟩
abbrev S256x128 : Shape := ⟨2, ![256, 128]⟩
abbrev S4096x128 : Shape := ⟨2, ![4096, 128]⟩
abbrev S1x256x4096 : Shape := ⟨3, ![1, 256, 4096]⟩
abbrev S256x4096 : Shape := ⟨2, ![256, 4096]⟩

abbrev nBuf : Space → Nat
  | .hbm => 48
  | .vmem => 10
  | .smem => 1
  | _ => 0

abbrev bufTy : (tb : Table) → Fin (tcTables nBuf tb) → BufTy
  | .hbm, ⟨0, _⟩ => ⟨S32768x3072, .bf16⟩
  | .hbm, ⟨1, _⟩ => ⟨S1x64, .f32⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x128, .f32⟩
  | .hbm, ⟨6, _⟩ => ⟨S4, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S4, .f32⟩
  | .hbm, ⟨26, _⟩ => ⟨S4, .f32⟩
  | .hbm, ⟨27, _⟩ => ⟨S128, .f32⟩
  | .hbm, ⟨28, _⟩ => ⟨S1x128, .f32⟩
  | .hbm, ⟨29, _⟩ => ⟨S256, .i32⟩
  | .hbm, ⟨30, _⟩ => ⟨S256x1, .i32⟩
  | .hbm, ⟨31, _⟩ => ⟨S8192, .i32⟩
  | .hbm, ⟨32, _⟩ => ⟨S1x8192, .i32⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x8192, .i32⟩
  | .hbm, ⟨37, _⟩ => ⟨S256x8192, .i32⟩
  | .hbm, ⟨38, _⟩ => ⟨S256x8192, .i32⟩
  | .hbm, ⟨39, _⟩ => ⟨S256x8192, .i32⟩
  | .hbm, ⟨40, _⟩ => ⟨S256x8192, .f32⟩
  | .hbm, ⟨41, _⟩ => ⟨S4x1x1, .f32⟩
  | .hbm, ⟨42, _⟩ => ⟨S4x1x1, .f32⟩
  | .hbm, ⟨43, _⟩ => ⟨S1x256x8192, .f32⟩
  | .hbm, ⟨44, _⟩ => ⟨S4x256x8192, .f32⟩
  | .hbm, ⟨45, _⟩ => ⟨S4x256x8192, .f32⟩
  | .hbm, ⟨46, _⟩ => ⟨S4x256x8192, .f32⟩
  | .hbm, ⟨47, _⟩ => ⟨S32768x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x128, .f32⟩
  | .local _ .vmem, ⟨7, _⟩ => ⟨S1x256x8192, .f32⟩
  | .local _ .vmem, ⟨8, _⟩ => ⟨S256x128, .bf16⟩
  | .local _ .vmem, ⟨9, _⟩ => ⟨S256x128, .bf16⟩
  | .local _ .smem, ⟨0, _⟩ => ⟨S1, .f32⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let c3840_i32 : BitVec 32 := 3840#32
  let arg2 : BitVec 32 := BitVec.ofNat 32 (i 2).val
  let c256_i32 : BitVec 32 := 256#32
  let v11 : BitVec 32 := Scalar.muli arg2 c256_i32
  let v12 : BitVec 32 := Scalar.subi c3840_i32 v11
  v12
def k0_off1 (i : grid0.Coords) : Fin 3 → Nat :=
  let c0_5 : Index := 0#32
  let c0_6 : Index := 0#32
  let c3840_i32 : BitVec 32 := 3840#32
  let arg2 : BitVec 32 := BitVec.ofNat 32 (i 2).val
  let c256_i32 : BitVec 32 := 256#32
  let v11 : BitVec 32 := Scalar.muli arg2 c256_i32
  let v12 : BitVec 32 := Scalar.subi c3840_i32 v11
  let v13 : BitVec 32 := v12
  let v14 : Index := Scalar.indexCast v13
  ![0, 0, v14.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x256x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S32768x3072 : Shape := ⟨2, ![32768, 3072]⟩
abbrev S1x64 : Shape := ⟨2, ![1, 64]⟩
abbrev S1x128 : Shape := ⟨2, ![1, 128]⟩
abbrev S8x4096x3072 : Shape := ⟨3, ![8, 4096, 3072]⟩
abbrev S8x4096x512 : Shape := ⟨3, ![8, 4096, 512]⟩
abbrev S_ : Shape := ⟨0, ![]⟩
abbrev S8x4096x4x2x64 : Shape := ⟨5, ![8, 4096, 4, 2, 64]⟩
abbrev S8x4096x4x128 : Shape := ⟨4, ![8, 4096, 4, 128]⟩
abbrev S64 : Shape := ⟨1, ![64]⟩
abbrev S1 : Shape := ⟨1, ![1]⟩
abbrev S4 : Shape := ⟨1, ![4]⟩
abbrev S8x4096x4x1x64 : Shape := ⟨5, ![8, 4096, 4, 1, 64]⟩
abbrev S8x4096x4x64 : Shape := ⟨4, ![8, 4096, 4, 64]⟩
abbrev S4096 : Shape := ⟨1, ![4096]⟩
abbrev S4x1x1 : Shape := ⟨3, ![4, 1, 1]⟩
abbrev S4096x1 : Shape := ⟨2, ![4096, 1]⟩
abbrev S1x4096 : Shape := ⟨2, ![1, 4096]⟩
abbrev S4096x4096 : Shape := ⟨2, ![4096, 4096]⟩
abbrev S1x4096x4096 : Shape := ⟨3, ![1, 4096, 4096]⟩
abbrev S4x4096x4096 : Shape := ⟨3, ![4, 4096, 4096]⟩
abbrev S8x4x4096x4096 : Shape := ⟨4, ![8, 4, 4096, 4096]⟩
abbrev S1x4x4096x4096 : Shape := ⟨4, ![1, 4, 4096, 4096]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 135
  | .vmem => 0
  | .smem => 0
  | _ => 0

abbrev hbmTy0_0 (i : Nat) : BufTy := match i % 128 with
  | 0 => ⟨S32768x3072, .bf16⟩
  | 1 => ⟨S1x64, .f32⟩
  | 2 => ⟨S1x64, .f32⟩
  | 3 => ⟨S1x64, .f32⟩
  | 4 => ⟨S1x64, .f32⟩
  | 5 => ⟨S1x128, .f32⟩
  | 6 => ⟨S32768x3072, .f32⟩
  | 7 => ⟨S8x4096x3072, .f32⟩
  | 8 => ⟨S8x4096x512, .f32⟩
  | 9 => ⟨S_, .f32⟩
  | 10 => ⟨S_, .f32⟩
  | 11 => ⟨S_, .f32⟩
  | 12 => ⟨S_, .f32⟩
  | 13 => ⟨S8x4096x512, .f32⟩
  | 14 => ⟨S8x4096x512, .f32⟩
  | 15 => ⟨S8x4096x4x2x64, .f32⟩
  | 16 => ⟨S8x4096x512, .f32⟩
  | 17 => ⟨S8x4096x4x2x64, .f32⟩
  | 18 => ⟨S8x4096x512, .f32⟩
  | 19 => ⟨S8x4096x4x128, .f32⟩
  | 20 => ⟨S64, .f32⟩
  | 21 => ⟨S64, .f32⟩
  | 22 => ⟨S64, .f32⟩
  | 23 => ⟨S_, .f32⟩
  | 24 => ⟨S_, .f32⟩
  | 25 => ⟨S_, .f32⟩
  | 26 => ⟨S64, .f32⟩
  | 27 => ⟨S64, .f32⟩
  | 28 => ⟨S64, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S1, .f32⟩
  | 40 => ⟨S1, .f32⟩
  | 41 => ⟨S1, .f32⟩
  | 42 => ⟨S1, .f32⟩
  | 43 => ⟨S4, .f32⟩
  | 44 => ⟨S8x4096x4x1x64, .f32⟩
  | 45 => ⟨S8x4096x4x64, .f32⟩
  | 46 => ⟨S8x4096x4x1x64, .f32⟩
  | 47 => ⟨S8x4096x4x64, .f32⟩
  | 48 => ⟨S8x4096x4x1x64, .f32⟩
  | 49 => ⟨S8x4096x4x64, .f32⟩
  | 50 => ⟨S8x4096x4x1x64, .f32⟩
  | 51 => ⟨S8x4096x4x64, .f32⟩
  | 52 => ⟨S4096, .i32⟩
  | 53 => ⟨S4096, .f32⟩
  | 54 => ⟨S4x1x1, .f32⟩
  | 55 => ⟨S4x1x1, .f32⟩
  | 56 => ⟨S4096x1, .f32⟩
  | 57 => ⟨S1x4096, .f32⟩
  | 58 => ⟨S4096x4096, .f32⟩
  | 59 => ⟨S4096x4096, .f32⟩
  | 60 => ⟨S4096x4096, .f32⟩
  | 61 => ⟨S4096x4096, .f32⟩
  | 62 => ⟨S1x4096x4096, .f32⟩
  | 63 => ⟨S4x4096x4096, .f32⟩
  | 64 => ⟨S4x4096x4096, .f32⟩
  | 65 => ⟨S4x4096x4096, .f32⟩
  | 66 => ⟨S8x4x4096x4096, .f32⟩
  | 67 => ⟨S_, .f32⟩
  | 68 => ⟨S8x4x4096x4096, .f32⟩
  | 69 => ⟨S8x4x4096x4096, .f32⟩
  | 70 => ⟨S1x4x4096x4096, .f32⟩
  | 71 => ⟨S8x4x4096x4096, .f32⟩
  | 72 => ⟨S8x4x4096x4096, .f32⟩
  | 73 => ⟨S8x4x4096x4096, .f32⟩
  | 74 => ⟨S_, .f32⟩
  | 75 => ⟨S8x4x4096x4096, .f32⟩
  | 76 => ⟨S8x4x4096x4096, .f32⟩
  | 77 => ⟨S1x4x4096x4096, .f32⟩
  | 78 => ⟨S8x4x4096x4096, .f32⟩
  | 79 => ⟨S8x4x4096x4096, .f32⟩
  | 80 => ⟨S_, .f32⟩
  | 81 => ⟨S8x4x4096, .f32⟩
  | 82 => ⟨S_, .f32⟩
  | 83 => ⟨S8x4x4096, .f32⟩
  | 84 => ⟨S8x4x4096, .f32⟩
  | 85 => ⟨S8x4x4096x1, .f32⟩
  | 86 => ⟨S8x4x4096x4096, .f32⟩
  | 87 => ⟨S8x4x4096x4096, .f32⟩
  | 88 => ⟨S8x4x4096x4096, .f32⟩
  | 89 => ⟨S_, .f32⟩
  | 90 => ⟨S8x4x4096, .f32⟩
  | 91 => ⟨S8x4x4096x1, .f32⟩
  | 92 => ⟨S8x4x4096x4096, .f32⟩
  | 93 => ⟨S8x4x4096x4096, .f32⟩
  | 94 => ⟨S_, .f32⟩
  | 95 => ⟨S8x4x4096, .f32⟩
  | 96 => ⟨S_, .f32⟩
  | 97 => ⟨S8x4x4096, .f32⟩
  | 98 => ⟨S8x4x4096, .f32⟩
  | 99 => ⟨S8x4x4096x1, .f32⟩
  | 100 => ⟨S8x4x4096x4096, .f32⟩
  | 101 => ⟨S8x4x4096x4096, .f32⟩
  | 102 => ⟨S8x4x4096x4096, .f32⟩
  | 103 => ⟨S_, .f32⟩
  | 104 => ⟨S8x4x4096, .f32⟩
  | 105 => ⟨S8x4x4096x1, .f32⟩
  | 106 => ⟨S8x4x4096x4096, .f32⟩
  | 107 => ⟨S8x4x4096x4096, .f32⟩
  | 108 => ⟨S8x4x4096x4096, .f32⟩
  | 109 => ⟨S8x4x4096x4096, .f32⟩
  | 110 => ⟨S8x4x4096x4096, .f32⟩
  | 111 => ⟨S8x4x128x4096, .f32⟩
  | 112 => ⟨S8x4096x4x128, .f32⟩
  | 113 => ⟨S128, .f32⟩
  | 114 => ⟨S8x4096x4x128, .f32⟩
  | 115 => ⟨S_, .f32⟩
  | 116 => ⟨S8x4096x4, .f32⟩
  | 117 => ⟨S8x4096x4x1, .f32⟩
  | 118 => ⟨S_, .f32⟩
  | 119 => ⟨S8x4096x4x1, .f32⟩
  | 120 => ⟨S8x4096x4x1, .f32⟩
  | 121 => ⟨S_, .f32⟩
  | 122 => ⟨S8x4096x4x1, .f32⟩
  | 123 => ⟨S8x4096x4x1, .f32⟩
  | 124 => ⟨S8x4096x4x1, .f32⟩
  | 125 => ⟨S8x4096x4x128, .f32⟩
  | 126 => ⟨S8x4096x4x128, .f32⟩
  | 127 => ⟨S1x1x1x128, .f32⟩
  | _ => ⟨S32768x3072, .bf16⟩

abbrev hbmTy0_1 (i : Nat) : BufTy := match i % 128 with
  | 0 => ⟨S8x4096x4x128, .f32⟩
  | 1 => ⟨S8x4096x4x128, .f32⟩
  | 2 => ⟨S_, .f32⟩
  | 3 => ⟨S8x4096x4x128, .f32⟩
  | 4 => ⟨S8x4096x4x128, .f32⟩
  | 5 => ⟨S32768x512, .f32⟩
  | 6 => ⟨S32768x512, .bf16⟩
  | _ => ⟨S32768x3072, .bf16⟩

abbrev hbmTy (i : Nat) : BufTy := match i / 128 with
  | 0 => hbmTy0_0 i
  | 1 => hbmTy0_1 i
  | _ => ⟨S32768x3072, .bf16⟩

abbrev bufTy : (tb : Table) → Fin (tcTables nBuf tb) → BufTy
  | .hbm, ⟨i, _⟩ => hbmTy i
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_cst_5 : Ref sig .tc := ⟨.hbm, 36, rfl⟩
abbrev main_cst_6 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_8 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_9 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_12 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_cst_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_15 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_cst_16 : Ref sig .tc := ⟨.hbm, 115, rfl⟩
abbrev main_v92 : Ref sig .tc := ⟨.hbm, 116, rfl⟩
abbrev main_v93 : Ref sig .tc := ⟨.hbm, 117, rfl⟩
abbrev main_cst_17 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_19 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩

abbrev nD : Nat := 1
abbrev τ : Topo := Topo.v7x

variable {F : FTy → Type} [FloatOps F]
-- ==== Kernel2.lean ====
abbrev S32768x3072 : Shape := ⟨2, ![32768, 3072]⟩
abbrev S32768x512 : Shape := ⟨2, ![32768, 512]⟩
abbrev S512x128 : Shape := ⟨2, ![512, 128]⟩
abbrev S4096x128 : Shape := ⟨2, ![4096, 128]⟩
abbrev S256x128 : Shape := ⟨2, ![256, 128]⟩
abbrev S256x4096 : Shape := ⟨2, ![256, 4096]⟩
abbrev S256 : Shape := ⟨1, ![256]⟩
abbrev S256x1 : Shape := ⟨2, ![256, 1]⟩

abbrev nBuf : Space → Nat
  | .hbm => 2
  | .vmem => 8
  | .smem => 0
  | _ => 0

abbrev bufTy : (tb : Table) → Fin (tcTables nBuf tb) → BufTy
  | .hbm, ⟨0, _⟩ => ⟨S32768x3072, .bf16⟩
  | .hbm, ⟨1, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Reference2Ideal.lean ====
abbrev S32768x3072 : Shape := ⟨2, ![32768, 3072]⟩
abbrev S8x4096x3072 : Shape := ⟨3, ![8, 4096, 3072]⟩
abbrev S8x4096x512 : Shape := ⟨3, ![8, 4096, 512]⟩
abbrev S_ : Shape := ⟨0, ![]⟩
abbrev S8x4096x4x128 : Shape := ⟨4, ![8, 4096, 4, 128]⟩
abbrev S8x4096x4x64 : Shape := ⟨4, ![8, 4096, 4, 64]⟩
abbrev S8x4096x4x32 : Shape := ⟨4, ![8, 4096, 4, 32]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S8x4x128x4096 : Shape := ⟨4, ![8, 4, 128, 4096]⟩
abbrev S32768x512 : Shape := ⟨2, ![32768, 512]⟩

abbrev nBuf : Space → Nat
  | .hbm => 47
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S32768x3072, .f32⟩
  | .hbm, ⟨2, _⟩ => ⟨S8x4096x3072, .f32⟩
  | .hbm, ⟨3, _⟩ => ⟨S8x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x512, .f32⟩
  | .hbm, ⟨10, _⟩ => ⟨S8x4096x512, .f32⟩
  | .hbm, ⟨11, _⟩ => ⟨S8x4096x4x128, .f32⟩
  | .hbm, ⟨12, _⟩ => ⟨S8x4096x512, .f32⟩
  | .hbm, ⟨13, _⟩ => ⟨S8x4096x4x128, .f32⟩
  | .hbm, ⟨14, _⟩ => ⟨S8x4096x512, .f32⟩
  | .hbm, ⟨15, _⟩ => ⟨S8x4096x4x128, .f32⟩
  | .hbm, ⟨16, _⟩ => ⟨S8x4096x4x64, .f32⟩
  | .hbm, ⟨17, _⟩ => ⟨S8x4096x4x32, .f32⟩
  | .hbm, ⟨18, _⟩ => ⟨S8x4096x4x64, .f32⟩
  | .hbm, ⟨19, _⟩ => ⟨S8x4096x4x32, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4x4096x4096, .f32⟩
  | .hbm, ⟨25, _⟩ => ⟨S8x4x4096x4096, .f32⟩
  | .hbm, ⟨26, _⟩ => ⟨S8x4x4096x4096, .f32⟩
  | .hbm, ⟨27, _⟩ => ⟨S8x4x4096x4096, .f32⟩
  | .hbm, ⟨28, _⟩ => ⟨S8x4x4096x4096, .f32⟩
  | .hbm, ⟨29, _⟩ => ⟨S_, .f32⟩
  | .hbm, ⟨30, _⟩ => ⟨S8x4x4096, .f32⟩
  | .hbm, ⟨31, _⟩ => ⟨S_, .f32⟩
  | .hbm, ⟨32, _⟩ => ⟨S8x4x4096, .f32⟩
  | .hbm, ⟨33, _⟩ => ⟨S8x4x4096, .f32⟩
  | .hbm, ⟨34, _⟩ => ⟨S8x4x4096x1, .f32⟩
  | .hbm, ⟨35, _⟩ => ⟨S8x4x4096x4096, .f32⟩
  | .hbm, ⟨36, _⟩ => ⟨S8x4x4096x4096, .f32⟩
  | .hbm, ⟨37, _⟩ => ⟨S8x4x4096x4096, .f32⟩
  | .hbm, ⟨38, _⟩ => ⟨S_, .f32⟩
  | .hbm, ⟨39, _⟩ => ⟨S8x4x4096, .f32⟩
  | .hbm, ⟨40, _⟩ => ⟨S8x4x4096x1, .f32⟩
  | .hbm, ⟨41, _⟩ => ⟨S8x4x4096x4096, .f32⟩
  | .hbm, ⟨42, _⟩ => ⟨S8x4x4096x4096, .f32⟩
  | .hbm, ⟨43, _⟩ => ⟨S8x4x128x4096, .f32⟩
  | .hbm, ⟨44, _⟩ => ⟨S8x4096x4x128, .f32⟩
  | .hbm, ⟨45, _⟩ => ⟨S32768x512, .f32⟩
  | .hbm, ⟨46, _⟩ => ⟨S32768x512, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_1 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_cst_4 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_5 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩

abbrev nD : Nat := 1
abbrev τ : Topo := Topo.v7x

variable {F : FTy → Type} [FloatOps F]
-- ==== Kernel3.lean ====
abbrev S32768x1024 : Shape := ⟨2, ![32768, 1024]⟩
abbrev S1x1024x3072 : Shape := ⟨3, ![1, 1024, 3072]⟩
abbrev S1024x3072 : Shape := ⟨2, ![1024, 3072]⟩
abbrev S8x1x4096x3072 : Shape := ⟨4, ![8, 1, 4096, 3072]⟩
abbrev S8x4x1024x3072 : Shape := ⟨4, ![8, 4, 1024, 3072]⟩
abbrev S8x16x256x3072 : Shape := ⟨4, ![8, 16, 256, 3072]⟩
abbrev S512x1024 : Shape := ⟨2, ![512, 1024]⟩
abbrev S1x1x512x3072 : Shape := ⟨4, ![1, 1, 512, 3072]⟩
abbrev S1x4x128x3072 : Shape := ⟨4, ![1, 4, 128, 3072]⟩
abbrev S1x16x32x3072 : Shape := ⟨4, ![1, 16, 32, 3072]⟩
abbrev S512x128 : Shape := ⟨2, ![512, 128]⟩
abbrev S4x128x128 : Shape := ⟨3, ![4, 128, 128]⟩
abbrev S1024x1024 : Shape := ⟨2, ![1024, 1024]⟩
abbrev S1x1x512x1024 : Shape := ⟨4, ![1, 1, 512, 1024]⟩
abbrev S128x128 : Shape := ⟨2, ![128, 128]⟩
abbrev S1x1x128x128 : Shape := ⟨4, ![1, 1, 128, 128]⟩
abbrev S1x128x128 : Shape := ⟨3, ![1, 128, 128]⟩
abbrev S1x32x128 : Shape := ⟨3, ![1, 32, 128]⟩
abbrev S32x128 : Shape := ⟨2, ![32, 128]⟩
abbrev S1x1x32x128 : Shape := ⟨4, ![1, 1, 32, 128]⟩

abbrev nBuf : Space → Nat
  | .hbm => 7
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1x1024x3072, .f32⟩
  | .hbm, ⟨2, _⟩ => ⟨S1024x3072, .f32⟩
  | .hbm, ⟨3, _⟩ => ⟨S1024x3072, .bf16⟩
  | .hbm, ⟨4, _⟩ => ⟨S8x1x4096x3072, .bf16⟩
  | .hbm, ⟨5, _⟩ => ⟨S8x4x1024x3072, .bf16⟩
  | .hbm, ⟨6, _⟩ => ⟨S8x16x256x3072, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1x512x3072, .bf16⟩
  | .local _ .vmem, ⟨4, _⟩ => ⟨S1x1x512x3072, .bf16⟩
  | .local _ .vmem, ⟨5, _⟩ => ⟨S1x4x128x3072, .bf16⟩
  | .local _ .vmem, ⟨6, _⟩ => ⟨S1x4x128x3072, .bf16⟩
  | .local _ .vmem, ⟨7, _⟩ => ⟨S1x16x32x3072, .bf16⟩
  | .local _ .vmem, ⟨8, _⟩ => ⟨S1x16x32x3072, .bf16⟩
  | .local _ .vmem, ⟨9, _⟩ => ⟨S512x128, .f32⟩
  | .local _ .vmem, ⟨10, _⟩ => ⟨S4x128x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x128x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x32x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel3Ideal.lean ====
variable {F : FTy → Type} [FloatOps F] [Named F]
def κ : String → Option EReal := fun
  | "qscale" => some (((8 * (Real.log 2))⁻¹ : ℝ) : EReal)
  | _ => none
-- ==== Reference3Ideal.lean ====
abbrev S32768x1024 : Shape := ⟨2, ![32768, 1024]⟩
abbrev S1x1024x3072 : Shape := ⟨3, ![1, 1024, 3072]⟩
abbrev S8x4096x1024 : Shape := ⟨3, ![8, 4096, 1024]⟩
abbrev S1024x3072 : Shape := ⟨2, ![1024, 3072]⟩
abbrev S8x4096x3072 : Shape := ⟨3, ![8, 4096, 3072]⟩
abbrev S_ : Shape := ⟨0, ![]⟩
abbrev S8x4096x2048 : Shape := ⟨3, ![8, 4096, 2048]⟩
abbrev S8x4096x1x3072 : Shape := ⟨4, ![8, 4096, 1, 3072]⟩
abbrev S8x1x4096x3072 : Shape := ⟨4, ![8, 1, 4096, 3072]⟩
abbrev S8x1024x4x3072 : Shape := ⟨4, ![8, 1024, 4, 3072]⟩
abbrev S8x4x1024x3072 : Shape := ⟨4, ![8, 4, 1024, 3072]⟩
abbrev S8x256x16x3072 : Shape := ⟨4, ![8, 256, 16, 3072]⟩
abbrev S8x16x256x3072 : Shape := ⟨4, ![8, 16, 256, 3072]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x1024x3072, .f32⟩
  | .hbm, ⟨2, _⟩ => ⟨S8x4096x1024, .f32⟩
  | .hbm, ⟨3, _⟩ => ⟨S1024x3072, .f32⟩
  | .hbm, ⟨4, _⟩ => ⟨S8x4096x3072, .f32⟩
  | .hbm, ⟨5, _⟩ => ⟨S8x4096x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x2048, .f32⟩
  | .hbm, ⟨15, _⟩ => ⟨S8x4096x3072, .f32⟩
  | .hbm, ⟨16, _⟩ => ⟨S8x4096x1x3072, .f32⟩
  | .hbm, ⟨17, _⟩ => ⟨S8x1x4096x3072, .f32⟩
  | .hbm, ⟨18, _⟩ => ⟨S8x1x4096x3072, .bf16⟩
  | .hbm, ⟨19, _⟩ => ⟨S8x1024x4x3072, .f32⟩
  | .hbm, ⟨20, _⟩ => ⟨S8x4x1024x3072, .f32⟩
  | .hbm, ⟨21, _⟩ => ⟨S8x4x1024x3072, .bf16⟩
  | .hbm, ⟨22, _⟩ => ⟨S8x256x16x3072, .f32⟩
  | .hbm, ⟨23, _⟩ => ⟨S8x16x256x3072, .f32⟩
  | .hbm, ⟨24, _⟩ => ⟨S8x16x256x3072, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel4.lean ====
abbrev S32768x1024 : Shape := ⟨2, ![32768, 1024]⟩
abbrev S1x1024x1952 : Shape := ⟨3, ![1, 1024, 1952]⟩
abbrev S1x256 : Shape := ⟨2, ![1, 256]⟩
abbrev S1x256x384 : Shape := ⟨3, ![1, 256, 384]⟩
abbrev S1x128 : Shape := ⟨2, ![1, 128]⟩
abbrev S1x128x768 : Shape := ⟨3, ![1, 128, 768]⟩
abbrev S1024x1952 : Shape := ⟨2, ![1024, 1952]⟩
abbrev S256x384 : Shape := ⟨2, ![256, 384]⟩
abbrev S128x768 : Shape := ⟨2, ![128, 768]⟩
abbrev S1024x1536 : Shape := ⟨2, ![1024, 1536]⟩
abbrev S1024x256 : Shape := ⟨2, ![1024, 256]⟩
abbrev S1024x128 : Shape := ⟨2, ![1024, 128]⟩
abbrev S1024x32 : Shape := ⟨2, ![1024, 32]⟩
abbrev S_ : Shape := ⟨0, ![]⟩
abbrev S1024x64 : Shape := ⟨2, ![1024, 64]⟩
abbrev S1024x16 : Shape := ⟨2, ![1024, 16]⟩
abbrev S1024x640 : Shape := ⟨2, ![1024, 640]⟩
abbrev S256x4x96 : Shape := ⟨3, ![256, 4, 96]⟩
abbrev S256x4x32 : Shape := ⟨3, ![256, 4, 32]⟩
abbrev S256x4x128 : Shape := ⟨3, ![256, 4, 128]⟩
abbrev S256x4x64 : Shape := ⟨3, ![256, 4, 64]⟩
abbrev S256x4x16 : Shape := ⟨3, ![256, 4, 16]⟩
abbrev S256x512 : Shape := ⟨2, ![256, 512]⟩
abbrev S256x1024 : Shape := ⟨2, ![256, 1024]⟩
abbrev S128x4x192 : Shape := ⟨3, ![128, 4, 192]⟩
abbrev S128x4x64 : Shape := ⟨3, ![128, 4, 64]⟩
abbrev S128x4x128 : Shape := ⟨3, ![128, 4, 128]⟩
abbrev S128x512 : Shape := ⟨2, ![128, 512]⟩
abbrev S128x1024 : Shape := ⟨2, ![128, 1024]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S4096x128 : Shape := ⟨2, ![4096, 128]⟩
abbrev S256 : Shape := ⟨1, ![256]⟩
abbrev S128 : Shape := ⟨1, ![128]⟩
abbrev S32768x3072 : Shape := ⟨2, ![32768, 3072]⟩
abbrev S512x1024 : Shape := ⟨2, ![512, 1024]⟩
abbrev S512x128 : Shape := ⟨2, ![512, 128]⟩
abbrev S512x3072 : Shape := ⟨2, ![512, 3072]⟩
abbrev S512x1536 : Shape := ⟨2, ![512, 1536]⟩
abbrev S512x512 : Shape := ⟨2, ![512, 512]⟩
abbrev S512x640 : Shape := ⟨2, ![512, 640]⟩
abbrev S512x256 : Shape := ⟨2, ![512, 256]⟩
abbrev S512 : Shape := ⟨1, ![512]⟩
abbrev S512x1 : Shape := ⟨2, ![512, 1]⟩

abbrev nBuf : Space → Nat
  | .hbm => 98
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S1x1024x1952, .f32⟩
  | .hbm, ⟨2, _⟩ => ⟨S1x256, .f32⟩
  | .hbm, ⟨3, _⟩ => ⟨S1x256x384, .f32⟩
  | .hbm, ⟨4, _⟩ => ⟨S1x128, .f32⟩
  | .hbm, ⟨5, _⟩ => ⟨S1x128x768, .f32⟩
  | .hbm, ⟨6, _⟩ => ⟨S1024x1952, .f32⟩
  | .hbm, ⟨7, _⟩ => ⟨S256x384, .f32⟩
  | .hbm, ⟨8, _⟩ => ⟨S128x768, .f32⟩
  | .hbm, ⟨9, _⟩ => ⟨S1024x1536, .f32⟩
  | .hbm, ⟨10, _⟩ => ⟨S1024x256, .f32⟩
  | .hbm, ⟨11, _⟩ => ⟨S1024x128, .f32⟩
  | .hbm, ⟨12, _⟩ => ⟨S1024x32, .f32⟩
  | .hbm, ⟨13, _⟩ => ⟨S_, .f32⟩
  | .hbm, ⟨14, _⟩ => ⟨S1024x64, .f32⟩
  | .hbm, ⟨15, _⟩ => ⟨S_, .f32⟩
  | .hbm, ⟨16, _⟩ => ⟨S1024x32, .f32⟩
  | .hbm, ⟨17, _⟩ => ⟨S1024x16, .f32⟩
  | .hbm, ⟨18, _⟩ => ⟨S1024x16, .f32⟩
  | .hbm, ⟨19, _⟩ => ⟨S1024x16, .f32⟩
  | .hbm, ⟨20, _⟩ => ⟨S1024x32, .f32⟩
  | .hbm, ⟨21, _⟩ => ⟨S1024x640, .f32⟩
  | .hbm, ⟨22, _⟩ => ⟨S256x4x96, .f32⟩
  | .hbm, ⟨23, _⟩ => ⟨S_, .f32⟩
  | .hbm, ⟨24, _⟩ => ⟨S256x4x32, .f32⟩
  | .hbm, ⟨25, _⟩ => ⟨S256x4x128, .f32⟩
  | .hbm, ⟨26, _⟩ => ⟨S256x4x64, .f32⟩
  | .hbm, ⟨27, _⟩ => ⟨S_, .f32⟩
  | .hbm, ⟨28, _⟩ => ⟨S256x4x64, .f32⟩
  | .hbm, ⟨29, _⟩ => ⟨S256x4x32, .f32⟩
  | .hbm, ⟨30, _⟩ => ⟨S256x4x16, .f32⟩
  | .hbm, ⟨31, _⟩ => ⟨S256x4x16, .f32⟩
  | .hbm, ⟨32, _⟩ => ⟨S256x4x16, .f32⟩
  | .hbm, ⟨33, _⟩ => ⟨S256x4x32, .f32⟩
  | .hbm, ⟨34, _⟩ => ⟨S256x4x128, .f32⟩
  | .hbm, ⟨35, _⟩ => ⟨S256x512, .f32⟩
  | .hbm, ⟨36, _⟩ => ⟨S256x512, .f32⟩
  | .hbm, ⟨37, _⟩ => ⟨S256x1024, .f32⟩
  | .hbm, ⟨38, _⟩ => ⟨S128x4x192, .f32⟩
  | .hbm, ⟨39, _⟩ => ⟨S128x4x64, .f32⟩
  | .hbm, ⟨40, _⟩ => ⟨S_, .f32⟩
  | .hbm, ⟨41, _⟩ => ⟨S128x4x64, .f32⟩
  | .hbm, ⟨42, _⟩ => ⟨S128x4x128, .f32⟩
  | .hbm, ⟨43, _⟩ => ⟨S128x512, .f32⟩
  | .hbm, ⟨44, _⟩ => ⟨S128x4x128, .f32⟩
  | .hbm, ⟨45, _⟩ => ⟨S128x512, .f32⟩
  | .hbm, ⟨46, _⟩ => ⟨S128x1024, .f32⟩
  | .hbm, ⟨47, _⟩ => ⟨S1024x1536, .bf16⟩
  | .hbm, ⟨48, _⟩ => ⟨S1024x640, .bf16⟩
  | .hbm, ⟨49, _⟩ => ⟨S256x1024, .bf16⟩
  | .hbm, ⟨50, _⟩ => ⟨S128x1024, .bf16⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S4096, .f32⟩
  | .hbm, ⟨63, _⟩ => ⟨S4096x1, .f32⟩
  | .hbm, ⟨64, _⟩ => ⟨S1x16, .f32⟩
  | .hbm, ⟨65, _⟩ => ⟨S4096x16, .f32⟩
  | .hbm, ⟨66, _⟩ => ⟨S4096x16, .f32⟩
  | .hbm, ⟨67, _⟩ => ⟨S4096x16, .f32⟩
  | .hbm, ⟨68, _⟩ => ⟨S4096x16, .f32⟩
  | .hbm, ⟨69, _⟩ => ⟨S4096x32, .f32⟩
  | .hbm, ⟨70, _⟩ => ⟨S4096x16, .f32⟩
  | .hbm, ⟨71, _⟩ => ⟨S4096x32, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4096x64, .f32⟩
  | .hbm, ⟨81, _⟩ => ⟨S_, .f32⟩
  | .hbm, ⟨82, _⟩ => ⟨S4096x64, .f32⟩
  | .hbm, ⟨83, _⟩ => ⟨S_, .f32⟩
  | .hbm, ⟨84, _⟩ => ⟨S4096x32, .f32⟩
  | .hbm, ⟨85, _⟩ => ⟨S4096x128, .f32⟩
  | .hbm, ⟨86, _⟩ => ⟨S4096x128, .f32⟩
  | .hbm, ⟨87, _⟩ => ⟨S4096x128, .f32⟩
  | .hbm, ⟨88, _⟩ => ⟨S4096x128, .f32⟩
  | .hbm, ⟨89, _⟩ => ⟨S4096x128, .f32⟩
  | .hbm, ⟨90, _⟩ => ⟨S4096x128, .f32⟩
  | .hbm, ⟨91, _⟩ => ⟨S4096x128, .f32⟩
  | .hbm, ⟨92, _⟩ => ⟨S4096x128, .f32⟩
  | .hbm, ⟨93, _⟩ => ⟨S256, .f32⟩
  | .hbm, ⟨94, _⟩ => ⟨S1x256, .f32⟩
  | .hbm, ⟨95, _⟩ => ⟨S128, .f32⟩
  | .hbm, ⟨96, _⟩ => ⟨S1x128, .f32⟩
  | .hbm, ⟨97, _⟩ => ⟨S32768x3072, .bf16⟩
  | .local _ .vmem, ⟨0, _⟩ => ⟨S512x1024, .f32⟩
  | .local _ .vmem, ⟨1, _⟩ => ⟨S512x1024, .f32⟩
  | .local _ .vmem, ⟨2, _⟩ => ⟨S1024x1536, .bf16⟩
  | .local _ .vmem, ⟨3, _⟩ => ⟨S1024x640, .bf16⟩
  | .local _ .vmem, ⟨4, _⟩ => ⟨S1x256, .f32⟩
  | .local _ .vmem, ⟨5, _⟩ => ⟨S256x1024, .bf16⟩
  | .local _ .vmem, ⟨6, _⟩ => ⟨S1x128, .f32⟩
  | .local _ .vmem, ⟨7, _⟩ => ⟨S128x1024, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x3072, .bf16⟩
  | .local _ .vmem, ⟨17, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_cst_10 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel4Ideal.lean ====
variable {F : FTy → Type} [FloatOps F] [Named F]
def κ : String → Option EReal := fun
  | "qscale" => some (((8 * (Real.log 2))⁻¹ : ℝ) : EReal)
  | _ => none
-- ==== Reference4Ideal.lean ====
abbrev S32768x1024 : Shape := ⟨2, ![32768, 1024]⟩
abbrev S1x1024x1952 : Shape := ⟨3, ![1, 1024, 1952]⟩
abbrev S1x256 : Shape := ⟨2, ![1, 256]⟩
abbrev S1x256x384 : Shape := ⟨3, ![1, 256, 384]⟩
abbrev S1x128 : Shape := ⟨2, ![1, 128]⟩
abbrev S1x128x768 : Shape := ⟨3, ![1, 128, 768]⟩
abbrev S8x4096x1024 : Shape := ⟨3, ![8, 4096, 1024]⟩
abbrev S1024x1952 : Shape := ⟨2, ![1024, 1952]⟩
abbrev S8x4096x1952 : Shape := ⟨3, ![8, 4096, 1952]⟩
abbrev S8x4096x512 : Shape := ⟨3, ![8, 4096, 512]⟩
abbrev S8x4096x256 : Shape := ⟨3, ![8, 4096, 256]⟩
abbrev S8x4096x128 : Shape := ⟨3, ![8, 4096, 128]⟩
abbrev S8x4096x32 : Shape := ⟨3, ![8, 4096, 32]⟩
abbrev S256 : Shape := ⟨1, ![256]⟩
abbrev S_ : Shape := ⟨0, ![]⟩
abbrev S8x4096 : Shape := ⟨2, ![8, 4096]⟩
abbrev S8x4096x1 : Shape := ⟨3, ![8, 4096, 1]⟩
abbrev S1x1x256 : Shape := ⟨3, ![1, 1, 256]⟩
abbrev S256x384 : Shape := ⟨2, ![256, 384]⟩
abbrev S8x4096x384 : Shape := ⟨3, ![8, 4096, 384]⟩
abbrev S8x4096x4x96 : Shape := ⟨4, ![8, 4096, 4, 96]⟩
abbrev S8x4096x4x64 : Shape := ⟨4, ![8, 4096, 4, 64]⟩
abbrev S8x4096x4x32 : Shape := ⟨4, ![8, 4096, 4, 32]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x4x16 : Shape := ⟨4, ![8, 4096, 4, 16]⟩
abbrev S128 : Shape := ⟨1, ![128]⟩
abbrev S1x1x128 : Shape := ⟨3, ![1, 1, 128]⟩
abbrev S128x768 : Shape := ⟨2, ![128, 768]⟩
abbrev S8x4096x768 : Shape := ⟨3, ![8, 4096, 768]⟩
abbrev S8x4096x4x192 : Shape := ⟨4, ![8, 4096, 4, 192]⟩
abbrev S8x4096x4x128 : Shape := ⟨4, ![8, 4096, 4, 128]⟩
abbrev S8x4096x1x32 : Shape := ⟨4, ![8, 4096, 1, 32]⟩
abbrev S8x4096x1x16 : Shape := ⟨4, ![8, 4096, 1, 16]⟩
abbrev S8x4096x3072 : Shape := ⟨3, ![8, 4096, 3072]⟩
abbrev S32768x3072 : Shape := ⟨2, ![32768, 3072]⟩

abbrev nBuf : Space → Nat
  | .hbm => 154
  | .vmem => 0
  | .smem => 0
  | _ => 0

abbrev hbmTy0_0 (i : Nat) : BufTy := match i % 128 with
  | 0 => ⟨S32768x1024, .f32⟩
  | 1 => ⟨S1x1024x1952, .f32⟩
  | 2 => ⟨S1x256, .f32⟩
  | 3 => ⟨S1x256x384, .f32⟩
  | 4 => ⟨S1x128, .f32⟩
  | 5 => ⟨S1x128x768, .f32⟩
  | 6 => ⟨S8x4096x1024, .f32⟩
  | 7 => ⟨S1024x1952, .f32⟩
  | 8 => ⟨S8x4096x1952, .f32⟩
  | 9 => ⟨S8x4096x512, .f32⟩
  | 10 => ⟨S8x4096x512, .f32⟩
  | 11 => ⟨S8x4096x512, .f32⟩
  | 12 => ⟨S8x4096x256, .f32⟩
  | 13 => ⟨S8x4096x128, .f32⟩
  | 14 => ⟨S8x4096x32, .f32⟩
  | 15 => ⟨S256, .f32⟩
  | 16 => ⟨S8x4096x256, .f32⟩
  | 17 => ⟨S_, .f32⟩
  | 18 => ⟨S8x4096, .f32⟩
  | 19 => ⟨S8x4096x1, .f32⟩
  | 20 => ⟨S_, .f32⟩
  | 21 => ⟨S8x4096x1, .f32⟩
  | 22 => ⟨S8x4096x1, .f32⟩
  | 23 => ⟨S_, .f32⟩
  | 24 => ⟨S8x4096x1, .f32⟩
  | 25 => ⟨S8x4096x1, .f32⟩
  | 26 => ⟨S8x4096x1, .f32⟩
  | 27 => ⟨S8x4096x256, .f32⟩
  | 28 => ⟨S8x4096x256, .f32⟩
  | 29 => ⟨S1x1x256, .f32⟩
  | 30 => ⟨S8x4096x256, .f32⟩
  | 31 => ⟨S8x4096x256, .f32⟩
  | 32 => ⟨S256x384, .f32⟩
  | 33 => ⟨S8x4096x384, .f32⟩
  | 34 => ⟨S8x4096x4x96, .f32⟩
  | 35 => ⟨S8x4096x4x64, .f32⟩
  | 36 => ⟨S8x4096x4x32, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S16, .f32⟩
  | 48 => ⟨S4096, .f32⟩
  | 49 => ⟨S4096x1, .f32⟩
  | 50 => ⟨S1x16, .f32⟩
  | 51 => ⟨S4096x16, .f32⟩
  | 52 => ⟨S4096x16, .f32⟩
  | 53 => ⟨S4096x16, .f32⟩
  | 54 => ⟨S4096x16, .f32⟩
  | 55 => ⟨S1x4096x1x16, .f32⟩
  | 56 => ⟨S4096x16, .f32⟩
  | 57 => ⟨S1x4096x1x16, .f32⟩
  | 58 => ⟨S8x4096x4x16, .f32⟩
  | 59 => ⟨S8x4096x4x16, .f32⟩
  | 60 => ⟨S8x4096x4x16, .f32⟩
  | 61 => ⟨S8x4096x4x16, .f32⟩
  | 62 => ⟨S8x4096x4x16, .f32⟩
  | 63 => ⟨S8x4096x4x16, .f32⟩
  | 64 => ⟨S8x4096x4x16, .f32⟩
  | 65 => ⟨S8x4096x4x16, .f32⟩
  | 66 => ⟨S8x4096x4x16, .f32⟩
  | 67 => ⟨S8x4096x4x16, .f32⟩
  | 68 => ⟨S8x4096x4x16, .f32⟩
  | 69 => ⟨S8x4096x4x16, .f32⟩
  | 70 => ⟨S8x4096x4x32, .f32⟩
  | 71 => ⟨S128, .f32⟩
  | 72 => ⟨S8x4096x128, .f32⟩
  | 73 => ⟨S_, .f32⟩
  | 74 => ⟨S8x4096, .f32⟩
  | 75 => ⟨S8x4096x1, .f32⟩
  | 76 => ⟨S_, .f32⟩
  | 77 => ⟨S8x4096x1, .f32⟩
  | 78 => ⟨S8x4096x1, .f32⟩
  | 79 => ⟨S_, .f32⟩
  | 80 => ⟨S8x4096x1, .f32⟩
  | 81 => ⟨S8x4096x1, .f32⟩
  | 82 => ⟨S8x4096x1, .f32⟩
  | 83 => ⟨S8x4096x128, .f32⟩
  | 84 => ⟨S8x4096x128, .f32⟩
  | 85 => ⟨S1x1x128, .f32⟩
  | 86 => ⟨S8x4096x128, .f32⟩
  | 87 => ⟨S8x4096x128, .f32⟩
  | 88 => ⟨S128x768, .f32⟩
  | 89 => ⟨S8x4096x768, .f32⟩
  | 90 => ⟨S8x4096x4x192, .f32⟩
  | 91 => ⟨S8x4096x4x64, .f32⟩
  | 92 => ⟨S8x4096x4x128, .f32⟩
  | 93 => ⟨S8x4096x1x32, .f32⟩
  | 94 => ⟨S16, .f32⟩
  | 95 => ⟨S16, .f32⟩
  | 96 => ⟨S_, .f32⟩
  | 97 => ⟨S16, .f32⟩
  | 98 => ⟨S16, .f32⟩
  | 99 => ⟨S_, .f32⟩
  | 100 => ⟨S16, .f32⟩
  | 101 => ⟨S16, .f32⟩
  | 102 => ⟨S_, .f32⟩
  | 103 => ⟨S16, .f32⟩
  | 104 => ⟨S16, .f32⟩
  | 105 => ⟨S4096, .f32⟩
  | 106 => ⟨S4096x1, .f32⟩
  | 107 => ⟨S1x16, .f32⟩
  | 108 => ⟨S4096x16, .f32⟩
  | 109 => ⟨S4096x16, .f32⟩
  | 110 => ⟨S4096x16, .f32⟩
  | 111 => ⟨S4096x16, .f32⟩
  | 112 => ⟨S1x4096x1x16, .f32⟩
  | 113 => ⟨S4096x16, .f32⟩
  | 114 => ⟨S1x4096x1x16, .f32⟩
  | 115 => ⟨S8x4096x1x16, .f32⟩
  | 116 => ⟨S8x4096x1x16, .f32⟩
  | 117 => ⟨S8x4096x1x16, .f32⟩
  | 118 => ⟨S8x4096x1x16, .f32⟩
  | 119 => ⟨S8x4096x1x16, .f32⟩
  | 120 => ⟨S8x4096x1x16, .f32⟩
  | 121 => ⟨S8x4096x1x16, .f32⟩
  | 122 => ⟨S8x4096x1x16, .f32⟩
  | 123 => ⟨S8x4096x1x16, .f32⟩
  | 124 => ⟨S8x4096x1x16, .f32⟩
  | 125 => ⟨S8x4096x1x16, .f32⟩
  | 126 => ⟨S8x4096x1x16, .f32⟩
  | 127 => ⟨S8x4096x1x32, .f32⟩
  | _ => ⟨S32768x1024, .f32⟩

abbrev hbmTy0_1 (i : Nat) : BufTy := match i % 128 with
  | 0 => ⟨S8x4096x4x32, .f32⟩
  | 1 => ⟨S_, .f32⟩
  | 2 => ⟨S8x4096x4x32, .f32⟩
  | 3 => ⟨S_, .f32⟩
  | 4 => ⟨S_, .f32⟩
  | 5 => ⟨S8x4096x4x128, .f32⟩
  | 6 => ⟨S_, .f32⟩
  | 7 => ⟨S_, .f32⟩
  | 8 => ⟨S_, .f32⟩
  | 9 => ⟨S_, .f32⟩
  | 10 => ⟨S_, .f32⟩
  | 11 => ⟨S8x4096x4x128, .f32⟩
  | 12 => ⟨S8x4096x4x128, .f32⟩
  | 13 => ⟨S8x4096x4x128, .f32⟩
  | 14 => ⟨S_, .f32⟩
  | 15 => ⟨S_, .f32⟩
  | 16 => ⟨S_, .f32⟩
  | 17 => ⟨S_, .f32⟩
  | 18 => ⟨S8x4096x512, .f32⟩
  | 19 => ⟨S8x4096x512, .f32⟩
  | 20 => ⟨S8x4096x512, .f32⟩
  | 21 => ⟨S8x4096x512, .f32⟩
  | 22 => ⟨S8x4096x512, .f32⟩
  | 23 => ⟨S8x4096x3072, .f32⟩
  | 24 => ⟨S32768x3072, .f32⟩
  | 25 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_5 : Ref sig .tc := ⟨.hbm, 73, rfl⟩
abbrev main_v61 : Ref sig .tc := ⟨.hbm, 74, rfl⟩
abbrev main_v62 : Ref sig .tc := ⟨.hbm, 75, rfl⟩
abbrev main_cst_6 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_8 : Ref sig .tc := ⟨.hbm, 96, rfl⟩
abbrev main_v81 : Ref sig .tc := ⟨.hbm, 97, rfl⟩
abbrev main_v82 : Ref sig .tc := ⟨.hbm, 98, rfl⟩
abbrev main_cst_9 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_cst_11 : Ref sig .tc := ⟨.hbm, 129, rfl⟩
abbrev main_v111 : Ref sig .tc := ⟨.hbm, 130, rfl⟩
abbrev main_cst_12 : Ref sig .tc := ⟨.hbm, 131, rfl⟩
abbrev main_v112 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_v115 : Ref sig .tc := ⟨.hbm, 136, rfl⟩
abbrev main_cst_14 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_cst_15 : Ref sig .tc := ⟨.hbm, 142, rfl⟩
abbrev main_v120 : Ref sig .tc := ⟨.hbm, 143, rfl⟩
abbrev main_cst_16 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩

abbrev nD : Nat := 1
abbrev τ : Topo := Topo.v7x

variable {F : FTy → Type} [FloatOps F]
-- ==== Kernel5.lean ====
abbrev S32768x512 : Shape := ⟨2, ![32768, 512]⟩
abbrev S1x1024x1024 : Shape := ⟨3, ![1, 1024, 1024]⟩
abbrev S32768x1024 : Shape := ⟨2, ![32768, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 41
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1x1024x1024, .f32⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x1024x32, .f32⟩
  | .hbm, ⟨9, _⟩ => ⟨S2x32, .f32⟩
  | .hbm, ⟨10, _⟩ => ⟨S1x1024x4, .f32⟩
  | .hbm, ⟨11, _⟩ => ⟨S1024x4, .f32⟩
  | .hbm, ⟨12, _⟩ => ⟨S1x4, .f32⟩
  | .hbm, ⟨13, _⟩ => ⟨S4, .f32⟩
  | .hbm, ⟨14, _⟩ => ⟨S1x1024x32, .f32⟩
  | .hbm, ⟨15, _⟩ => ⟨S1024x32, .f32⟩
  | .hbm, ⟨16, _⟩ => ⟨S1x32, .f32⟩
  | .hbm, ⟨17, _⟩ => ⟨S32, .f32⟩
  | .hbm, ⟨18, _⟩ => ⟨S_, .f32⟩
  | .hbm, ⟨19, _⟩ => ⟨S1024x92, .f32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S_, .f32⟩
  | .hbm, ⟨26, _⟩ => ⟨S92, .f32⟩
  | .hbm, ⟨27, _⟩ => ⟨S128, .f32⟩
  | .hbm, ⟨28, _⟩ => ⟨S1x128, .f32⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x128, .i32⟩
  | .hbm, ⟨39, _⟩ => ⟨S32768x128, .f32⟩
  | .hbm, ⟨40, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | .local _ .vmem, ⟨18, _⟩ => ⟨S1x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference5Ideal.lean ====
abbrev S32768x512 : Shape := ⟨2, ![32768, 512]⟩
abbrev S1x1024x1024 : Shape := ⟨3, ![1, 1024, 1024]⟩
abbrev S32768x1024 : Shape := ⟨2, ![32768, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S8x4096x512 : Shape := ⟨3, ![8, 4096, 512]⟩
abbrev S8x4096x1024 : Shape := ⟨3, ![8, 4096, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1x1024x1024, .f32⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x1024x32, .f32⟩
  | .hbm, ⟨9, _⟩ => ⟨S2x32, .f32⟩
  | .hbm, ⟨10, _⟩ => ⟨S8x4096x512, .bf16⟩
  | .hbm, ⟨11, _⟩ => ⟨S8x4096x512, .bf16⟩
  | .hbm, ⟨12, _⟩ => ⟨S8x4096x1024, .bf16⟩
  | .hbm, ⟨13, _⟩ => ⟨S8x4096x1024, .f32⟩
  | .hbm, ⟨14, _⟩ => ⟨S1024x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S1x1024, .f32⟩
  | .hbm, ⟨22, _⟩ => ⟨S1024, .f32⟩
  | .hbm, ⟨23, _⟩ => ⟨S1x1024, .f32⟩
  | .hbm, ⟨24, _⟩ => ⟨S1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S1x1x1024, .f32⟩
  | .hbm, ⟨52, _⟩ => ⟨S8x4096x1024, .f32⟩
  | .hbm, ⟨53, _⟩ => ⟨S8x4096x1024, .f32⟩
  | .hbm, ⟨54, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]
-- ==== Kernel6.lean ====
abbrev S32768x512 : Shape := ⟨2, ![32768, 512]⟩
abbrev S1x1024x1024 : Shape := ⟨3, ![1, 1024, 1024]⟩
abbrev S32768x1024 : Shape := ⟨2, ![32768, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S1x1024x4 : Shape := ⟨3, ![1, 1024, 4]⟩
abbrev S1024x4 : Shape := ⟨2, ![1024, 4]⟩
abbrev S1x4 : Shape := ⟨2, ![1, 4]⟩
abbrev S4 : Shape := ⟨1, ![4]⟩
abbrev S1x1024x32 : Shape := ⟨3, ![1, 1024, 32]⟩
abbrev S1024x32 : Shape := ⟨2, ![1024, 32]⟩
abbrev S1x32 : Shape := ⟨2, ![1, 32]⟩
abbrev S32 : Shape := ⟨1, ![32]⟩
abbrev S_ : Shape := ⟨0, ![]⟩
abbrev S1024x92 : Shape := ⟨2, ![1024, 92]⟩
abbrev S1024x128 : Shape := ⟨2, ![1024, 128]⟩
abbrev S92 : Shape := ⟨1, ![92]⟩
abbrev S128 : Shape := ⟨1, ![128]⟩
abbrev S1x128 : Shape := ⟨2, ![1, 128]⟩
abbrev S1024x1024 : Shape := ⟨2, ![1024, 1024]⟩
abbrev S1x1024 : Shape := ⟨2, ![1, 1024]⟩
abbrev S1024 : Shape := ⟨1, ![1024]⟩
abbrev S32768x128 : Shape := ⟨2, ![32768, 128]⟩
abbrev S512x512 : Shape := ⟨2, ![512, 512]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 41
  | .vmem => 19
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1x1024x1024, .f32⟩
  | .hbm, ⟨3, _⟩ => ⟨S32768x1024, .f32⟩
  | .hbm, ⟨4, _⟩ => ⟨S2x1024, .f32⟩
  | .hbm, ⟨5, _⟩ => ⟨S2x1024, .f32⟩
  | .hbm, ⟨6, _⟩ => ⟨S2x1024x4, .f32⟩
  | .hbm, ⟨7, _⟩ => ⟨S2x4, .f32⟩
  | .hbm, ⟨8, _⟩ => ⟨S2x1024x32, .f32⟩
  | .hbm, ⟨9, _⟩ => ⟨S2x32, .f32⟩
  | .hbm, ⟨10, _⟩ => ⟨S1x1024x4, .f32⟩
  | .hbm, ⟨11, _⟩ => ⟨S1024x4, .f32⟩
  | .hbm, ⟨12, _⟩ => ⟨S1x4, .f32⟩
  | .hbm, ⟨13, _⟩ => ⟨S4, .f32⟩
  | .hbm, ⟨14, _⟩ => ⟨S1x1024x32, .f32⟩
  | .hbm, ⟨15, _⟩ => ⟨S1024x32, .f32⟩
  | .hbm, ⟨16, _⟩ => ⟨S1x32, .f32⟩
  | .hbm, ⟨17, _⟩ => ⟨S32, .f32⟩
  | .hbm, ⟨18, _⟩ => ⟨S_, .f32⟩
  | .hbm, ⟨19, _⟩ => ⟨S1024x92, .f32⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .f32⟩
  | .hbm, ⟨24, _⟩ => ⟨S1024x128, .bf16⟩
  | .hbm, ⟨25, _⟩ => ⟨S_, .f32⟩
  | .hbm, ⟨26, _⟩ => ⟨S92, .f32⟩
  | .hbm, ⟨27, _⟩ => ⟨S128, .f32⟩
  | .hbm, ⟨28, _⟩ => ⟨S1x128, .f32⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S1x1024, .f32⟩
  | .hbm, ⟨35, _⟩ => ⟨S1024, .f32⟩
  | .hbm, ⟨36, _⟩ => ⟨S1x1024, .f32⟩
  | .hbm, ⟨37, _⟩ => ⟨S32768x1024, .f32⟩
  | .hbm, ⟨38, _⟩ => ⟨S32768x128, .i32⟩
  | .hbm, ⟨39, _⟩ => ⟨S32768x128, .f32⟩
  | .hbm, ⟨40, _⟩ => ⟨S1x128, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x128, .i32⟩
  | .local _ .vmem, ⟨15, _⟩ => ⟨S512x128, .i32⟩
  | .local _ .vmem, ⟨16, _⟩ => ⟨S512x128, .f32⟩
  | .local _ .vmem, ⟨17, _⟩ => ⟨S512x128, .f32⟩
  | .local _ .vmem, ⟨18, _⟩ => ⟨S1x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v25_2 : Ref sig .tc := ⟨.hbm, 39, rfl⟩
abbrev main_v25_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference6Ideal.lean ====
abbrev S32768x512 : Shape := ⟨2, ![32768, 512]⟩
abbrev S1x1024x1024 : Shape := ⟨3, ![1, 1024, 1024]⟩
abbrev S32768x1024 : Shape := ⟨2, ![32768, 1024]⟩
abbrev S2x1024 : Shape := ⟨2, ![2, 1024]⟩
abbrev S2x1024x4 : Shape := ⟨3, ![2, 1024, 4]⟩
abbrev S2x4 : Shape := ⟨2, ![2, 4]⟩
abbrev S2x1024x32 : Shape := ⟨3, ![2, 1024, 32]⟩
abbrev S2x32 : Shape := ⟨2, ![2, 32]⟩
abbrev S8x4096x512 : Shape := ⟨3, ![8, 4096, 512]⟩
abbrev S8x4096x1024 : Shape := ⟨3, ![8, 4096, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4 : Shape := ⟨3, ![1, 1024, 4]⟩
abbrev S1024x4 : Shape := ⟨2, ![1024, 4]⟩
abbrev S32768x4 : Shape := ⟨2, ![32768, 4]⟩
abbrev S1x4 : Shape := ⟨2, ![1, 4]⟩
abbrev S4 : Shape := ⟨1, ![4]⟩
abbrev S32768x1 : Shape := ⟨2, ![32768, 1]⟩
abbrev S32768 : Shape := ⟨1, ![32768]⟩
abbrev S32768x1x1 : Shape := ⟨3, ![32768, 1, 1]⟩
abbrev S1 : Shape := ⟨1, ![1]⟩
abbrev S1x1x1 : Shape := ⟨3, ![1, 1, 1]⟩
abbrev S1x1024x32 : Shape := ⟨3, ![1, 1024, 32]⟩
abbrev S1024x32 : Shape := ⟨2, ![1024, 32]⟩
abbrev S32768x32 : Shape := ⟨2, ![32768, 32]⟩
abbrev S1x32 : Shape := ⟨2, ![1, 32]⟩
abbrev S32 : Shape := ⟨1, ![32]⟩
abbrev S32768x4x8 : Shape := ⟨3, ![32768, 4, 8]⟩
abbrev S32768x1x8 : Shape := ⟨3, ![32768, 1, 8]⟩
abbrev S32768x8 : Shape := ⟨2, ![32768, 8]⟩
abbrev S32768x2 : Shape := ⟨2, ![32768, 2]⟩
abbrev S32768x126 : Shape := ⟨2, ![32768, 126]⟩
abbrev S32768x128 : Shape := ⟨2, ![32768, 128]⟩

abbrev nBuf : Space → Nat
  | .hbm => 157
  | .vmem => 0
  | .smem => 0
  | _ => 0

abbrev hbmTy0_0 (i : Nat) : BufTy := match i % 128 with
  | 0 => ⟨S32768x512, .bf16⟩
  | 1 => ⟨S32768x512, .bf16⟩
  | 2 => ⟨S1x1024x1024, .f32⟩
  | 3 => ⟨S32768x1024, .f32⟩
  | 4 => ⟨S2x1024, .f32⟩
  | 5 => ⟨S2x1024, .f32⟩
  | 6 => ⟨S2x1024x4, .f32⟩
  | 7 => ⟨S2x4, .f32⟩
  | 8 => ⟨S2x1024x32, .f32⟩
  | 9 => ⟨S2x32, .f32⟩
  | 10 => ⟨S8x4096x512, .bf16⟩
  | 11 => ⟨S8x4096x512, .bf16⟩
  | 12 => ⟨S8x4096x1024, .bf16⟩
  | 13 => ⟨S8x4096x1024, .f32⟩
  | 14 => ⟨S1024x1024, .f32⟩
  | 15 => ⟨S8x4096x1024, .f32⟩
  | 16 => ⟨S8x4096x1024, .f32⟩
  | 17 => ⟨S_, .f32⟩
  | 18 => ⟨S8x4096x1024, .f32⟩
  | 19 => ⟨S8x4096x1024, .f32⟩
  | 20 => ⟨S8x4096x1024, .f32⟩
  | 21 => ⟨S1x1024, .f32⟩
  | 22 => ⟨S1024, .f32⟩
  | 23 => ⟨S1x1024, .f32⟩
  | 24 => ⟨S1024, .f32⟩
  | 25 => ⟨S_, .f32⟩
  | 26 => ⟨S8x4096, .f32⟩
  | 27 => ⟨S8x4096x1, .f32⟩
  | 28 => ⟨S_, .f32⟩
  | 29 => ⟨S8x4096x1, .f32⟩
  | 30 => ⟨S8x4096x1, .f32⟩
  | 31 => ⟨S8x4096x1024, .f32⟩
  | 32 => ⟨S8x4096x1024, .f32⟩
  | 33 => ⟨S8x4096x1024, .f32⟩
  | 34 => ⟨S_, .f32⟩
  | 35 => ⟨S8x4096, .f32⟩
  | 36 => ⟨S8x4096x1, .f32⟩
  | 37 => ⟨S_, .f32⟩
  | 38 => ⟨S8x4096x1, .f32⟩
  | 39 => ⟨S8x4096x1, .f32⟩
  | 40 => ⟨S8x4096x1024, .f32⟩
  | 41 => ⟨S8x4096x1024, .f32⟩
  | 42 => ⟨S_, .f32⟩
  | 43 => ⟨S8x4096x1, .f32⟩
  | 44 => ⟨S8x4096x1, .f32⟩
  | 45 => ⟨S8x4096x1, .f32⟩
  | 46 => ⟨S8x4096x1024, .f32⟩
  | 47 => ⟨S8x4096x1024, .f32⟩
  | 48 => ⟨S1x1x1024, .f32⟩
  | 49 => ⟨S8x4096x1024, .f32⟩
  | 50 => ⟨S8x4096x1024, .f32⟩
  | 51 => ⟨S1x1x1024, .f32⟩
  | 52 => ⟨S8x4096x1024, .f32⟩
  | 53 => ⟨S8x4096x1024, .f32⟩
  | 54 => ⟨S32768x1024, .f32⟩
  | 55 => ⟨S1x1024x4, .f32⟩
  | 56 => ⟨S1024x4, .f32⟩
  | 57 => ⟨S32768x4, .f32⟩
  | 58 => ⟨S1x4, .f32⟩
  | 59 => ⟨S4, .f32⟩
  | 60 => ⟨S1x4, .f32⟩
  | 61 => ⟨S32768x4, .f32⟩
  | 62 => ⟨S32768x4, .f32⟩
  | 63 => ⟨S32768x1, .f32⟩
  | 64 => ⟨S32768x1, .i32⟩
  | 65 => ⟨S_, .f32⟩
  | 66 => ⟨S32768, .f32⟩
  | 67 => ⟨S_, .f32⟩
  | 68 => ⟨S32768, .f32⟩
  | 69 => ⟨S32768, .f32⟩
  | 70 => ⟨S32768x1, .f32⟩
  | 71 => ⟨S32768x4, .f32⟩
  | 72 => ⟨S32768x4, .f32⟩
  | 73 => ⟨S32768x4, .f32⟩
  | 74 => ⟨S_, .f32⟩
  | 75 => ⟨S32768, .f32⟩
  | 76 => ⟨S32768x1, .f32⟩
  | 77 => ⟨S32768x4, .f32⟩
  | 78 => ⟨S32768x4, .f32⟩
  | 79 => ⟨S_, .i32⟩
  | 80 => ⟨S32768x1, .i32⟩
  | 81 => ⟨S32768x1, .i1⟩
  | 82 => ⟨S_, .i32⟩
  | 83 => ⟨S32768x1, .i32⟩
  | 84 => ⟨S32768x1, .i32⟩
  | 85 => ⟨S32768x1, .i32⟩
  | 86 => ⟨S32768x1x1, .i32⟩
  | 87 => ⟨S1, .i32⟩
  | 88 => ⟨S_, .i32⟩
  | 89 => ⟨S32768x1x1, .i32⟩
  | 90 => ⟨S32768x1x1, .i1⟩
  | 91 => ⟨S1x1x1, .i32⟩
  | 92 => ⟨S32768x1x1, .i32⟩
  | 93 => ⟨S32768x1x1, .i1⟩
  | 94 => ⟨S32768x1x1, .i1⟩
  | 95 => ⟨S_, .i1⟩
  | 96 => ⟨S32768x1, .i1⟩
  | 97 => ⟨S32768x1, .f32⟩
  | 98 => ⟨S_, .f32⟩
  | 99 => ⟨S32768x1, .f32⟩
  | 100 => ⟨S32768x1, .f32⟩
  | 101 => ⟨S32768, .f32⟩
  | 102 => ⟨S1x1024x32, .f32⟩
  | 103 => ⟨S1024x32, .f32⟩
  | 104 => ⟨S32768x32, .f32⟩
  | 105 => ⟨S1x32, .f32⟩
  | 106 => ⟨S32, .f32⟩
  | 107 => ⟨S1x32, .f32⟩
  | 108 => ⟨S32768x32, .f32⟩
  | 109 => ⟨S32768x32, .f32⟩
  | 110 => ⟨S32768x4x8, .f32⟩
  | 111 => ⟨S32768x1x1, .i32⟩
  | 112 => ⟨S_, .i32⟩
  | 113 => ⟨S32768x1x1, .i32⟩
  | 114 => ⟨S32768x1x1, .i1⟩
  | 115 => ⟨S_, .i32⟩
  | 116 => ⟨S32768x1x1, .i32⟩
  | 117 => ⟨S32768x1x1, .i32⟩
  | 118 => ⟨S32768x1x1, .i32⟩
  | 119 => ⟨S1, .i32⟩
  | 120 => ⟨S_, .i32⟩
  | 121 => ⟨S32768x1x1, .i32⟩
  | 122 => ⟨S32768x1x1, .i1⟩
  | 123 => ⟨S1x1x1, .i32⟩
  | 124 => ⟨S32768x1x1, .i32⟩
  | 125 => ⟨S32768x1x1, .i1⟩
  | 126 => ⟨S32768x1x1, .i1⟩
  | 127 => ⟨S_, .i1⟩
  | _ => ⟨S32768x512, .bf16⟩

abbrev hbmTy0_1 (i : Nat) : BufTy := match i % 128 with
  | 0 => ⟨S32768x1, .i1⟩
  | 1 => ⟨S32768x1x8, .f32⟩
  | 2 => ⟨S32768x1x8, .i1⟩
  | 3 => ⟨S_, .f32⟩
  | 4 => ⟨S32768x1x8, .f32⟩
  | 5 => ⟨S32768x1x8, .f32⟩
  | 6 => ⟨S32768x8, .f32⟩
  | 7 => ⟨S32768x2, .f32⟩
  | 8 => ⟨S32768x2, .i32⟩
  | 9 => ⟨S32768x1, .f32⟩
  | 10 => ⟨S_, .f32⟩
  | 11 => ⟨S32768, .f32⟩
  | 12 => ⟨S_, .f32⟩
  | 13 => ⟨S32768, .f32⟩
  | 14 => ⟨S32768, .f32⟩
  | 15 => ⟨S32768x1, .f32⟩
  | 16 => ⟨S32768x2, .f32⟩
  | 17 => ⟨S32768x2, .f32⟩
  | 18 => ⟨S32768x2, .f32⟩
  | 19 => ⟨S_, .f32⟩
  | 20 => ⟨S32768, .f32⟩
  | 21 => ⟨S32768x1, .f32⟩
  | 22 => ⟨S32768x2, .f32⟩
  | 23 => ⟨S32768x2, .f32⟩
  | 24 => ⟨S32768x2, .f32⟩
  | 25 => ⟨S32768x2, .f32⟩
  | 26 => ⟨S_, .f32⟩
  | 27 => ⟨S32768x126, .f32⟩
  | 28 => ⟨S32768x128, .f32⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_values : Ref sig .tc := ⟨.hbm, 63, rfl⟩
abbrev main_indices : Ref sig .tc := ⟨.hbm, 64, rfl⟩
abbrev main_cst_5 : Ref sig .tc := ⟨.hbm, 65, rfl⟩
abbrev main_v47 : Ref sig .tc := ⟨.hbm, 66, rfl⟩
abbrev main_cst_6 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_7 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_call0_c : Ref sig .tc := ⟨.hbm, 79, rfl⟩
abbrev main_call0_v0 : Ref sig .tc := ⟨.hbm, 80, rfl⟩
abbrev main_call0_v1 : Ref sig .tc := ⟨.hbm, 81, rfl⟩
abbrev main_call0_c_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_c_1 : Ref sig .tc := ⟨.hbm, 87, rfl⟩
abbrev main_call0_c_2 : Ref sig .tc := ⟨.hbm, 88, rfl⟩
abbrev main_call0_v6 : Ref sig .tc := ⟨.hbm, 89, rfl⟩
abbrev main_call0_v7 : Ref sig .tc := ⟨.hbm, 90, rfl⟩
abbrev main_call0_v8 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_3 : Ref sig .tc := ⟨.hbm, 95, rfl⟩
abbrev main_call0_v12 : Ref sig .tc := ⟨.hbm, 96, rfl⟩
abbrev main_call0_v13 : Ref sig .tc := ⟨.hbm, 97, rfl⟩
abbrev main_call0_cst : Ref sig .tc := ⟨.hbm, 98, rfl⟩
abbrev main_call0_v14 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_call1_c : Ref sig .tc := ⟨.hbm, 112, rfl⟩
abbrev main_call1_v0 : Ref sig .tc := ⟨.hbm, 113, rfl⟩
abbrev main_call1_v1 : Ref sig .tc := ⟨.hbm, 114, rfl⟩
abbrev main_call1_c_0 : Ref sig .tc := ⟨.hbm, 115, rfl⟩
abbrev main_call1_v2 : Ref sig .tc := ⟨.hbm, 116, rfl⟩
abbrev main_call1_v3 : Ref sig .tc := ⟨.hbm, 117, rfl⟩
abbrev main_call1_v4 : Ref sig .tc := ⟨.hbm, 118, rfl⟩
abbrev main_call1_c_1 : Ref sig .tc := ⟨.hbm, 119, rfl⟩
abbrev main_call1_c_2 : Ref sig .tc := ⟨.hbm, 120, rfl⟩
abbrev main_call1_v5 : Ref sig .tc := ⟨.hbm, 121, rfl⟩
abbrev main_call1_v6 : Ref sig .tc := ⟨.hbm, 122, rfl⟩
abbrev main_call1_v7 : Ref sig .tc := ⟨.hbm, 123, rfl⟩
abbrev main_call1_v8 : Ref sig .tc := ⟨.hbm, 124, rfl⟩
abbrev main_call1_v9 : Ref sig .tc := ⟨.hbm, 125, rfl⟩
abbrev main_call1_v10 : Ref sig .tc := ⟨.hbm, 126, rfl⟩
abbrev main_call1_c_3 : Ref sig .tc := ⟨.hbm, 127, rfl⟩
abbrev main_call1_v11 : Ref sig .tc := ⟨.hbm, 128, rfl⟩
abbrev main_call1_v12 : Ref sig .tc := ⟨.hbm, 129, rfl⟩
abbrev main_call1_v13 : Ref sig .tc := ⟨.hbm, 130, rfl⟩
abbrev main_call1_cst : Ref sig .tc := ⟨.hbm, 131, rfl⟩
abbrev main_call1_v14 : Ref sig .tc := ⟨.hbm, 132, rfl⟩
abbrev main_v70 : Ref sig .tc := ⟨.hbm, 133, rfl⟩
abbrev main_v71 : Ref sig .tc := ⟨.hbm, 134, rfl⟩
abbrev main_values_8 : Ref sig .tc := ⟨.hbm, 135, rfl⟩
abbrev main_indices_9 : Ref sig .tc := ⟨.hbm, 136, rfl⟩
abbrev main_v72 : Ref sig .tc := ⟨.hbm, 137, rfl⟩
abbrev main_cst_10 : Ref sig .tc := ⟨.hbm, 138, rfl⟩
abbrev main_v73 : Ref sig .tc := ⟨.hbm, 139, rfl⟩
abbrev main_cst_11 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_cst_12 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_13 : Ref sig .tc := ⟨.hbm, 154, rfl⟩
abbrev main_v86 : Ref sig .tc := ⟨.hbm, 155, rfl⟩
abbrev main_v87 : Ref sig .tc := ⟨.hbm, 156, rfl⟩

abbrev nD : Nat := 1
abbrev τ : Topo := Topo.v7x

variable {F : FTy → Type} [FloatOps F]
-- ==== Proof.Soft.lean ====
/- Softmax over real scores read in the extended reals: the weights, and the two ways of applying them. -/
module

public import Idealize.ShloMosaic.Lib.Pointwise
public import Mathlib.Analysis.SpecialFunctions.Pow.Real

@[expose] public section

noncomputable section

namespace Cert.Soft

open Idealize.ShloMosaic

/-- The softmax weight of entry `j` among the real scores `s`. -/
def wt {n : ℕ} (s : Fin n → ℝ) (j : Fin n) : ℝ := Real.exp (s j) / ∑ k, Real.exp (s k)

/-- A finite sum of reals, taken in the extended reals, is the real sum. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t h ih => rw [Finset.sum_insert h, Finset.sum_insert h, ih, EReal.coe_add]

/-- A sum of products of reals, taken in the extended reals, is the real sum of products. -/
theorem coe_dot {ι : Type*} [Fintype ι] (f g : ι → EReal) (a b : ι → ℝ) (hf : ∀ i, f i = a i) (hg : ∀ i, g i = b i) :
    ∑ i, f i * g i = ((∑ i, a i * b i : ℝ) : EReal) := by
  rw [← coe_sum]
  exact Finset.sum_congr rfl fun i _ => by rw [hf, hg, EReal.coe_mul]

/-- The greatest of finitely many reals, folded from the least extended real over a nonempty range, is a real. -/
theorem fold_max_real {ι : Type*} (t : Finset ι) (ht : t.Nonempty) (f : ι → ℝ) :
    ∃ r : ℝ, t.fold max (⊥ : EReal) (fun i => ((f i : ℝ) : EReal)) = r := by
  classical
  induction ht using Finset.Nonempty.cons_induction with
  | singleton a => exact ⟨f a, by simp⟩
  | cons a t h _ ih =>
    obtain ⟨r, hr⟩ := ih
    exact ⟨max (f a) r, by rw [Finset.fold_cons, hr]; exact (EReal.coe_strictMono.monotone.map_max).symm⟩

/-- The sum of the exponentials of finitely many reals, over a nonempty range, is positive. -/
theorem sum_exp_pos {n : ℕ} [NeZero n] (s : Fin n → ℝ) : 0 < ∑ k, Real.exp (s k) :=
  Finset.sum_pos (fun k _ => Real.exp_pos _) Finset.univ_nonempty

/-- The weights do not change when one real is taken from every score. -/
theorem wt_shift {n : ℕ} (s : Fin n → ℝ) (M : ℝ) (j : Fin n) :
    Real.exp (s j - M) / ∑ k, Real.exp (s k - M) = wt s j := by
  unfold wt
  simp only [Real.exp_sub]
  rw [← Finset.sum_div, div_div_div_cancel_right₀ (Real.exp_pos M).ne']

/-- The exponential to the base two. -/
theorem exp2_real (x : ℝ) : Ideal.exp2 (x : EReal) = ((Real.exp (Real.log 2 * x) : ℝ) : EReal) := by
  rw [Ideal.exp2_coe]
  exact congrArg _ (Real.rpow_def_of_pos two_pos x)

/-- Scores shifted by a real, exponentials to the base two, the weighted values summed first and divided by the
    sum of the exponentials last: the softmax of `log 2` times the scores, applied to the values. -/
theorem apply_exp2 {n : ℕ} [NeZero n] (s v : Fin n → ℝ) (M : ℝ) :
    (∑ j, Ideal.exp2 ((s j : EReal) - (M : EReal)) * ((v j : ℝ) : EReal))
        * Ideal.div 1 (∑ j, Ideal.exp2 ((s j : EReal) - (M : EReal)))
      = ((∑ j, wt (fun k => Real.log 2 * s k) j * v j : ℝ) : EReal) := by
  have h : ∀ j, Ideal.exp2 ((s j : EReal) - (M : EReal))
      = ((Real.exp (Real.log 2 * s j - Real.log 2 * M) : ℝ) : EReal) := fun j => by
    rw [← EReal.coe_sub, exp2_real, mul_sub]
  simp only [h]
  have hp : (0 : ℝ) < ∑ j, Real.exp (Real.log 2 * s j - Real.log 2 * M) := sum_exp_pos _
  rw [coe_dot _ _ _ v (fun _ => rfl) (fun _ => rfl), coe_sum, Ideal.div_coe hp.ne', one_mul, ← EReal.coe_mul]
  refine congrArg _ ?_
  rw [Finset.sum_mul]
  refine Finset.sum_congr rfl fun j _ => ?_
  rw [← wt_shift _ (Real.log 2 * M)]
  ring

/-- Scores shifted by a real, each exponential divided by the sum of all: the softmax weight. -/
theorem wt_exp {n : ℕ} [NeZero n] (s : Fin n → ℝ) (M : ℝ) (j : Fin n) :
    Ideal.div (Ideal.exp ((s j : EReal) - (M : EReal))) (∑ k, Ideal.exp ((s k : EReal) - (M : EReal)))
      = ((wt s j : ℝ) : EReal) := by
  have h : ∀ j, Ideal.exp ((s j : EReal) - (M : EReal)) = ((Real.exp (s j - M) : ℝ) : EReal) := fun j => by
    rw [← EReal.coe_sub, Ideal.exp_coe]
  simp only [h]
  rw [coe_sum, Ideal.div_coe (sum_exp_pos _).ne', ← EReal.coe_mul, mul_one_div, wt_shift]

/-- The pattern of minus infinity. -/
theorem bits_bot : Ideal.ofBits .f32 0xFF800000#32 = ⊥ := by simp [Ideal.ofBits, Ideal.ieee]

/-- The pattern of plus infinity. -/
theorem bits_top : Ideal.ofBits .f32 0x7F800000#32 = ⊤ := by simp [Ideal.ofBits, Ideal.ieee]

/-- The pattern of two. -/
theorem bits_two : Ideal.ofBits .f32 0x40000000#32 = ((2 : ℝ) : EReal) := by
  simp [Ideal.ofBits, Ideal.ieee, -EReal.coe_mul]; norm_num

/-- The pattern of ninety-six. -/
theorem bits_96 : Ideal.ofBits .f32 0x42C00000#32 = ((96 : ℝ) : EReal) := by
  simp [Ideal.ofBits, Ideal.ieee, -EReal.coe_mul]; norm_num

/-- A bit that is one says its condition. -/
theorem of_bit (p : Prop) [Decidable p] (h : BitVec.ofBool (decide p) = 1#1) : p := by
  by_contra hp
  rw [decide_eq_false hp] at h
  exact absurd h (by decide)

/-- An extended real whose absolute value is below the greatest one is a real. -/
theorem real_of_abs_lt (x : EReal) (h : max x (-x) < ⊤) : x = ((x.toReal : ℝ) : EReal) := by
  induction x with
  | bot => simp at h
  | top => simp at h
  | coe r => rfl

end Cert.Soft

end
-- ==== Proof.Entries.lean ====
/- The entries of an argument array of two axes, read as reals at natural numbers. -/
module

public import Idealize.ShloMosaic.Lib.Pointwise

@[expose] public section

noncomputable section

namespace Cert.Entries

open Idealize.ShloMosaic

variable {n k : ℕ} {φ : FTy}

/-- The entry at row `a`, column `b` of an array, as a real; zero outside. -/
def rd (A : FVec Ideal ⟨2, ![n, k]⟩ φ) (a b : ℕ) : ℝ :=
  if h : a < n ∧ b < k then EReal.toReal (A (ix2 ⟨a, h.1⟩ ⟨b, h.2⟩)) else 0

/-- An array of reals is its entries. -/
theorem rd_eq (A : FVec Ideal ⟨2, ![n, k]⟩ φ) (hA : ∀ i, A i = ((EReal.toReal (A i) : ℝ) : EReal))
    (i : (⟨2, ![n, k]⟩ : Shape).Idx) (a b : ℕ) (ha : (i 0).val = a) (hb : (i 1).val = b) :
    A i = ((rd A a b : ℝ) : EReal) := by
  subst ha hb
  have h : (i 0).val < n ∧ (i 1).val < k := ⟨(i 0).isLt, (i 1).isLt⟩
  unfold rd
  rw [dif_pos h, hA i]
  conv_lhs => rw [eq_ix2 i]
  rfl

end Cert.Entries

end
-- ==== Proof.DiffKernel.lean ====
/- The differential attention call: what a block stores, and the array after the run. -/
module

public import proofs.«01_k».proof.Proof.Soft
public import proofs.«01_k».proof.Proof.Entries
public import proofs.«01_k».proof.Proof.Gen.KernelIdeal.Value
public import Idealize.ShloMosaic.Lib.Pipeline.ValueKit
public import Idealize.ShloMosaic.Lib.Pointwise

@[expose] public section

set_option maxRecDepth 16384

noncomputable section

namespace Cert.Diff

open Idealize.ShloMosaic Idealize.ShloMosaic.TcCoe Idealize.SL.Sem
open Idealize.ShloMosaic.Pipeline (Dat)
open Cert.KernelIdeal Cert.KernelIdeal.Gen Cert.Soft Cert.Entries

/-- The sum over the first 64 of 128 columns. -/
def lo (f : Fin 128 → ℝ) : ℝ := ∑ d : Fin 128, if d.val < 64 then f d else 0

/-- The sum over the last 64 of 128 columns. -/
def hi (f : Fin 128 → ℝ) : ℝ := ∑ d : Fin 128, if 64 ≤ d.val then f d else 0

/-- The comparison of a column's number with 64. -/
theorem slt_64 : ∀ x : Fin 128, IntOp.cmpi .slt (BitVec.ofNat 32 x.val) 64#32 = if x.val < 64 then 1#1 else 0#1 := by
  decide

/-- The other comparison of a column's number with 64. -/
theorem sge_64 : ∀ x : Fin 128, IntOp.cmpi .sge (BitVec.ofNat 32 x.val) 64#32 = if 64 ≤ x.val then 1#1 else 0#1 := by
  decide

/-- Products kept at the first 64 columns and zero at the others, summed. -/
theorem sum_lo (q k : Fin 128 → EReal) (Q K : Fin 128 → ℝ) (hq : ∀ d, q d = ((Q d : ℝ) : EReal))
    (hk : ∀ d, k d = ((K d : ℝ) : EReal)) :
    ∑ x : Fin 128, Scalar.select (IntOp.cmpi .slt (BitVec.ofNat 32 x.val) 64#32) (q x * k x) 0
      = ((lo fun d => Q d * K d : ℝ) : EReal) := by
  unfold lo
  rw [← coe_sum]
  refine Finset.sum_congr rfl fun x _ => ?_
  rw [slt_64, hq, hk, ← EReal.coe_mul]
  split_ifs <;> rfl

/-- Products kept at the last 64 columns and zero at the others, summed. -/
theorem sum_hi (q k : Fin 128 → EReal) (Q K : Fin 128 → ℝ) (hq : ∀ d, q d = ((Q d : ℝ) : EReal))
    (hk : ∀ d, k d = ((K d : ℝ) : EReal)) :
    ∑ x : Fin 128, Scalar.select (IntOp.cmpi .sge (BitVec.ofNat 32 x.val) 64#32) (q x * k x) 0
      = ((hi fun d => Q d * K d : ℝ) : EReal) := by
  unfold hi
  rw [← coe_sum]
  refine Finset.sum_congr rfl fun x _ => ?_
  rw [sge_64, hq, hk, ← EReal.coe_mul]
  split_ifs <;> rfl

/-- The first softmax's values at row `r`, column `l`. -/
theorem pay4 (q : FVec Ideal S256x128 .bf16) (k v : FVec Ideal S4096x128 .bf16) (u : FVec Ideal S1x256x4096 .f32)
    (Q : Fin 256 → Fin 128 → ℝ) (K V : Fin 4096 → Fin 128 → ℝ) (U : Fin 256 → Fin 4096 → ℝ)
    (hq : ∀ r d, q (ix2 r d) = ((Q r d : ℝ) : EReal))
    (hk : ∀ j d, k (ix2 j d) = ((K j d : ℝ) : EReal)) (hv : ∀ j d, v (ix2 j d) = ((V j d : ℝ) : EReal))
    (hu : ∀ r j, u (ix3 0 r j) = ((U r j : ℝ) : EReal)) (r : Fin 256) (l : Fin 128) :
    k0_pay4 (F := Ideal) q k u v (ix2 r l)
      = ((∑ j, wt (fun i => Real.log 2 * ((lo fun d => Q r d * K i d) + U r i)) j * V j l : ℝ) : EReal) := by
  have hs : ∀ i : Fin 4096, (∑ x : Fin 128, Scalar.select (IntOp.cmpi .slt (BitVec.ofNat 32 x.val) 64#32)
      (q (ix2 r x) * k (ix2 i x)) 0 : EReal) + u (ix3 0 r i) = (((lo fun d => Q r d * K i d) + U r i : ℝ) : EReal) := fun i => by
    rw [sum_lo _ _ _ _ (hq r) (hk i), hu, EReal.coe_add]
  obtain ⟨M, hM⟩ := fold_max_real Finset.univ Finset.univ_nonempty fun i => (lo fun d => Q r d * K i d) + U r i
  pointwise [k0_pay4, k0_pay3, k0_pay2]
  simp only [hs, bits_bot, hM, hv]
  exact apply_exp2 _ _ M

/-- The second softmax's scores. -/
theorem pay5 (q : FVec Ideal S256x128 .bf16) (k : FVec Ideal S4096x128 .bf16) (u : FVec Ideal S1x256x4096 .f32)
    (Q : Fin 256 → Fin 128 → ℝ) (K : Fin 4096 → Fin 128 → ℝ) (U : Fin 256 → Fin 4096 → ℝ)
    (hq : ∀ r d, q (ix2 r d) = ((Q r d : ℝ) : EReal))
    (hk : ∀ j d, k (ix2 j d) = ((K j d : ℝ) : EReal))
    (hu : ∀ r j, u (ix3 0 r j) = ((U r j : ℝ) : EReal)) (r : Fin 256) (i : Fin 4096) :
    k0_pay5 (F := Ideal) q k u (ix2 r i) = (((hi fun d => Q r d * K i d) + U r i : ℝ) : EReal) := by
  pointwise [k0_pay5, k0_pay3, k0_pay2]
  rw [sum_hi _ _ _ _ (hq r) (hk i), hu, EReal.coe_add]

/-- The greatest of a row of the second scores is a real. -/
theorem pay6 (q : FVec Ideal S256x128 .bf16) (k : FVec Ideal S4096x128 .bf16) (u : FVec Ideal S1x256x4096 .f32)
    (r : Fin 256) (s : Fin 4096 → ℝ) (hs : ∀ i, k0_pay5 (F := Ideal) q k u (ix2 r i) = ((s i : ℝ) : EReal)) :
    ∃ M : ℝ, k0_pay6 (F := Ideal) q k u (ix1 r) = (M : EReal) := by
  obtain ⟨M, hM⟩ := fold_max_real Finset.univ Finset.univ_nonempty s
  refine ⟨M, ?_⟩
  unfold k0_pay6
  generalize k0_pay5 (F := Ideal) q k u = w at hs
  pointwise
  simp only [hs, bits_bot, hM]

/-- A row `o` after the norm, at column `l`: times the reciprocal of the root of its mean square and a small
    constant, times the gain, times a constant. -/
def norm (o : Fin 128 → ℝ) (g : EReal) (l : Fin 128) : EReal :=
  ((o l : ℝ) : EReal) * Ideal.rsqrt (Ideal.div (∑ x, ((o x : ℝ) : EReal) * ((o x : ℝ) : EReal)) (Ideal.ofBits .f32 0x43000000#32)
    + Ideal.ofBits .f32 0x3727C5AC#32) * g * Ideal.ofBits .f32 0x3F4CCCCD#32

/-- A block's row after the norm, from the first softmax's values and the second's scores. -/
theorem pay1 (lam : ℝ) (v : FVec Ideal S4096x128 .bf16) (o : FVec Ideal S256x128 .f32) (s : FVec Ideal S256x4096 .f32)
    (mx : FVec Ideal S256 .f32) (g : FVec Ideal S1x128 .f32) (r : Fin 256) (l : Fin 128)
    (V : Fin 4096 → Fin 128 → ℝ) (O : Fin 128 → ℝ) (S : Fin 4096 → ℝ) (M : ℝ)
    (hv : ∀ j d, v (ix2 j d) = ((V j d : ℝ) : EReal)) (ho : ∀ d, o (ix2 r d) = ((O d : ℝ) : EReal))
    (hs : ∀ j, s (ix2 r j) = ((S j : ℝ) : EReal)) (hM : mx (ix1 r) = (M : EReal)) :
    k0_pay1 (F := Ideal) (lam : EReal) v o s mx g (ix2 r l)
      = norm (fun d => O d - lam * ∑ j, wt (fun i => Real.log 2 * S i) j * V j d) (g (ix2 0 l)) l := by
  have h : ∀ d : Fin 128, ((O d : ℝ) : EReal) - (lam : EReal)
        * ((∑ x, Ideal.exp2 (((S x : ℝ) : EReal) - (M : EReal)) * ((V x d : ℝ) : EReal))
          * Ideal.div 1 (∑ x, Ideal.exp2 (((S x : ℝ) : EReal) - (M : EReal))))
      = ((O d - lam * ∑ j, wt (fun i => Real.log 2 * S i) j * V j d : ℝ) : EReal) := fun d => by
    rw [apply_exp2, ← EReal.coe_mul, ← EReal.coe_sub]
  unfold norm
  simp only [← h]
  pointwise [k0_pay1]
  simp only [ho, hs, hM, hv]
  rfl

/-- The slope of a head's bias. -/
def slope (h : ℕ) : ℝ := (1 / 4) ^ (h + 1)

/-- The table of slopes. -/
theorem slope_bits : ∀ h : Fin 4, Ideal.ofBits .f32 (lit0 (S4.rowMajor (ix1 h))) = ((slope h.val : ℝ) : EReal) := by
  intro h
  unfold slope
  fin_cases h
  · show Ideal.ofBits .f32 0x3E800000#32 = _
    simp [Ideal.ofBits, Ideal.ieee, -EReal.coe_mul]; norm_num
  · show Ideal.ofBits .f32 0x3D800000#32 = _
    simp [Ideal.ofBits, Ideal.ieee, -EReal.coe_mul]; norm_num
  · show Ideal.ofBits .f32 0x3C800000#32 = _
    simp [Ideal.ofBits, Ideal.ieee, -EReal.coe_mul]; norm_num
  · show Ideal.ofBits .f32 0x3B800000#32 = _
    simp [Ideal.ofBits, Ideal.ieee, -EReal.coe_mul]; norm_num

/-- The table's distance at row `r`, lane `x`. -/
theorem dist (r x : ℕ) (hr : r < 256) (hx : x < 8192) :
    (IntOp.absi (IntOp.subi (IntOp.addi (BitVec.ofNat 32 r) 3840#32) (BitVec.ofNat 32 x))).toInt = |(r : ℤ) + 3840 - x| := by
  have h : (IntOp.subi (IntOp.addi (BitVec.ofNat 32 r) 3840#32) (BitVec.ofNat 32 x)).toInt = (r : ℤ) + 3840 - x := by
    unfold IntOp.subi IntOp.addi
    have e : ∀ n : ℕ, n < 2147483648 → (BitVec.ofNat 32 n).toInt = n := fun n hn => by
      have h1 : (BitVec.ofNat 32 n).toNat = n := by rw [BitVec.toNat_ofNat]; exact Nat.mod_eq_of_lt (by omega)
      rw [BitVec.toInt_eq_toNat_of_lt (by omega), h1]
    rw [BitVec.toInt_sub, BitVec.toInt_add, e r (by omega), e x (by omega), show (3840#32).toInt = 3840 by decide]
    rw [show ((r : ℤ) + 3840).bmod (2 ^ 32) = r + 3840 by rw [Int.bmod_eq_of_le] <;> omega]
    rw [Int.bmod_eq_of_le] <;> omega
  unfold IntOp.absi
  generalize IntOp.subi (IntOp.addi (BitVec.ofNat 32 r) 3840#32) (BitVec.ofNat 32 x) = w at h
  rw [← h]
  have hw := BitVec.msb_eq_toInt (x := w)
  have hb : (-10000 : ℤ) < w.toInt ∧ w.toInt < 10000 := by omega
  by_cases hn : w.toInt < 0
  · rw [hw, decide_eq_true hn, if_pos rfl, abs_of_neg hn, BitVec.toInt_neg, Int.bmod_eq_of_le] <;> omega
  · rw [hw, decide_eq_false hn, if_neg (by decide), abs_of_nonneg (by omega)]

variable (m : (ℓ : Loc nD τ sig) → Buf (Elt Ideal) ℓ)

/-- The table of biases at head `h`, row `r`, lane `x`. -/
theorem table (c : Dev nD) (h : Fin 4) (r : Fin 256) (x : Fin 8192) :
    (V m c main_v34 : FVec Ideal S4x256x8192 .f32) (ix3 h r x)
      = ((-(slope h.val * (1 / Real.log 2)) * |(r.val : ℝ) + 3840 - x.val| : ℝ) : EReal) := by
  have hl : Ideal.log (Ideal.ofBits .f32 0x40000000#32) = ((Real.log 2 : ℝ) : EReal) := by
    rw [bits_two, Ideal.log_coe, if_neg (by norm_num)]
  have hd : (FloatOps.sitofp (F := Ideal) FTy.f32 (IntOp.absi (IntOp.subi (IntOp.addi (BitVec.ofNat 32 r.val) 3840#32) (BitVec.ofNat 32 x.val))))
      = ((|(r.val : ℝ) + 3840 - x.val| : ℝ) : EReal) := by
    show (((IntOp.absi _).toInt : ℝ) : EReal) = _
    rw [dist _ _ r.isLt x.isLt]
    push_cast
    rfl
  have hn : Real.log 2 ≠ 0 := (Real.log_pos one_lt_two).ne'
  unfold V
  after_results_simp
  pointwise
  rw [hd, slope_bits, hl, Ideal.div_coe hn, ← EReal.coe_mul, ← EReal.coe_neg, ← EReal.coe_mul]

/-- The constant the two attentions' mix starts from. -/
def lam0 : ℝ := EReal.toReal (Ideal.ofBits .f32 0x3E4CCCCD#32)

/-- That constant is a real. -/
theorem bits_lam0 : Ideal.ofBits .f32 0x3E4CCCCD#32 = ((lam0 : ℝ) : EReal) := by
  unfold lam0
  simp [Ideal.ofBits, Ideal.ieee, -EReal.coe_mul]

/-- The factor of the second attention: the difference of two exponentials of products summed, and a constant. -/
def lam (a b c d : FVec Ideal S1x64 .f32) : ℝ :=
  Real.exp (∑ x : Fin 64, rd a 0 x.val * rd b 0 x.val) - Real.exp (∑ x : Fin 64, rd c 0 x.val * rd d 0 x.val) + lam0

/-- The factor, computed in the extended reals. -/
theorem lam_eq (a b c d : FVec Ideal S1x64 .f32)
    (ha : ∀ i, a i = ((EReal.toReal (a i) : ℝ) : EReal)) (hb : ∀ i, b i = ((EReal.toReal (b i) : ℝ) : EReal))
    (hc : ∀ i, c i = ((EReal.toReal (c i) : ℝ) : EReal)) (hd : ∀ i, d i = ((EReal.toReal (d i) : ℝ) : EReal)) :
    Ideal.exp (∑ x : Fin 64, a (ix2 0 x) * b (ix2 0 x)) - Ideal.exp (∑ x : Fin 64, c (ix2 0 x) * d (ix2 0 x))
      + Ideal.ofBits .f32 0x3E4CCCCD#32 = ((lam a b c d : ℝ) : EReal) := by
  rw [coe_dot _ _ _ _ (fun x => rd_eq a ha _ 0 x.val rfl rfl) (fun x => rd_eq b hb _ 0 x.val rfl rfl),
    coe_dot _ _ _ _ (fun x => rd_eq c hc _ 0 x.val rfl rfl) (fun x => rd_eq d hd _ 0 x.val rfl rfl),
    Ideal.exp_coe, Ideal.exp_coe, bits_lam0, ← EReal.coe_sub, ← EReal.coe_add]
  rfl

/-- The factor's array. -/
theorem mix (c : Dev nD) (a1 a2 a3 a4 : FVec Ideal S1x64 .f32) (h1 : m ((c : Thread nD τ).loc main_arg1) = a1)
    (h2 : m ((c : Thread nD τ).loc main_arg2) = a2) (h3 : m ((c : Thread nD τ).loc main_arg3) = a3)
    (h4 : m ((c : Thread nD τ).loc main_arg4) = a4) :
    (V m c main_v12 : FVec Ideal S1 .f32) (ix1 0)
      = Ideal.exp (∑ x : Fin 64, a1 (ix2 0 x) * a2 (ix2 0 x)) - Ideal.exp (∑ x : Fin 64, a3 (ix2 0 x) * a4 (ix2 0 x))
        + Ideal.ofBits .f32 0x3E4CCCCD#32 := by
  subst h1 h2 h3 h4
  unfold V
  after_results_simp
  pointwise

/-- The gains' array. -/
theorem gain (c : Dev nD) (l : Fin 128) :
    (V m c main_v17 : FVec Ideal S1x128 .f32) (ix2 0 l)
      = (m ((c : Thread nD τ).loc main_arg5) : FVec Ideal S1x128 .f32) (ix2 0 l) := by
  unfold V
  after_results_simp
  pointwise

/-- The windows' block indices in the point's position. -/
theorem idx : ∀ t : Fin cfg0.N, win0_1.index t = ![t.val % 128, t.val / 128]
      ∧ win0_2.index t = ![t.val / 16 % 8, 4 + t.val / 128]
      ∧ win0_3.index t = ![t.val / 16 % 8, 8 + t.val / 128]
      ∧ win0_5.index t = ![t.val / 128, 0, 0] ∧ win0_4.index t = ![0, 0] ∧ win0_0.index t = ![0]
      ∧ win0_6.index t = ![t.val % 128, t.val / 128] ∧ t.val / 128 < 4
      ∧ k0_off1 (grid0.coords t) = ![0, 0, (15 - t.val % 16) * 256] :=
  (by decide +kernel : ∀ t : Fin grid0.N, _)

/-- The first score of key `j` for the query of row `r` in head `h`, before the bias. -/
def sc1 (A : FVec Ideal S32768x3072 .bf16) (r h j : ℕ) : ℝ :=
  lo fun d => rd A r (h * 128 + d.val) * rd A (r / 4096 * 4096 + j) (512 + h * 128 + d.val)

/-- The second score of key `j` for the query of row `r` in head `h`, before the bias. -/
def sc2 (A : FVec Ideal S32768x3072 .bf16) (r h j : ℕ) : ℝ :=
  hi fun d => rd A r (h * 128 + d.val) * rd A (r / 4096 * 4096 + j) (512 + h * 128 + d.val)

/-- The bias of key `j` for the query at row `r` in head `h`, over `log 2`. -/
def bias (r h j : ℕ) : ℝ := -(slope h * (1 / Real.log 2)) * |((r % 4096 : ℕ) : ℝ) - (j : ℝ)|

/-- The result's entry at row `r`, column `l`, before the norm. -/
def att (A : FVec Ideal S32768x3072 .bf16) (lm : ℝ) (r h : ℕ) (d : Fin 128) : ℝ :=
  (∑ j : Fin 4096, wt (fun i : Fin 4096 => Real.log 2 * (sc1 A r h i.val + bias r h i.val)) j
      * rd A (r / 4096 * 4096 + j.val) (1024 + h * 128 + d.val))
    - lm * ∑ j : Fin 4096, wt (fun i : Fin 4096 => Real.log 2 * (sc2 A r h i.val + bias r h i.val)) j
      * rd A (r / 4096 * 4096 + j.val) (1024 + h * 128 + d.val)

/-- The query block of point `t`, entry by entry. -/
theorem blk_q (c : Dev nD) (A : FVec Ideal S32768x3072 .bf16) (hm : m ((c : Thread nD τ).loc main_arg0) = A)
    (hA : ∀ i, A i = ((EReal.toReal (A i) : ℝ) : EReal)) (t : Fin cfg0.N) (r : Fin 256) (d : Fin 128) :
    (iblk m c 1 t : FVec Ideal S256x128 .bf16) (ix2 r d)
      = ((rd A (t.val % 128 * 256 + r.val) (t.val / 128 * 128 + d.val) : ℝ) : EReal) := by
  subst hm
  blk_simp [iblk]
  rw [V_main_arg0]
  refine rd_eq _ hA _ _ _ ?_ ?_ <;> blk_simp [idx t] <;> try omega

/-- The key block of point `t`, entry by entry. -/
theorem blk_k (c : Dev nD) (A : FVec Ideal S32768x3072 .bf16) (hm : m ((c : Thread nD τ).loc main_arg0) = A)
    (hA : ∀ i, A i = ((EReal.toReal (A i) : ℝ) : EReal)) (t : Fin cfg0.N) (r : Fin 4096) (d : Fin 128) :
    (iblk m c 2 t : FVec Ideal S4096x128 .bf16) (ix2 r d)
      = ((rd A (t.val / 16 % 8 * 4096 + r.val) (512 + t.val / 128 * 128 + d.val) : ℝ) : EReal) := by
  subst hm
  blk_simp [iblk]
  rw [V_main_arg0]
  refine rd_eq _ hA _ _ _ ?_ ?_ <;> blk_simp [idx t] <;> try omega

/-- The value block of point `t`, entry by entry. -/
theorem blk_v (c : Dev nD) (A : FVec Ideal S32768x3072 .bf16) (hm : m ((c : Thread nD τ).loc main_arg0) = A)
    (hA : ∀ i, A i = ((EReal.toReal (A i) : ℝ) : EReal)) (t : Fin cfg0.N) (r : Fin 4096) (d : Fin 128) :
    (iblk m c 3 t : FVec Ideal S4096x128 .bf16) (ix2 r d)
      = ((rd A (t.val / 16 % 8 * 4096 + r.val) (1024 + t.val / 128 * 128 + d.val) : ℝ) : EReal) := by
  subst hm
  blk_simp [iblk]
  rw [V_main_arg0]
  refine rd_eq _ hA _ _ _ ?_ ?_ <;> blk_simp [idx t] <;> try omega

/-- The biases' block of point `t`, read at the point's own lanes. -/
theorem blk_u (c : Dev nD) (t : Fin cfg0.N) (h) (r : Fin 256) (j : Fin 4096) :
    View.ld (iblk m c 5 t : FVec Ideal S1x256x8192 .f32) (Rect.unit (k0_off1 (grid0.coords t)) ![1, 256, 4096] h) (ix3 0 r j)
      = ((bias (t.val % 128 * 256 + r.val) (t.val / 128) j.val : ℝ) : EReal) := by
  pointwise
  blk_simp [iblk]
  have hi : ∀ (i : S4x256x8192.Idx) (a b e : ℕ) (ha : (i 0).val = a) (hb : (i 1).val = b) (he : (i 2).val = e),
      (V m c main_v34 : FVec Ideal S4x256x8192 .f32) i = ((-(slope a * (1 / Real.log 2)) * |(b : ℝ) + 3840 - e| : ℝ) : EReal) :=
    fun i a b e ha hb he => by
      subst ha hb he
      conv_lhs => rw [eq_ix3 i]
      exact table m c (i 0) (i 1) (i 2)
  refine (hi _ (t.val / 128) r.val ((15 - t.val % 16) * 256 + j.val) ?_ ?_ ?_).trans ?_
  · blk_simp [idx t]
    rfl
  · blk_simp [idx t]
  · blk_simp [idx t]
  · refine congrArg _ ?_
    unfold bias
    rw [show (t.val % 128 * 256 + r.val) % 4096 = t.val % 16 * 256 + r.val by omega]
    have h16 : t.val % 16 < 16 := Nat.mod_lt _ (by norm_num)
    rw [Nat.cast_add, Nat.cast_add, Nat.cast_mul, Nat.cast_mul, Nat.cast_sub (by omega)]
    congr 2
    push_cast
    ring

/-- The factor's block. -/
theorem blk_lam (c : Dev nD) (t : Fin cfg0.N) (h) (h') :
    View.ld (iblk m c 0 t : FVec Ideal S1 .f32) (Rect.unit ![0] ![1] h) (Shape.Idx.first h')
      = (V m c main_v12 : FVec Ideal S1 .f32) (ix1 0) := by
  pointwise
  blk_simp [iblk]
  refine congrArg _ (funext fun a => Fin.ext ?_)
  fin_cases a
  blk_simp [idx t]

/-- The gains' block. -/
theorem blk_g (c : Dev nD) (t : Fin cfg0.N) (l : Fin 128) :
    (iblk m c 4 t : FVec Ideal S1x128 .f32) (ix2 0 l) = (V m c main_v17 : FVec Ideal S1x128 .f32) (ix2 0 l) := by
  blk_simp [iblk]
  refine congrArg _ (funext fun a => Fin.ext ?_)
  fin_cases a <;> blk_simp [idx t]

/-- The result at row `r`, column `l`. -/
def res (A : FVec Ideal S32768x3072 .bf16) (lm : ℝ) (g : FVec Ideal S1x128 .f32) (r l : ℕ) : EReal :=
  norm (att A lm r (l / 128)) (g (ix2 0 ⟨l % 128, Nat.mod_lt _ (by norm_num)⟩)) ⟨l % 128, Nat.mod_lt _ (by norm_num)⟩

/-- What the body leaves at index `y` of point `t`'s block is the result at the place where `y` sits. -/
theorem point (c : Dev nD) (A : FVec Ideal S32768x3072 .bf16) (hm : m ((c : Thread nD τ).loc main_arg0) = A)
    (hA : ∀ i, A i = ((EReal.toReal (A i) : ℝ) : EReal)) (lm : ℝ)
    (hl : (V m c main_v12 : FVec Ideal S1 .f32) (ix1 0) = ((lm : ℝ) : EReal)) (g : FVec Ideal S1x128 .f32)
    (hg : m ((c : Thread nD τ).loc main_arg5) = g) (t : Fin cfg0.N) (y : S256x128.Idx) (a b : ℕ)
    (ha : a = t.val % 128 * 256 + (y 0).val) (hb : b = t.val / 128 * 128 + (y 1).val) :
    outsAt0 m c t y = res A lm g a b := by
  unfold outsAt0 out0_A_6
  frame_out
  idx_vars y
  have h0 : y0.val < 256 := y0.isLt
  have h1 : y1.val < 128 := y1.isLt
  have ea : a = t.val % 128 * 256 + y0.val := ha
  have eb : b = t.val / 128 * 128 + y1.val := hb
  have hq := blk_q m c A hm hA t
  have hk := blk_k m c A hm hA t
  have hv := blk_v m c A hm hA t
  have hu := blk_u m c t (k0_off1_inb (grid0.coords t))
  have hs := fun i => pay5 _ _ _ _ _ _ hq hk hu y0 i
  obtain ⟨M, hM⟩ := pay6 _ _ _ y0 _ hs
  rw [blk_lam, hl]
  refine (pay1 lm _ _ _ _ _ y0 y1 _ _ _ M hv (fun d => pay4 _ _ _ _ _ _ _ _ hq hk hv hu y0 d) hs hM).trans ?_
  have gb := (blk_g m c t y1).trans (gain m c y1)
  rw [hg] at gb
  rw [gb]
  unfold res
  have e1 : a / 4096 = t.val / 16 % 8 := by omega
  have e2 : b / 128 = t.val / 128 := by omega
  have e3 : (⟨b % 128, Nat.mod_lt _ (by norm_num)⟩ : Fin 128) = y1 := Fin.ext (by show b % 128 = y1.val; omega)
  rw [e2, e3]
  refine congrArg (fun f => norm f (g (ix2 0 y1)) y1) (funext fun d => ?_)
  unfold att sc1 sc2
  rw [e1, ea]

/-- The result array after the run. -/
theorem final (c : Dev nD) (A : FVec Ideal S32768x3072 .bf16) (hm : m ((c : Thread nD τ).loc main_arg0) = A)
    (hA : ∀ i, A i = ((EReal.toReal (A i) : ℝ) : EReal)) (lm : ℝ)
    (hl : (V m c main_v12 : FVec Ideal S1 .f32) (ix1 0) = ((lm : ℝ) : EReal)) (g : FVec Ideal S1x128 .f32)
    (hg : m ((c : Thread nD τ).loc main_arg5) = g) :
    (dats m 0 c).arrAt 6 (cfgs 0).N = (fun i : S32768x512.Idx => res A lm g (i 0).val (i 1).val : FVec Ideal S32768x512 .bf16) := by
  refine (dats m 0 c).arrAt_eq_of_covers 6 _ (by decide +kernel) fun t _ y => ?_
  blk_simp
  rw [after0_6]
  refine point m c A hm hA lm hl g hg t y _ _ ?_ ?_ <;> blk_simp [idx t] <;> try omega

end Cert.Diff

end
-- ==== Proof.DiffReference.lean ====
/- The differential attention's reference, read at an index. -/
module

public import proofs.«01_k».proof.Proof.DiffKernel
public import proofs.«01_k».proof.Proof.Gen.ReferenceIdeal.Read

@[expose] public section

set_option maxRecDepth 16384

noncomputable section

namespace Cert.DiffRef

open Idealize.ShloMosaic Idealize.ShloMosaic.TcCoe Idealize.SL.Sem
open Cert.ReferenceIdeal Cert.ReferenceIdeal.Gen Cert.ReferenceIdeal.Read Cert.Soft Cert.Entries
open Cert.Diff (lo hi lam sc1 sc2 bias att res lam_eq)

/-- The first 64 of 128 columns, summed by their own numbers. -/
theorem lo_eq (f : ℕ → ℝ) : lo (fun d => f d.val) = ∑ d : Fin 64, f d.val := by
  unfold lo
  refine (Fin.sum_univ_add (a := 64) (b := 64) fun d : Fin 128 => if d.val < 64 then f d.val else 0).trans ?_
  simp

/-- The last 64 of 128 columns, summed by their own numbers. -/
theorem hi_eq (f : ℕ → ℝ) : hi (fun d => f d.val) = ∑ d : Fin 64, f (64 + d.val) := by
  unfold hi
  refine (Fin.sum_univ_add (a := 64) (b := 64) fun d : Fin 128 => if 64 ≤ d.val then f d.val else 0).trans ?_
  have h : ∀ x : Fin 64, ¬ 64 ≤ x.val := fun x => by omega
  simp [h, Nat.add_comm]

/-- The slope of head `h`. -/
theorem slopes (h : Fin 4) : val_main_v28 (F := Ideal) (ix1 h) = ((Diff.slope h.val : ℝ) : EReal) := by
  pointwise [val_main_v28, val_main_v27, val_main_v26, val_main_v25, val_main_v24, val_main_cst_4, val_main_cst_5, val_main_cst_6,
    val_main_cst_7]
  unfold Diff.slope
  fin_cases h <;> simp [Ideal.ofBits, Ideal.ieee, -EReal.coe_mul] <;> norm_num

/-- A bias plus an eighth of a product over 64 columns of scaled queries with keys. -/
theorem score_real (x y : Fin 64 → ℝ) (c r : ℝ) (h : c = Real.log 2 * r) :
    (∑ d, ((x d : ℝ) : EReal) * (Ideal.ofBits .f32 0x41000000#32 * Ideal.log (Ideal.ofBits .f32 0x40000000#32)) * ((y d : ℝ) : EReal))
      * Ideal.ofBits .f32 0x3E000000#32 + ((c : ℝ) : EReal) = ((Real.log 2 * ((∑ d, x d * y d) + r) : ℝ) : EReal) := by
  have hlog : Ideal.log (Ideal.ofBits .f32 0x40000000#32) = ((Real.log 2 : ℝ) : EReal) := by
    rw [bits_two, Ideal.log_coe, if_neg (by norm_num)]
  have h8 : Ideal.ofBits .f32 0x41000000#32 = ((8 : ℝ) : EReal) := by
    simp [Ideal.ofBits, Ideal.ieee, -EReal.coe_mul]; norm_num
  have he : Ideal.ofBits .f32 0x3E000000#32 = ((1 / 8 : ℝ) : EReal) := by
    simp [Ideal.ofBits, Ideal.ieee, -EReal.coe_mul]; norm_num
  simp only [hlog, h8, he, ← EReal.coe_mul, coe_sum, ← EReal.coe_add]
  refine congrArg _ ?_
  rw [h, mul_add, Finset.sum_mul, Finset.mul_sum]
  refine congrArg₂ _ (Finset.sum_congr rfl fun d _ => ?_) rfl
  ring

/-- A number below 4096 read back from its word. -/
theorem pos (q : ℕ) (hq : q < 4096) : FloatOps.sitofp (F := Ideal) FTy.f32 (BitVec.ofNat 32 q) = ((q : ℝ) : EReal) := by
  have h1 : (BitVec.ofNat 32 q).toNat = q := by rw [BitVec.toNat_ofNat]; exact Nat.mod_eq_of_lt (by omega)
  have h2 : (BitVec.ofNat 32 q).toInt = q := by rw [BitVec.toInt_eq_toNat_of_lt (by omega), h1]
  show (((BitVec.ofNat 32 q).toInt : ℝ) : EReal) = _
  rw [h2]
  rfl

/-- The bias between positions `q` and `j` in head `h`. -/
theorem bias_at (h : Fin 4) (q j : Fin 4096) :
    val_main_v50 (F := Ideal) (ix3 h q j) = ((-Diff.slope h.val * |(q.val : ℝ) - j.val| : ℝ) : EReal) := by
  have hs := slopes h
  revert hs
  unfold val_main_v50 val_main_v49 val_main_v48 val_main_v47 val_main_v46 val_main_v45 val_main_v44 val_main_v43 val_main_v42
    val_main_v41 val_main_v40 val_main_v39
  generalize val_main_v28 (F := Ideal) = s
  intro hs
  pointwise [val_main_v38, val_main_v37]
  rw [hs, pos _ q.isLt, pos _ j.isLt, ← EReal.coe_sub]
  have ha : ∀ x : ℝ, FloatOps.absf (F := Ideal) (φ := FTy.f32) ((x : ℝ) : EReal) = ((|x| : ℝ) : EReal) := fun x => by
    show ((max x (-x) : ℝ) : EReal) = _
    rfl
  rw [ha, ← EReal.coe_neg, ← EReal.coe_mul]

/-- The bias against the kernel's, which is over `log 2`. -/
theorem bias_eq (b h q j : ℕ) (hq : q < 4096) :
    -Diff.slope h * |(q : ℝ) - j| = Real.log 2 * bias (b * 4096 + q) h j := by
  have h2 : Real.log 2 ≠ 0 := (Real.log_pos (by norm_num)).ne'
  have e : (b * 4096 + q) % 4096 = q := by omega
  unfold bias
  rw [e]
  field_simp

/-- The first score of query `q` and key `j` in batch `b` and head `h`. -/
theorem score1 (A : FVec Ideal S32768x3072 .bf16) (hA : ∀ i, A i = ((EReal.toReal (A i) : ℝ) : EReal))
    (b : Fin 8) (h : Fin 4) (q j : Fin 4096) :
    val_main_v56 (F := Ideal) A (ix4 b h q j)
      = ((Real.log 2 * (sc1 A (b.val * 4096 + q.val) h.val j.val + bias (b.val * 4096 + q.val) h.val j.val) : ℝ) : EReal) := by
  have hb := bias_at h q j
  revert hb
  unfold val_main_v56 val_main_v55 val_main_v54
  generalize val_main_v50 (F := Ideal) = B
  intro hb
  pointwise [val_main_v53, val_main_v52, val_main_v51, val_main_v34, val_main_v33, val_main_v30, val_main_v29, val_main_v9, val_main_v8,
    val_main_v7, val_main_v6, val_main_v5, val_main_v4, val_main_v3, val_main_v2, val_main_v1, val_main_v0, val_main_cst, val_main_cst_0, val_main_cst_8]
  have e1 : ∀ (d : Fin 64) (h1 : b.val * 4096 + q.val < 32768) (h2 : h.val * 128 + d.val < 3072),
      A (ix2 ⟨b.val * 4096 + q.val, h1⟩ ⟨h.val * 128 + d.val, h2⟩)
        = ((rd A (b.val * 4096 + q.val) (h.val * 128 + d.val) : ℝ) : EReal) := fun d h1 h2 =>
    rd_eq A hA _ _ _ rfl (show h.val * 128 + d.val = h.val * 128 + d.val by omega)
  have e2 : ∀ (d : Fin 64) (h1 : b.val * 4096 + j.val < 32768) (h2 : 512 + (h.val * 128 + d.val) < 3072),
      A (ix2 ⟨b.val * 4096 + j.val, h1⟩ ⟨512 + (h.val * 128 + d.val), h2⟩)
        = ((rd A (b.val * 4096 + j.val) (512 + h.val * 128 + d.val) : ℝ) : EReal) := fun d h1 h2 =>
    rd_eq A hA _ _ _ rfl (show 512 + (h.val * 128 + d.val) = 512 + h.val * 128 + d.val by omega)
  simp only [e1, e2, hb]
  have hr : (b.val * 4096 + q.val) / 4096 = b.val := by have := q.isLt; omega
  unfold sc1
  rw [hr, lo_eq fun d => rd A (b.val * 4096 + q.val) (h.val * 128 + d) * rd A (b.val * 4096 + j.val) (512 + h.val * 128 + d)]
  exact score_real _ _ _ _ (bias_eq b.val h.val q.val j.val q.isLt)

/-- The second score of query `q` and key `j` in batch `b` and head `h`. -/
theorem score2 (A : FVec Ideal S32768x3072 .bf16) (hA : ∀ i, A i = ((EReal.toReal (A i) : ℝ) : EReal))
    (b : Fin 8) (h : Fin 4) (q j : Fin 4096) :
    val_main_v62 (F := Ideal) A (ix4 b h q j)
      = ((Real.log 2 * (sc2 A (b.val * 4096 + q.val) h.val j.val + bias (b.val * 4096 + q.val) h.val j.val) : ℝ) : EReal) := by
  have hb := bias_at h q j
  revert hb
  unfold val_main_v62 val_main_v61 val_main_v60
  generalize val_main_v50 (F := Ideal) = B
  intro hb
  pointwise [val_main_v59, val_main_v58, val_main_v57, val_main_v36, val_main_v35, val_main_v32, val_main_v31, val_main_v9, val_main_v8,
    val_main_v7, val_main_v6, val_main_v5, val_main_v4, val_main_v3, val_main_v2, val_main_v1, val_main_v0, val_main_cst, val_main_cst_0, val_main_cst_9]
  have e1 : ∀ (d : Fin 64) (h1 : b.val * 4096 + q.val < 32768) (h2 : h.val * 128 + 64 + d.val < 3072),
      A (ix2 ⟨b.val * 4096 + q.val, h1⟩ ⟨h.val * 128 + 64 + d.val, h2⟩)
        = ((rd A (b.val * 4096 + q.val) (h.val * 128 + (64 + d.val)) : ℝ) : EReal) := fun d h1 h2 =>
    rd_eq A hA _ _ _ rfl (show h.val * 128 + 64 + d.val = h.val * 128 + (64 + d.val) by omega)
  have e2 : ∀ (d : Fin 64) (h1 : b.val * 4096 + j.val < 32768) (h2 : 512 + (h.val * 128 + 64 + d.val) < 3072),
      A (ix2 ⟨b.val * 4096 + j.val, h1⟩ ⟨512 + (h.val * 128 + 64 + d.val), h2⟩)
        = ((rd A (b.val * 4096 + j.val) (512 + h.val * 128 + (64 + d.val)) : ℝ) : EReal) := fun d h1 h2 =>
    rd_eq A hA _ _ _ rfl (show 512 + (h.val * 128 + 64 + d.val) = 512 + h.val * 128 + (64 + d.val) by omega)
  simp only [e1, e2, hb]
  have hr : (b.val * 4096 + q.val) / 4096 = b.val := by have := q.isLt; omega
  unfold sc2
  rw [hr, hi_eq fun d => rd A (b.val * 4096 + q.val) (h.val * 128 + d) * rd A (b.val * 4096 + j.val) (512 + h.val * 128 + d)]
  exact score_real _ _ _ _ (bias_eq b.val h.val q.val j.val q.isLt)

/-- The greatest of a row, read at an index. -/
theorem row_max (s : FVec Ideal S8x4x4096x4096 .f32) (z : FVec Ideal S_ .f32) (b : Fin 8) (h : Fin 4) (q : Fin 4096) :
    Host.reduce FloatOps.maximumf s z reducesTo_S8x4x4096x4096_S8x4x4096_d3 h_S_ (ix3 b h q)
      = Finset.univ.fold max (z (Shape.Idx.first h_S_)) fun k : Fin 4096 => s (ix4 b h q k) := by
  pointwise

/-- The shift of a row of real scores of the first kind is a real. -/
theorem shift1 (A : FVec Ideal S32768x3072 .bf16) (b : Fin 8) (h : Fin 4) (q : Fin 4096) (S : Fin 4096 → ℝ)
    (hS : ∀ j, val_main_v56 (F := Ideal) A (ix4 b h q j) = ((S j : ℝ) : EReal)) :
    ∃ M : ℝ, val_main_v65 (F := Ideal) A (ix3 b h q) = (M : EReal) := by
  obtain ⟨M, hM⟩ := fold_max_real Finset.univ Finset.univ_nonempty S
  refine ⟨M, ?_⟩
  rw [val_main_v65_apply, val_main_v64_apply]
  unfold val_main_v63
  rw [row_max]
  simp only [hS]
  show max (Ideal.ofBits .f32 0xFF800000#32) (Finset.univ.fold max (Ideal.ofBits .f32 0xFF800000#32) _) = _
  rw [bits_bot, hM, max_bot_left]

/-- The first softmax at query `q`, key `j`: the softmax weight of the scores. -/
theorem weight1 (A : FVec Ideal S32768x3072 .bf16) (hA : ∀ i, A i = ((EReal.toReal (A i) : ℝ) : EReal))
    (b : Fin 8) (h : Fin 4) (q j : Fin 4096) :
    val_main_v73 (F := Ideal) A (ix4 b h q j)
      = ((wt (fun i : Fin 4096 => Real.log 2 * (sc1 A (b.val * 4096 + q.val) h.val i.val + bias (b.val * 4096 + q.val) h.val i.val)) j : ℝ) : EReal) := by
  have hs := score1 A hA b h q
  obtain ⟨M, hM⟩ := shift1 A b h q _ hs
  revert hs hM
  unfold val_main_v73 val_main_v72 val_main_v71 val_main_v70 val_main_v69 val_main_v68 val_main_v67 val_main_v66
  generalize val_main_v56 (F := Ideal) A = s
  generalize val_main_v65 (F := Ideal) A = s'
  intro hs hM
  pointwise [val_main_cst_12]
  simp only [hs, hM]
  exact wt_exp _ M j

/-- The shift of a row of real scores of the second kind is a real. -/
theorem shift2 (A : FVec Ideal S32768x3072 .bf16) (b : Fin 8) (h : Fin 4) (q : Fin 4096) (S : Fin 4096 → ℝ)
    (hS : ∀ j, val_main_v62 (F := Ideal) A (ix4 b h q j) = ((S j : ℝ) : EReal)) :
    ∃ M : ℝ, val_main_v76 (F := Ideal) A (ix3 b h q) = (M : EReal) := by
  obtain ⟨M, hM⟩ := fold_max_real Finset.univ Finset.univ_nonempty S
  refine ⟨M, ?_⟩
  rw [val_main_v76_apply, val_main_v75_apply]
  unfold val_main_v74
  rw [row_max]
  simp only [hS]
  show max (Ideal.ofBits .f32 0xFF800000#32) (Finset.univ.fold max (Ideal.ofBits .f32 0xFF800000#32) _) = _
  rw [bits_bot, hM, max_bot_left]

/-- The second softmax at query `q`, key `j`: the softmax weight of the scores. -/
theorem weight2 (A : FVec Ideal S32768x3072 .bf16) (hA : ∀ i, A i = ((EReal.toReal (A i) : ℝ) : EReal))
    (b : Fin 8) (h : Fin 4) (q j : Fin 4096) :
    val_main_v84 (F := Ideal) A (ix4 b h q j)
      = ((wt (fun i : Fin 4096 => Real.log 2 * (sc2 A (b.val * 4096 + q.val) h.val i.val + bias (b.val * 4096 + q.val) h.val i.val)) j : ℝ) : EReal) := by
  have hs := score2 A hA b h q
  obtain ⟨M, hM⟩ := shift2 A b h q _ hs
  revert hs hM
  unfold val_main_v84 val_main_v83 val_main_v82 val_main_v81 val_main_v80 val_main_v79 val_main_v78 val_main_v77
  generalize val_main_v62 (F := Ideal) A = s
  generalize val_main_v76 (F := Ideal) A = s'
  intro hs hM
  pointwise [val_main_cst_15]
  simp only [hs, hM]
  exact wt_exp _ M j

/-- The factor of the second softmax. -/
theorem factor (a1 a2 a3 a4 : FVec Ideal S1x64 .f32)
    (h1 : ∀ i, a1 i = ((EReal.toReal (a1 i) : ℝ) : EReal)) (h2 : ∀ i, a2 i = ((EReal.toReal (a2 i) : ℝ) : EReal))
    (h3 : ∀ i, a3 i = ((EReal.toReal (a3 i) : ℝ) : EReal)) (h4 : ∀ i, a4 i = ((EReal.toReal (a4 i) : ℝ) : EReal)) (i : S_.Idx) :
    val_main_v23 (F := Ideal) a1 a2 a3 a4 i = ((lam a1 a2 a3 a4 : ℝ) : EReal) := by
  have hl := lam_eq a1 a2 a3 a4 h1 h2 h3 h4
  pointwise [val_main_v23, val_main_v22, val_main_v21, val_main_v20, val_main_v19, val_main_v18, val_main_v17, val_main_v16, val_main_v15,
    val_main_v14, val_main_v13, val_main_v12, val_main_cst_1, val_main_cst_2, val_main_cst_3]
  exact hl

/-- The difference of the two softmaxes applied to the values, before the norm. -/
theorem mixed (A : FVec Ideal S32768x3072 .bf16) (hA : ∀ i, A i = ((EReal.toReal (A i) : ℝ) : EReal)) (a1 a2 a3 a4 : FVec Ideal S1x64 .f32)
    (h1 : ∀ i, a1 i = ((EReal.toReal (a1 i) : ℝ) : EReal)) (h2 : ∀ i, a2 i = ((EReal.toReal (a2 i) : ℝ) : EReal))
    (h3 : ∀ i, a3 i = ((EReal.toReal (a3 i) : ℝ) : EReal)) (h4 : ∀ i, a4 i = ((EReal.toReal (a4 i) : ℝ) : EReal))
    (b : Fin 8) (q : Fin 4096) (h : Fin 4) (d : Fin 128) :
    val_main_v89 (F := Ideal) A a1 a2 a3 a4 (ix4 b q h d) = ((att A (lam a1 a2 a3 a4) (b.val * 4096 + q.val) h.val d : ℝ) : EReal) := by
  have hw1 := weight1 A hA b h q
  have hw2 := weight2 A hA b h q
  have hf := factor a1 a2 a3 a4 h1 h2 h3 h4
  revert hw1 hw2 hf
  unfold val_main_v89 val_main_v88 val_main_v87 val_main_v86 val_main_v85
  generalize val_main_v73 (F := Ideal) A = s
  generalize val_main_v84 (F := Ideal) A = s'
  generalize val_main_v23 (F := Ideal) a1 a2 a3 a4 = f
  intro hw1 hw2 hf
  pointwise [val_main_v11, val_main_v10, val_main_v1, val_main_v0]
  have hv : ∀ (x : Fin 4096) (i0 : b.val * 4096 + x.val < 32768) (i1 : 1024 + (h.val * 128 + d.val) < 3072),
      A (ix2 ⟨b.val * 4096 + x.val, i0⟩ ⟨1024 + (h.val * 128 + d.val), i1⟩)
        = ((rd A (b.val * 4096 + x.val) (1024 + h.val * 128 + d.val) : ℝ) : EReal) := fun x i0 i1 =>
    rd_eq A hA _ _ _ rfl (Nat.add_assoc ..).symm
  simp only [hv, hw1, hw2, hf, ← EReal.coe_mul, ← EReal.coe_sub, coe_sum]
  refine congrArg _ ?_
  have hr : (b.val * 4096 + q.val) / 4096 = b.val := by have := q.isLt; omega
  unfold att
  rw [hr, Finset.mul_sum, ← Finset.sum_sub_distrib]
  refine Finset.sum_congr rfl fun j _ => ?_
  ring

/-- The reference's result at row `r`, column `l`. -/
theorem result (A : FVec Ideal S32768x3072 .bf16) (hA : ∀ i, A i = ((EReal.toReal (A i) : ℝ) : EReal)) (a1 a2 a3 a4 : FVec Ideal S1x64 .f32)
    (h1 : ∀ i, a1 i = ((EReal.toReal (a1 i) : ℝ) : EReal)) (h2 : ∀ i, a2 i = ((EReal.toReal (a2 i) : ℝ) : EReal))
    (h3 : ∀ i, a3 i = ((EReal.toReal (a3 i) : ℝ) : EReal)) (h4 : ∀ i, a4 i = ((EReal.toReal (a4 i) : ℝ) : EReal))
    (g : FVec Ideal S1x128 .f32) (r : Fin 32768) (l : Fin 512) :
    val_main_v107 (F := Ideal) A a1 a2 a3 a4 g (ix2 r l) = res A (lam a1 a2 a3 a4) g r.val l.val := by
  have hm := mixed A hA a1 a2 a3 a4 h1 h2 h3 h4 ⟨r.val / 4096, by omega⟩ ⟨r.val % 4096, by omega⟩ ⟨l.val / 128, by omega⟩
  revert hm
  unfold val_main_v107 val_main_v106 val_main_v105 val_main_v103 val_main_v100 val_main_v99 val_main_v98 val_main_v97 val_main_v95 val_main_v93
    val_main_v92 val_main_v91
  generalize val_main_v89 (F := Ideal) A a1 a2 a3 a4 = o
  intro hm
  pointwise [val_main_v104, val_main_v102, val_main_v101, val_main_v96, val_main_v94, val_main_v90, val_main_cst_16, val_main_cst_17,
    val_main_cst_18, val_main_cst_19]
  simp only [hm]
  have e : r.val / 4096 * 4096 + r.val % 4096 = r.val := by omega
  unfold res Diff.norm
  simp only [e]

end Cert.DiffRef

end
-- ==== Proof.DiffClaim.lean ====
/- The differential attention's value claim: the call and the reference end with the same result. -/
module

public import proofs.«01_k».proof.Defs
public import proofs.«01_k».proof.Proof.Gen.Kernel
public import proofs.«01_k».proof.Proof.Gen.Pre_finite
public import proofs.«01_k».proof.Proof.DiffReference
public import Idealize.ShloMosaic.Lib.Claim

@[expose] public section

set_option maxRecDepth 16384

noncomputable section

namespace Cert.DiffClaim

open Idealize.ShloMosaic Idealize.ShloMosaic.TcCoe Idealize.SL.Sem Cert.Soft

/-- What the precondition says: every entry of the first five arguments is a real. -/
theorem pre_real (A : FVec Ideal Cert.Pre_finite.S32768x3072 .bf16) (a1 a2 a3 a4 : FVec Ideal Cert.Pre_finite.S1x64 .f32)
    (g : FVec Ideal Cert.Pre_finite.S1x128 .f32)
    (h0 : (Cert.Pre_finite.fn (F := Ideal) A a1 a2 a3 a4 g).1 = fun _ => 1#1)
    (h1 : (Cert.Pre_finite.fn (F := Ideal) A a1 a2 a3 a4 g).2.1 = fun _ => 1#1)
    (h2 : (Cert.Pre_finite.fn (F := Ideal) A a1 a2 a3 a4 g).2.2.1 = fun _ => 1#1)
    (h3 : (Cert.Pre_finite.fn (F := Ideal) A a1 a2 a3 a4 g).2.2.2.1 = fun _ => 1#1)
    (h4 : (Cert.Pre_finite.fn (F := Ideal) A a1 a2 a3 a4 g).2.2.2.2 = fun _ => 1#1) :
    (∀ i, A i = ((EReal.toReal (A i) : ℝ) : EReal)) ∧ (∀ i, a1 i = ((EReal.toReal (a1 i) : ℝ) : EReal))
      ∧ (∀ i, a2 i = ((EReal.toReal (a2 i) : ℝ) : EReal)) ∧ (∀ i, a3 i = ((EReal.toReal (a3 i) : ℝ) : EReal))
      ∧ (∀ i, a4 i = ((EReal.toReal (a4 i) : ℝ) : EReal)) := by
  refine ⟨fun i => ?_, fun i => ?_, fun i => ?_, fun i => ?_, fun i => ?_⟩
  · have hi := congrFun h0 i
    pointwise [Cert.Pre_finite.fn] at hi
    refine real_of_abs_lt _ ?_
    rw [← bits_top]
    exact of_bit _ hi
  · have hi := congrFun h1 i
    pointwise [Cert.Pre_finite.fn] at hi
    refine real_of_abs_lt _ ?_
    rw [← bits_top]
    exact of_bit _ hi
  · have hi := congrFun h2 i
    pointwise [Cert.Pre_finite.fn] at hi
    refine real_of_abs_lt _ ?_
    rw [← bits_top]
    exact of_bit _ hi
  · have hi := congrFun h3 i
    pointwise [Cert.Pre_finite.fn] at hi
    refine real_of_abs_lt _ ?_
    rw [← bits_top]
    exact of_bit _ hi
  · have hi := congrFun h4 i
    pointwise [Cert.Pre_finite.fn] at hi
    refine real_of_abs_lt _ ?_
    rw [← bits_top]
    exact of_bit _ hi

/-- The value claim of the differential attention call. -/
theorem algebraic : Cert.algebraic_KernelIdeal_ReferenceIdeal_pre_finite := by
  pair_intro
  · run_from Cert.KernelIdeal.Gen.run_main m g
  · run_from Cert.ReferenceIdeal.Value.run m' g'
    obtain ⟨p0, p1, p2, p3, p4⟩ := hpre c
    obtain ⟨r0, r1, r2, r3, r4⟩ := pre_real _ _ _ _ _ _ p0 p1 p2 p3 p4
    obtain ⟨e0, e1, e2, e3, e4, e5⟩ := hagree c
    rw [Cert.Diff.final m c _ rfl r0 _ ((Cert.Diff.mix m c _ _ _ _ rfl rfl rfl rfl).trans (Cert.Diff.lam_eq _ _ _ _ r1 r2 r3 r4)) _ rfl,
      Cert.ReferenceIdeal.Read.val_main_v107_eq, e0, e1, e2, e3, e4, e5]
    funext i
    rw [show i = ix2 (i 0) (i 1) from by funext a; fin_cases a <;> rfl]
    exact (Cert.DiffRef.result _ r0 _ _ _ _ r1 r2 r3 r4 _ (i 0) (i 1))

/-- The frame of the reference. -/
theorem frame_reference : Cert.quiescent_ReferenceIdeal := by
  intro m g _
  exact (θ_run Cert.ReferenceIdeal.defs _ _).mono
    (fun r h => ⟨fun c => (h c).2, sem_eq_zero_of_no_sems (by decide) r.2⟩) (Cert.ReferenceIdeal.Value.run (F := Ideal) m g)

end Cert.DiffClaim

end
-- ==== Proof.MlaKernel.lean ====
/- The MLA attention call: what a block stores, and the array after the run. -/
module

public import proofs.«01_k».proof.Proof.Soft
public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Mla

open Idealize.ShloMosaic Idealize.ShloMosaic.TcCoe Idealize.SL.Sem
open Idealize.ShloMosaic.Pipeline (Dat)
open Cert.Kernel2Ideal Cert.Kernel2Ideal.Gen Cert.Soft

/-- One row group's stored value at row `r`, column `l`: the softmax of `log 2` times the row's products with the
    keys, applied to the values' column. -/
theorem pay (k v : FVec Ideal S4096x128 .bf16) (q : FVec Ideal S256x128 .bf16)
    (K V : Fin 4096 → Fin 128 → ℝ) (Q : Fin 256 → Fin 128 → ℝ)
    (hk : ∀ j d, k (ix2 j d) = ((K j d : ℝ) : EReal)) (hv : ∀ j d, v (ix2 j d) = ((V j d : ℝ) : EReal))
    (hq : ∀ r d, q (ix2 r d) = ((Q r d : ℝ) : EReal)) (r : Fin 256) (l : Fin 128) :
    k0_pay1 (F := Ideal) k v q (ix2 r l)
      = ((∑ j, wt (fun i => Real.log 2 * ∑ d, Q r d * K i d) j * V j l : ℝ) : EReal) := by
  have hs : ∀ i, (∑ d, q (ix2 r d) * k (ix2 i d) : EReal) = ((∑ d, Q r d * K i d : ℝ) : EReal) := fun i =>
    coe_dot _ _ _ _ (hq r) (hk i)
  obtain ⟨M, hM⟩ := fold_max_real Finset.univ Finset.univ_nonempty fun i => ∑ d, Q r d * K i d
  pointwise [k0_pay1]
  simp only [hs, bits_bot, hM, hv]
  exact apply_exp2 _ _ M

/-- The second row group's value is the first's. -/
theorem pay_eq (k v : FVec Ideal S4096x128 .bf16) (q : FVec Ideal S256x128 .bf16) :
    k0_pay2 (F := Ideal) k v q = k0_pay1 (F := Ideal) k v q := rfl

/-- The entry at row `a`, column `b` of the argument, as a real; zero outside. -/
def rd (A : FVec Ideal S32768x3072 .bf16) (a b : ℕ) : ℝ :=
  if h : a < 32768 ∧ b < 3072 then EReal.toReal (A (ix2 ⟨a, h.1⟩ ⟨b, h.2⟩)) else 0

/-- An argument of reals is its entries. -/
theorem rd_eq (A : FVec Ideal S32768x3072 .bf16) (hA : ∀ i, A i = ((EReal.toReal (A i) : ℝ) : EReal))
    (i : S32768x3072.Idx) (a b : ℕ) (ha : (i 0).val = a) (hb : (i 1).val = b) : A i = ((rd A a b : ℝ) : EReal) := by
  subst ha hb
  have h : (i 0).val < 32768 ∧ (i 1).val < 3072 := ⟨(i 0).isLt, (i 1).isLt⟩
  unfold rd
  rw [dif_pos h, hA i]
  conv_lhs => rw [eq_ix2 i]
  rfl

/-- The score of key `j` for the query of row `r` in head `h`, before the scale: the products of their 128 columns. -/
def sc (A : FVec Ideal S32768x3072 .bf16) (r h j : ℕ) : ℝ :=
  ∑ d : Fin 128, rd A r (1536 + h * 128 + d.val) * rd A (r / 4096 * 4096 + j) (2048 + h * 128 + d.val)

/-- The attention at row `r`, column `l` of the result: the softmax of `log 2` times the scores of the row's own
    4096 keys, applied to the head's values. -/
def att (A : FVec Ideal S32768x3072 .bf16) (r l : ℕ) : ℝ :=
  ∑ j : Fin 4096, wt (fun i : Fin 4096 => Real.log 2 * sc A r (l / 128) i.val) j
    * rd A (r / 4096 * 4096 + j.val) (2560 + l)

variable (m : (ℓ : Loc nD τ sig) → Buf (Elt Ideal) ℓ)

/-- The windows' block indices in the point's position. -/
theorem idx : ∀ t : Fin cfg0.N, win0_0.index t = ![t.val / 32 * 8 + t.val % 8, 12 + t.val / 8 % 4]
      ∧ win0_1.index t = ![t.val / 32, 16 + t.val / 8 % 4]
      ∧ win0_2.index t = ![t.val / 32, 20 + t.val / 8 % 4]
      ∧ win0_3.index t = ![t.val / 32 * 8 + t.val % 8, t.val / 8 % 4] ∧ t.val / 32 < 8 :=
  (by decide +kernel : ∀ t : Fin grid0.N, _)

/-- The query block of point `t`, entry by entry. -/
theorem blk_q (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal))
    (t : Fin cfg0.N) (y : S512x128.Idx) : (iblk m c 0 t : FVec Ideal S512x128 .bf16) y
      = ((rd (m ((c : Thread nD τ).loc main_arg0)) ((t.val / 32 * 8 + t.val % 8) * 512 + (y 0).val)
          (1536 + t.val / 8 % 4 * 128 + (y 1).val) : ℝ) : EReal) := by
  blk_simp [iblk, V]
  refine rd_eq _ hA _ _ _ ?_ ?_ <;> blk_simp [idx t] <;> try omega

/-- The key block of point `t`, entry by entry. -/
theorem blk_k (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal))
    (t : Fin cfg0.N) (y : S4096x128.Idx) : (iblk m c 1 t : FVec Ideal S4096x128 .bf16) y
      = ((rd (m ((c : Thread nD τ).loc main_arg0)) (t.val / 32 * 4096 + (y 0).val)
          (2048 + t.val / 8 % 4 * 128 + (y 1).val) : ℝ) : EReal) := by
  blk_simp [iblk, V]
  refine rd_eq _ hA _ _ _ ?_ ?_ <;> blk_simp [idx t] <;> try omega

/-- The value block of point `t`, entry by entry. -/
theorem blk_v (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal))
    (t : Fin cfg0.N) (y : S4096x128.Idx) : (iblk m c 2 t : FVec Ideal S4096x128 .bf16) y
      = ((rd (m ((c : Thread nD τ).loc main_arg0)) (t.val / 32 * 4096 + (y 0).val)
          (2560 + t.val / 8 % 4 * 128 + (y 1).val) : ℝ) : EReal) := by
  blk_simp [iblk, V]
  refine rd_eq _ hA _ _ _ ?_ ?_ <;> blk_simp [idx t] <;> try omega

/-- A row group's stored value at index `x`, the group starting at row `o` of point `t`'s block. -/
theorem group (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal))
    (t : Fin cfg0.N) (o : ℕ) (ho : o ≤ 256) (q : FVec Ideal S256x128 .bf16)
    (hq : ∀ r d, q (ix2 r d) = ((rd (m ((c : Thread nD τ).loc main_arg0)) ((t.val / 32 * 8 + t.val % 8) * 512 + (o + r.val))
          (1536 + t.val / 8 % 4 * 128 + d.val) : ℝ) : EReal)) (x : S256x128.Idx) (a b : ℕ)
    (ha : a = (t.val / 32 * 8 + t.val % 8) * 512 + (o + (x 0).val)) (hb : b = t.val / 8 % 4 * 128 + (x 1).val) :
    k0_pay1 (F := Ideal) (iblk m c 1 t) (iblk m c 2 t) q x = ((att (m ((c : Thread nD τ).loc main_arg0)) a b : ℝ) : EReal) := by
  idx_vars x
  have h0 : x0.val < 256 := x0.isLt
  have h1 : x1.val < 128 := x1.isLt
  refine (pay _ _ q _ _ _ (fun j d => blk_k m c hA t (ix2 j d)) (fun j d => blk_v m c hA t (ix2 j d)) hq x0 x1).trans ?_
  refine congrArg _ ?_
  unfold att sc
  have e1 : a = (t.val / 32 * 8 + t.val % 8) * 512 + (o + x0.val) := ha
  have e2 : b = t.val / 8 % 4 * 128 + x1.val := hb
  have e3 : a / 4096 = t.val / 32 := by omega
  have e4 : b / 128 = t.val / 8 % 4 := by omega
  rw [e3, e4, e1, e2]
  simp only [ix2_0, ix2_1, Nat.add_assoc]

/-- What the body leaves at index `y` of point `t`'s block is the attention at the place where `y` sits. -/
theorem point (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal))
    (t : Fin cfg0.N) (y : S512x128.Idx) (a b : ℕ) (ha : a = (t.val / 32 * 8 + t.val % 8) * 512 + (y 0).val)
    (hb : b = t.val / 8 % 4 * 128 + (y 1).val) :
    out0_3 (iblk m c 0 t) (iblk m c 1 t) (iblk m c 2 t) y
      = ((att (m ((c : Thread nD τ).loc main_arg0)) a b : ℝ) : EReal) := by
  frame_out
  canon_tiles x h
  · rw [pay_eq]
    refine group m c hA t 256 le_rfl _ (fun r d => ?_) x a b ?_ ?_
    · pointwise
      exact (blk_q m c hA t _).trans rfl
    · omega
    · omega
  · refine group m c hA t 0 (by omega) _ (fun r d => ?_) x a b ?_ ?_
    · pointwise
      exact (blk_q m c hA t _).trans (by simp only [ix2_0, ix2_1, Nat.zero_add])
    · omega
    · omega

/-- The result array after the run. -/
theorem final (c : Dev nD) (hA : ∀ i : S32768x3072.Idx, (m ((c : Thread nD τ).loc main_arg0) : FVec Ideal S32768x3072 .bf16) i
      = ((EReal.toReal ((m ((c : Thread nD τ).loc main_arg0) : FVec Ideal S32768x3072 .bf16) i) : ℝ) : EReal)) :
    (dats m 0 c).arrAt 3 (cfgs 0).N = (fun i : S32768x512.Idx =>
      ((att (m ((c : Thread nD τ).loc main_arg0)) (i 0).val (i 1).val : ℝ) : EReal) : FVec Ideal S32768x512 .bf16) := by
  refine (dats m 0 c).arrAt_eq_of_covers 3 _ (by decide +kernel) fun t _ y => ?_
  blk_simp
  rw [after0_3]
  refine point m c hA t y _ _ ?_ ?_ <;> blk_simp [idx t] <;> try omega

end Cert.Mla

end
-- ==== Proof.MlaReference.lean ====
/- The MLA attention's reference, read at an index. -/
module

public import proofs.«01_k».proof.Proof.MlaKernel
public import proofs.«01_k».proof.Proof.Gen.Reference2Ideal.Read

@[expose] public section

set_option maxRecDepth 16384

noncomputable section

namespace Cert.MlaRef

open Idealize.ShloMosaic Idealize.ShloMosaic.TcCoe Idealize.SL.Sem
open Cert.Reference2Ideal Cert.Reference2Ideal.Gen Cert.Reference2Ideal.Read Cert.Soft Cert.Mla

/-- The score of query `q` and key `j` in batch `b` and head `h` after the scale. -/
theorem score (A : FVec Ideal S32768x3072 .bf16) (hA : ∀ i, A i = ((EReal.toReal (A i) : ℝ) : EReal))
    (hz : ∀ a h d : ℕ, a < 32768 → h < 4 → d < 32 → rd A a (2048 + h * 128 + 96 + d) = 0)
    (b : Fin 8) (h : Fin 4) (q j : Fin 4096) :
    val_main_v23 (F := Ideal) A (ix4 b h q j) = ((Real.log 2 * sc A (b.val * 4096 + q.val) h.val j.val : ℝ) : EReal) := by
  pointwise [val_main_v23, val_main_v22, val_main_v21, val_main_v20, val_main_v19, val_main_v18, val_main_v17, val_main_v16,
    val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, val_main_cst_2]
  have hlog : Ideal.log (Ideal.ofBits .f32 0x40000000#32) = ((Real.log 2 : ℝ) : EReal) := by
    rw [bits_two, Ideal.log_coe, if_neg (by norm_num)]
  have hsq : Ideal.sqrt (Ideal.ofBits .f32 0x42C00000#32) = ((Real.sqrt 96 : ℝ) : EReal) := by
    rw [bits_96, Ideal.sqrt_coe, if_neg (by norm_num)]
  have h96 : Real.sqrt 96 ≠ 0 := (Real.sqrt_pos.2 (by norm_num)).ne'
  have e1 : ∀ (d : ℕ) (hd : d < 128) (h1 : b.val * 4096 + q.val < 32768) (h2 : 1536 + (h.val * 128 + d) < 3072),
      A (ix2 ⟨b.val * 4096 + q.val, h1⟩ ⟨1536 + (h.val * 128 + d), h2⟩)
        = ((rd A (b.val * 4096 + q.val) (1536 + h.val * 128 + d) : ℝ) : EReal) := fun d hd h1 h2 =>
    rd_eq A hA _ _ _ rfl (Nat.add_assoc ..).symm
  have e2 : ∀ (d : ℕ) (hd : d < 128) (h1 : b.val * 4096 + j.val < 32768) (h2 : 2048 + (h.val * 128 + d) < 3072),
      A (ix2 ⟨b.val * 4096 + j.val, h1⟩ ⟨2048 + (h.val * 128 + d), h2⟩)
        = ((rd A (b.val * 4096 + j.val) (2048 + h.val * 128 + d) : ℝ) : EReal) := fun d hd h1 h2 =>
    rd_eq A hA _ _ _ rfl (Nat.add_assoc ..).symm
  have g1 : ∀ x : Fin 64, x.val < 128 := fun x => by omega
  have g2 : ∀ x : Fin 32, 64 + x.val < 128 := fun x => by omega
  simp only [hlog, hsq, e1 _ (g1 _), e2 _ (g1 _), e1 _ (g2 _), e2 _ (g2 _), ← EReal.coe_mul, coe_sum, ← EReal.coe_add]
  rw [Ideal.div_coe h96, one_mul, ← EReal.coe_mul]
  refine congrArg _ ?_
  have hb : (b.val * 4096 + q.val) / 4096 = b.val := by have := q.isLt; omega
  unfold sc
  rw [hb]
  have split : ∀ f : ℕ → ℝ, ∑ d : Fin 128, f d.val
      = (∑ d : Fin 64, f d.val + ∑ d : Fin 32, f (64 + d.val)) + ∑ d : Fin 32, f (96 + d.val) := fun f => by
    have h1 := Fin.sum_univ_add (a := 96) (b := 32) fun i => f i.val
    have h2 := Fin.sum_univ_add (a := 64) (b := 32) fun i => f i.val
    simp only [Fin.val_castAdd, Fin.val_natAdd] at h1 h2
    rw [← h2]
    exact h1
  rw [split fun d => rd A (b.val * 4096 + q.val) (1536 + h.val * 128 + d) * rd A (b.val * 4096 + j.val) (2048 + h.val * 128 + d)]
  have hz' : ∀ d : Fin 32, rd A (b.val * 4096 + j.val) (2048 + h.val * 128 + (96 + d.val)) = 0 := fun d => by
    rw [← Nat.add_assoc]
    exact hz _ _ _ (by omega) h.isLt d.isLt
  simp only [hz', mul_zero, Finset.sum_const_zero, add_zero]
  rw [add_mul, mul_add, Finset.sum_mul, Finset.sum_mul, Finset.mul_sum, Finset.mul_sum]
  refine congrArg₂ _ (Finset.sum_congr rfl fun d _ => ?_) (Finset.sum_congr rfl fun d _ => ?_) <;> field_simp

/-- The greatest of a row, read at an index. -/
theorem row_max (s : FVec Ideal S8x4x4096x4096 .f32) (z : FVec Ideal S_ .f32) (b : Fin 8) (h : Fin 4) (q : Fin 4096) :
    Host.reduce FloatOps.maximumf s z reducesTo_S8x4x4096x4096_S8x4x4096_d3 h_S_ (ix3 b h q)
      = Finset.univ.fold max (z (Shape.Idx.first h_S_)) fun k : Fin 4096 => s (ix4 b h q k) := by
  pointwise

/-- The shift of a row of real scores is a real. -/
theorem shift (A : FVec Ideal S32768x3072 .bf16) (b : Fin 8) (h : Fin 4) (q : Fin 4096) (S : Fin 4096 → ℝ)
    (hS : ∀ j, val_main_v23 (F := Ideal) A (ix4 b h q j) = ((S j : ℝ) : EReal)) :
    ∃ M : ℝ, val_main_v26 (F := Ideal) A (ix3 b h q) = (M : EReal) := by
  obtain ⟨M, hM⟩ := fold_max_real Finset.univ Finset.univ_nonempty S
  refine ⟨M, ?_⟩
  rw [val_main_v26_apply, val_main_v25_apply]
  unfold val_main_v24
  rw [row_max]
  simp only [hS]
  show max (Ideal.ofBits .f32 0xFF800000#32) (Finset.univ.fold max (Ideal.ofBits .f32 0xFF800000#32) _) = _
  rw [bits_bot, hM, max_bot_left]

/-- The reference's softmax at query `q`, key `j`: the softmax weight of the scores. -/
theorem weight (A : FVec Ideal S32768x3072 .bf16) (hA : ∀ i, A i = ((EReal.toReal (A i) : ℝ) : EReal))
    (hz : ∀ a h d : ℕ, a < 32768 → h < 4 → d < 32 → rd A a (2048 + h * 128 + 96 + d) = 0)
    (b : Fin 8) (h : Fin 4) (q j : Fin 4096) :
    val_main_v34 (F := Ideal) A (ix4 b h q j)
      = ((wt (fun i : Fin 4096 => Real.log 2 * sc A (b.val * 4096 + q.val) h.val i.val) j : ℝ) : EReal) := by
  have hs := score A hA hz b h q
  obtain ⟨M, hM⟩ := shift A b h q _ hs
  revert hs hM
  unfold val_main_v34 val_main_v33 val_main_v32 val_main_v31 val_main_v30 val_main_v29 val_main_v28 val_main_v27
  generalize val_main_v23 (F := Ideal) A = s
  generalize val_main_v26 (F := Ideal) A = s'
  intro hs hM
  pointwise [val_main_cst_5]
  simp only [hs, hM]
  exact wt_exp _ M j

/-- The reference's result at row `r`, column `l` is the attention there. -/
theorem result (A : FVec Ideal S32768x3072 .bf16) (hA : ∀ i, A i = ((EReal.toReal (A i) : ℝ) : EReal))
    (hz : ∀ a h d : ℕ, a < 32768 → h < 4 → d < 32 → rd A a (2048 + h * 128 + 96 + d) = 0)
    (r : Fin 32768) (l : Fin 512) :
    val_main_v38 (F := Ideal) A (ix2 r l) = ((att A r.val l.val : ℝ) : EReal) := by
  have hw := weight A hA hz ⟨r.val / 4096, by omega⟩ ⟨l.val / 128, by omega⟩ ⟨r.val % 4096, by omega⟩
  revert hw
  unfold val_main_v38 val_main_v37 val_main_v36 val_main_v35
  generalize val_main_v34 (F := Ideal) A = s
  intro hw
  pointwise [val_main_v12, val_main_v11, val_main_v1, val_main_v0]
  refine (coe_dot _ _ _ _ (fun j => rd_eq A hA _ (r.val / 4096 * 4096 + j.val) (2560 + l.val) rfl rfl) hw).trans ?_
  refine congrArg _ ?_
  unfold att
  have e : r.val / 4096 * 4096 + r.val % 4096 = r.val := by omega
  refine Finset.sum_congr rfl fun j _ => ?_
  rw [mul_comm, e]

end Cert.MlaRef

end
-- ==== Proof.MlaClaim.lean ====
/- The MLA attention's value claim: the call and the reference end with the same result. -/
module

public import proofs.«01_k».proof.Defs
public import proofs.«01_k».proof.Proof.Gen.Kernel2
public import proofs.«01_k».proof.Proof.Gen.Pre_finite2
public import proofs.«01_k».proof.Proof.MlaReference
public import Idealize.ShloMosaic.Lib.Claim

@[expose] public section

set_option maxRecDepth 16384

noncomputable section

namespace Cert.MlaClaim

open Idealize.ShloMosaic Idealize.ShloMosaic.TcCoe Idealize.SL.Sem Cert.Soft Cert.Mla

/-- The precondition's first part: every entry of the argument is a real. -/
theorem pre_real (A : FVec Ideal Cert.Pre_finite2.S32768x3072 .bf16)
    (h : (Cert.Pre_finite2.fn (F := Ideal) A).1 = fun _ => 1#1) (i : Cert.Pre_finite2.S32768x3072.Idx) :
    A i = ((EReal.toReal (A i) : ℝ) : EReal) := by
  have hi := congrFun h i
  pointwise [Cert.Pre_finite2.fn] at hi
  refine real_of_abs_lt _ ?_
  rw [← bits_top]
  exact of_bit _ hi

/-- The precondition's second part: the columns of the keys that hold nothing are zero. -/
theorem pre_zero (A : FVec Ideal Cert.Pre_finite2.S32768x3072 .bf16)
    (h : (Cert.Pre_finite2.fn (F := Ideal) A).2 = fun _ => 1#1) (a hd d : ℕ) (ha : a < 32768) (hh : hd < 4) (hd' : d < 32) :
    rd A a (2048 + hd * 128 + 96 + d) = 0 := by
  have hi := congrFun h (ix3 ⟨a, ha⟩ ⟨hd, hh⟩ ⟨d, hd'⟩)
  pointwise [Cert.Pre_finite2.fn] at hi
  have h0 : A (ix2 ⟨a, ha⟩ ⟨2048 + (hd * 128 + (96 + d)), by omega⟩) = 0 := of_bit _ hi
  unfold rd
  rw [show 2048 + hd * 128 + 96 + d = 2048 + (hd * 128 + (96 + d)) by omega, dif_pos ⟨ha, by omega⟩, h0]
  rfl

/-- The value claim of the MLA attention call. -/
theorem algebraic : Cert.algebraic_Kernel2Ideal_Reference2Ideal_pre_finite2 := by
  pair_intro
  · run_from Cert.Kernel2Ideal.Gen.run_main m g
  · run_from Cert.Reference2Ideal.Value.run m' g'
    obtain ⟨hr, hz⟩ := hpre c
    rw [Cert.Mla.final m c (pre_real _ hr), Cert.Reference2Ideal.Read.val_main_v38_eq, hagree c]
    funext i
    rw [show i = ix2 (i 0) (i 1) from by funext a; fin_cases a <;> rfl]
    exact Cert.MlaRef.result _ (pre_real _ hr) (fun a h d h1 h2 h3 => pre_zero _ hz a h d h1 h2 h3) (i 0) (i 1)

/-- The frame of the reference. -/
theorem frame_reference : Cert.quiescent_Reference2Ideal := by
  intro m g _
  exact (θ_run Cert.Reference2Ideal.defs _ _).mono
    (fun r h => ⟨fun c => (h c).2, sem_eq_zero_of_no_sems (by decide) r.2⟩) (Cert.Reference2Ideal.Value.run (F := Ideal) m g)

end Cert.MlaClaim

end
-- ==== Proof.DilSpec.lean ====
/- The projection in front of the dilated attentions: a row's entry as a function of the arguments, and what the
   strided reads of the two scratch buffers find there. -/
module

public import proofs.«01_k».proof.Proof.Entries
public import proofs.«01_k».proof.Proof.Gen.Kernel3Ideal.Frame
public import Idealize.ShloMosaic.Lib.Pointwise

@[expose] public section

set_option maxRecDepth 16384

noncomputable section

namespace Cert.Dil

open Idealize.ShloMosaic Idealize.ShloMosaic.TcCoe Idealize.SL.Sem
open Cert.Kernel3Ideal Cert.Kernel3Ideal.Gen Cert.Entries
open Cert.Kernel3Ideal.Facts₀ Cert.Kernel3Ideal.Shapes1.Facts₀

/-- The entry at row `i`, column `c` of rows times a weight, the first 1024 columns (the queries) times their
    factor; zero outside. -/
def ent {n : ℕ} (X : FVec Ideal ⟨2, ![n, 1024]⟩ .f32) (W : FVec Ideal S1024x3072 .bf16) (i c : ℕ) : EReal :=
  if h : i < n ∧ c < 3072 then
    if c < 1024 then (∑ k : Fin 1024, X (ix2 ⟨i, h.1⟩ k) * W (ix2 k ⟨c, h.2⟩)) * (((8 * Real.log 2)⁻¹ : ℝ) : EReal)
    else ∑ k : Fin 1024, X (ix2 ⟨i, h.1⟩ k) * W (ix2 k ⟨c, h.2⟩)
  else 0

/-- The entry at a column of the queries. -/
theorem ent_query {n : ℕ} (X : FVec Ideal ⟨2, ![n, 1024]⟩ .f32) (W : FVec Ideal S1024x3072 .bf16) (i : Fin n) (c : Fin 3072)
    (hc : c.val < 1024) :
    ent X W i.val c.val = (∑ k : Fin 1024, X (ix2 i k) * W (ix2 k c)) * (((8 * Real.log 2)⁻¹ : ℝ) : EReal) := by
  unfold ent
  rw [dif_pos ⟨i.isLt, c.isLt⟩, if_pos hc]

/-- The entry at any other column. -/
theorem ent_other {n : ℕ} (X : FVec Ideal ⟨2, ![n, 1024]⟩ .f32) (W : FVec Ideal S1024x3072 .bf16) (i : Fin n) (c : Fin 3072)
    (hc : ¬ c.val < 1024) :
    ent X W i.val c.val = ∑ k : Fin 1024, X (ix2 i k) * W (ix2 k c) := by
  unfold ent
  rw [dif_pos ⟨i.isLt, c.isLt⟩, if_neg hc]

section
variable (X : FVec Ideal S512x1024 .f32) (W : FVec Ideal S1024x3072 .bf16)

/-- `h` is the third number `b` of the columns: 1024 of them. -/
def Third (h : FVec Ideal S512x1024 .f32) (b : ℕ) : Prop :=
  ∀ (i : Fin 512) (j : Fin 1024), h (ix2 i j) = ent X W i.val (1024 * b + j.val)

/-- The first scratch buffer, written by `L`, holds the block of columns number `n`: 128 of them. -/
def Col (L : List (View.Piece (Elt Ideal) S512x128 .f32)) (n : ℕ) : Prop :=
  ∀ (i : Fin 512) (j : Fin 128), View.canon L (ix2 i j) = ent X W i.val (128 * n + j.val)

/-- The second scratch buffer, written by `L`, holds that block's rows sorted by their remainder modulo 4. -/
def Slab (L : List (View.Piece (Elt Ideal) S4x128x128 .f32)) (n : ℕ) : Prop :=
  ∀ (a : Fin 4) (i j : Fin 128), View.canon L (ix3 a i j) = ent X W (a.val + 4 * i.val) (128 * n + j.val)

variable {X W}

/-- A whole write of the first scratch buffer is what it holds. -/
theorem Col.intro {h : FVec Ideal S512x1024 .f32} {b : ℕ} (hh : Third X W h b) (n off : ℕ) (e : 1024 * b + off = 128 * n)
    (he : off + 128 ≤ 1024)
    {inb} {hs} {hc} (L : List (View.Piece (Elt Ideal) S512x128 .f32)) :
    Col X W (⟨Rect.unit ![0, 0] S512x128.size inb, shapeCast S512x128 (extractStridedSlice S512x128 ![0, off] h hs) hc⟩ :: L) n := by
  intro i j
  have h0 : (ix2 i j : S512x128.Idx) = (Rect.unit (s := S512x128) ![0, 0] S512x128.size inb).emb (ix2 i j) := by
    refine funext fun a => Fin.ext ?_
    fin_cases a
    · exact show i.val = 0 + 1 * i.val by omega
    · exact show j.val = 0 + 1 * j.val by omega
  rw [h0, View.canon_cons_emb]
  rw [← show 1024 * b + (off + j.val) = 128 * n + j.val by omega]
  refine Eq.trans ?_ (hh i ⟨off + j.val, by omega⟩)
  pointwise

/-- A read of every fourth row of the first scratch buffer. -/
theorem Col.read {L : List (View.Piece (Elt Ideal) S512x128 .f32)} {n : ℕ} (hL : Col X W L n) {sp}
    (v : View sig .tc sp S512x128 .f32) (r : ℕ) (hr : r < 4) {inb} (i j : Fin 128) :
    v.readCov L ⟨![r, 0], S128x128.size, ![4, 1], inb⟩ (ix2 i j) = ent X W (r + 4 * i.val) (128 * n + j.val) := by
  rw [View.readCov_eq_canon']
  refine Eq.trans (congrArg _ ?_) (hL ⟨r + 4 * i.val, by omega⟩ j)
  refine funext fun a => Fin.ext ?_
  fin_cases a <;> simp [LoadRect.idx]

/-- A read of every fourth row of one part of the second scratch buffer. -/
theorem Slab.read {L : List (View.Piece (Elt Ideal) S4x128x128 .f32)} {n : ℕ} (hL : Slab X W L n) {sp}
    (v : View sig .tc sp S4x128x128 .f32) (a r : ℕ) (ha : a < 4) (hr : r < 4) {inb} (z : Fin 1) (i : Fin 32) (j : Fin 128) :
    v.readCov L ⟨![a, r, 0], S1x32x128.size, ![1, 4, 1], inb⟩ (ix3 z i j) = ent X W (a + 4 * r + 16 * i.val) (128 * n + j.val) := by
  rw [View.readCov_eq_canon', show a + 4 * r + 16 * i.val = a + 4 * (r + 4 * i.val) by ring]
  refine Eq.trans (congrArg _ ?_) (hL ⟨a, ha⟩ ⟨r + 4 * i.val, by omega⟩ j)
  refine funext fun a => Fin.ext ?_
  fin_cases a <;> simp [LoadRect.idx]
/-- The second scratch buffer after its part number `a` is written, read at that part. -/
theorem slab_at (w : FVec Ideal S1x128x128 .f32) (a : ℕ) (ha : a < 4) {inb} (L : List (View.Piece (Elt Ideal) S4x128x128 .f32))
    (i j : Fin 128) :
    View.canon (⟨Rect.unit (s := S4x128x128) ![a, 0, 0] S1x128x128.size inb, w⟩ :: L) (ix3 (⟨a, ha⟩ : Fin 4) i j) = w (ix3 0 i j) := by
  have h0 : (ix3 (⟨a, ha⟩ : Fin 4) i j : S4x128x128.Idx)
      = (Rect.unit (s := S4x128x128) ![a, 0, 0] S1x128x128.size inb).emb (ix3 0 i j) := by
    refine funext fun x => Fin.ext ?_
    fin_cases x
    · exact show a = a + 1 * 0 by omega
    · exact show i.val = 0 + 1 * i.val by omega
    · exact show j.val = 0 + 1 * j.val by omega
  rw [h0, View.canon_cons_emb]

/-- The same read at another part: as before the write. -/
theorem slab_off (w : FVec Ideal S1x128x128 .f32) (a : ℕ) (b : Fin 4) (hb : b.val ≠ a) {inb}
    (L : List (View.Piece (Elt Ideal) S4x128x128 .f32)) (i j : Fin 128) :
    View.canon (⟨Rect.unit (s := S4x128x128) ![a, 0, 0] S1x128x128.size inb, w⟩ :: L) (ix3 b i j) = View.canon L (ix3 b i j) := by
  refine View.canon_cons_of_not_mem _ L ?_
  intro hm
  obtain ⟨x, hx, he⟩ := (LoadRect.mem_set _).mp hm (0 : Fin 3)
  have hx' : x < 1 := hx
  have he' : b.val = a + 1 * x := he
  omega

/-- A matrix under a leading axis of one. -/
theorem cast_lead (w : FVec Ideal S128x128 .f32) (hs) (i j : Fin 128) :
    shapeCast S1x128x128 w hs (ix3 0 i j) = w (ix2 i j) := by
  pointwise

/-- A matrix under two leading axes of one. -/
theorem cast_one (w : FVec Ideal S512x1024 .f32) (hb : FTy.bf16.bits < FTy.f32.bits) (hs) (x : S1x1x512x1024.Idx) :
    shapeCast S1x1x512x1024 (truncf .bf16 w hb : FVec Ideal S512x1024 .bf16) hs x = w (ix2 (x 2) (x 3)) := by
  idx_vars x
  pointwise

/-- The same of a block of the rows sorted modulo 4. -/
theorem cast_four (w : FVec Ideal S128x128 .f32) (hb : FTy.bf16.bits < FTy.f32.bits) (hs) (x : S1x1x128x128.Idx) :
    shapeCast S1x1x128x128 (truncf .bf16 w hb : FVec Ideal S128x128 .bf16) hs x = w (ix2 (x 2) (x 3)) := by
  idx_vars x
  pointwise

/-- The same of a block of the rows sorted modulo 16. -/
theorem cast_sixteen (w : FVec Ideal S1x32x128 .f32) (hb : FTy.bf16.bits < FTy.f32.bits) (hs hs') (x : S1x1x32x128.Idx) :
    shapeCast S1x1x32x128 (truncf .bf16 (shapeCast S32x128 w hs' : FVec Ideal S32x128 .f32) hb : FVec Ideal S32x128 .bf16) hs x
      = w (ix3 0 (x 2) (x 3)) := by
  idx_vars x
  pointwise

/-- The four writes of the second scratch buffer from the reads of the first. -/
theorem Slab.intro {L : List (View.Piece (Elt Ideal) S512x128 .f32)} {n : ℕ} (hL : Col X W L n) {sp}
    (v : View sig .tc sp S512x128 .f32) {i0 i1 i2 i3 j0 j1 j2 j3 s0 s1 s2 s3} (M : List (View.Piece (Elt Ideal) S4x128x128 .f32)) :
    Slab X W (⟨Rect.unit (s := S4x128x128) ![3, 0, 0] S1x128x128.size j3, shapeCast S1x128x128 (v.readCov L ⟨![3, 0], S128x128.size, ![4, 1], i3⟩) s3⟩
      :: ⟨Rect.unit (s := S4x128x128) ![2, 0, 0] S1x128x128.size j2, shapeCast S1x128x128 (v.readCov L ⟨![2, 0], S128x128.size, ![4, 1], i2⟩) s2⟩
      :: ⟨Rect.unit (s := S4x128x128) ![1, 0, 0] S1x128x128.size j1, shapeCast S1x128x128 (v.readCov L ⟨![1, 0], S128x128.size, ![4, 1], i1⟩) s1⟩
      :: ⟨Rect.unit (s := S4x128x128) ![0, 0, 0] S1x128x128.size j0, shapeCast S1x128x128 (v.readCov L ⟨![0, 0], S128x128.size, ![4, 1], i0⟩) s0⟩
      :: M) n := by
  have cast : ∀ (r : ℕ) (hr : r < 4) (inb) (s) (i j : Fin 128),
      shapeCast S1x128x128 (v.readCov L ⟨![r, 0], S128x128.size, ![4, 1], inb⟩ : FVec Ideal S128x128 .f32) s (ix3 0 i j)
        = ent X W (r + 4 * i.val) (128 * n + j.val) := by
    intro r hr inb s i j
    exact (cast_lead _ s i j).trans (hL.read v r hr (inb := inb) i j)
  intro a i j
  obtain ⟨a, ha⟩ := a
  interval_cases a
  · rw [slab_off _ 3 _ (by norm_num), slab_off _ 2 _ (by norm_num), slab_off _ 1 _ (by norm_num)]
    exact (slab_at _ 0 (by decide) _ i j).trans (cast 0 (by decide) i0 s0 i j)
  · rw [slab_off _ 3 _ (by norm_num), slab_off _ 2 _ (by norm_num)]
    exact (slab_at _ 1 (by decide) _ i j).trans (cast 1 (by decide) i1 s1 i j)
  · rw [slab_off _ 3 _ (by norm_num)]
    exact (slab_at _ 2 (by decide) _ i j).trans (cast 2 (by decide) i2 s2 i j)
  · exact (slab_at _ 3 (by decide) _ i j).trans (cast 3 (by decide) i3 s3 i j)

variable (X W)

/-- Every piece of `L` holds the entries of the rows in order. -/
def All1 (L : List (View.Piece (Elt Ideal) S1x1x512x3072 .bf16)) : Prop :=
  ∀ p ∈ L, ∀ x, p.2 x = (fun y : S1x1x512x3072.Idx => ent X W (y 2).val (y 3).val) (p.1.emb x)

/-- Every piece of `L` holds the entries of the rows sorted by their remainder modulo 4. -/
def All4 (L : List (View.Piece (Elt Ideal) S1x4x128x3072 .bf16)) : Prop :=
  ∀ p ∈ L, ∀ x, p.2 x = (fun y : S1x4x128x3072.Idx => ent X W ((y 1).val + 4 * (y 2).val) (y 3).val) (p.1.emb x)

/-- Every piece of `L` holds the entries of the rows sorted by their remainder modulo 16. -/
def All16 (L : List (View.Piece (Elt Ideal) S1x16x32x3072 .bf16)) : Prop :=
  ∀ p ∈ L, ∀ x, p.2 x = (fun y : S1x16x32x3072.Idx => ent X W ((y 1).val + 16 * (y 2).val) (y 3).val) (p.1.emb x)

theorem All1.nil : All1 X W [] := fun _ h => absurd h List.not_mem_nil
theorem All4.nil : All4 X W [] := fun _ h => absurd h List.not_mem_nil
theorem All16.nil : All16 X W [] := fun _ h => absurd h List.not_mem_nil

variable {X W}

/-- A third of the columns stored as it is. -/
theorem All1.cons {h : FVec Ideal S512x1024 .f32} {b : ℕ} (hh : Third X W h b) {inb hb hs}
    {L : List (View.Piece (Elt Ideal) S1x1x512x3072 .bf16)} (hL : All1 X W L) :
    All1 X W (⟨Rect.unit (s := S1x1x512x3072) ![0, 0, 0, 1024 * b] S1x1x512x1024.size inb, shapeCast S1x1x512x1024 (truncf .bf16 h hb : FVec Ideal S512x1024 .bf16) hs⟩ :: L) := by
  refine List.forall_mem_cons.2 ⟨fun x => ?_, hL⟩
  refine (cast_one h hb hs x).trans ((hh (x 2) (x 3)).trans (congrArg₂ (ent X W) ?_ ?_))
  · exact show (x 2).val = 0 + 1 * (x 2).val by omega
  · exact show 1024 * b + (x 3).val = 1024 * b + 1 * (x 3).val by omega

/-- A read of the first scratch buffer stored. -/
theorem All4.cons {M : List (View.Piece (Elt Ideal) S512x128 .f32)} (n : ℕ) (hM : Col X W M n) {sp}
    {v : View sig .tc sp S512x128 .f32} {r : ℕ} {inb inb'} {hb : FTy.bf16.bits < FTy.f32.bits} {hs}
    {L : List (View.Piece (Elt Ideal) S1x4x128x3072 .bf16)} (hL : All4 X W L) :
    All4 X W (⟨Rect.unit (s := S1x4x128x3072) ![0, r, 0, 128 * n] S1x1x128x128.size inb,
      shapeCast S1x1x128x128 (truncf .bf16 (v.readCov M ⟨![r, 0], S128x128.size, ![4, 1], inb'⟩ : FVec Ideal S128x128 .f32) hb : FVec Ideal S128x128 .bf16) hs⟩ :: L) := by
  have hr : r < 4 := by have h : r + 1 ≤ 4 := inb 1; omega
  refine List.forall_mem_cons.2 ⟨fun x => ?_, hL⟩
  have h1 : (x 1).val < 1 := (x 1).isLt
  refine (cast_four _ hb hs x).trans ((hM.read v r hr (inb := inb') (x 2) (x 3)).trans (congrArg₂ (ent X W) ?_ ?_))
  · exact show r + 4 * (x 2).val = (r + 1 * (x 1).val) + 4 * (0 + 1 * (x 2).val) by omega
  · exact show 128 * n + (x 3).val = 128 * n + 1 * (x 3).val by omega

/-- A read of the second scratch buffer stored. -/
theorem All16.cons {M : List (View.Piece (Elt Ideal) S4x128x128 .f32)} (n : ℕ) (hM : Slab X W M n) {sp}
    {v : View sig .tc sp S4x128x128 .f32} {r : ℕ} {inb inb'} {hb : FTy.bf16.bits < FTy.f32.bits} {hs hs'}
    {L : List (View.Piece (Elt Ideal) S1x16x32x3072 .bf16)} (hL : All16 X W L) :
    All16 X W (⟨Rect.unit (s := S1x16x32x3072) ![0, r, 0, 128 * n] S1x1x32x128.size inb,
      shapeCast S1x1x32x128 (truncf .bf16 (shapeCast S32x128
        (v.readCov M ⟨![r % 4, r / 4, 0], S1x32x128.size, ![1, 4, 1], inb'⟩ : FVec Ideal S1x32x128 .f32) hs' : FVec Ideal S32x128 .f32) hb : FVec Ideal S32x128 .bf16) hs⟩ :: L) := by
  have hr : r < 16 := by have h : r + 1 ≤ 16 := inb 1; omega
  refine List.forall_mem_cons.2 ⟨fun x => ?_, hL⟩
  have h1 : (x 1).val < 1 := (x 1).isLt
  refine Eq.trans (cast_sixteen (v.readCov M ⟨![r % 4, r / 4, 0], S1x32x128.size, ![1, 4, 1], inb'⟩) hb hs hs' x) ?_
  refine Eq.trans (hM.read v (r % 4) (r / 4) (by omega) (by omega) (inb := inb') 0 (x 2) (x 3)) ?_
  exact congrArg₂ (ent X W)
    (show r % 4 + 4 * (r / 4) + 16 * (x 2).val = (r + 1 * (x 1).val) + 16 * (0 + 1 * (x 2).val) by omega)
    (show 128 * n + (x 3).val = 128 * n + 1 * (x 3).val by omega)
/-- Where the pieces reach, the block holds the entries. -/
theorem All1.out {L : List (View.Piece (Elt Ideal) S1x1x512x3072 .bf16)} (hL : All1 X W L) {sp} (v : View sig .tc sp S1x1x512x3072 .bf16)
    (f : v.ty.Contents (Elt Ideal)) (y : S1x1x512x3072.Idx) (hy : ∃ p ∈ L, y ∈ p.1.set) :
    v.read (Elt Ideal) (v.writes (Elt Ideal) f L) y = ent X W (y 2).val (y 3).val :=
  View.read_writes_apply_of_pieces (Val := Elt Ideal) v f (fun y : S1x1x512x3072.Idx => (ent X W (y 2).val (y 3).val : EReal)) L hL y hy

/-- Where the pieces reach, the block holds the entries. -/
theorem All4.out {L : List (View.Piece (Elt Ideal) S1x4x128x3072 .bf16)} (hL : All4 X W L) {sp} (v : View sig .tc sp S1x4x128x3072 .bf16)
    (f : v.ty.Contents (Elt Ideal)) (y : S1x4x128x3072.Idx) (hy : ∃ p ∈ L, y ∈ p.1.set) :
    v.read (Elt Ideal) (v.writes (Elt Ideal) f L) y = ent X W ((y 1).val + 4 * (y 2).val) (y 3).val :=
  View.read_writes_apply_of_pieces (Val := Elt Ideal) v f (fun y : S1x4x128x3072.Idx => (ent X W ((y 1).val + 4 * (y 2).val) (y 3).val : EReal)) L hL y hy

/-- Where the pieces reach, the block holds the entries. -/
theorem All16.out {L : List (View.Piece (Elt Ideal) S1x16x32x3072 .bf16)} (hL : All16 X W L) {sp} (v : View sig .tc sp S1x16x32x3072 .bf16)
    (f : v.ty.Contents (Elt Ideal)) (y : S1x16x32x3072.Idx) (hy : ∃ p ∈ L, y ∈ p.1.set) :
    v.read (Elt Ideal) (v.writes (Elt Ideal) f L) y = ent X W ((y 1).val + 16 * (y 2).val) (y 3).val :=
  View.read_writes_apply_of_pieces (Val := Elt Ideal) v f (fun y : S1x16x32x3072.Idx => (ent X W ((y 1).val + 16 * (y 2).val) (y 3).val : EReal)) L hL y hy

end

end Cert.Dil

end
-- ==== Proof.DilKernel.lean ====
/- The projection in front of the dilated attentions: the pieces the kernel's body writes. -/
module

public import proofs.«01_k».proof.Proof.DilSpec
public import Idealize.ShloMosaic.Lib.WholeRead

@[expose] public section

set_option maxRecDepth 16384

noncomputable section

namespace Cert.Dil

open Idealize.ShloMosaic Idealize.ShloMosaic.TcCoe Idealize.SL.Sem
open Cert.Kernel3Ideal Cert.Kernel3Ideal.Gen Cert.Entries
open Cert.Kernel3Ideal.Facts₀ Cert.Kernel3Ideal.Shapes1.Facts₀

/-- The first third of the columns is the queries times their factor. -/
theorem pay5 (x : FVec Ideal S512x1024 .f32) (w : FVec Ideal S1024x1024 .bf16) (i : Fin 512) (j : Fin 1024) :
    k0_pay5 (F := Ideal) x w (ix2 i j)
      = (∑ k : Fin 1024, x (ix2 i k) * w (ix2 k j)) * (((8 * Real.log 2)⁻¹ : ℝ) : EReal) := by
  pointwise [k0_pay5]
  first
    | rfl
    | (rw [IdealRules.named_const.ideal_named_scalar _ _ _ _ rfl])

/-- A product of the rows and a third of the weight. -/
theorem product (x : FVec Ideal S512x1024 .f32) (w : FVec Ideal S1024x1024 .bf16) (i : Fin 512) (j : Fin 1024) (hs) :
    (matmul dot_S512x1024_S1024x1024_S512x1024_1_0_0_1_n_n none (k0_pay4 (F := Ideal) x)
      (shapeCast S1024x1024 w hs : FVec Ideal S1024x1024 .bf16)
      (constant S512x1024 .f32 0x00000000#32) : FVec Ideal S512x1024 .f32) (ix2 i j) = ∑ k : Fin 1024, x (ix2 i k) * w (ix2 k j) := by
  pointwise [k0_pay4]

section
variable (c : Dev nD) (arg2 : Memref sig .tc .vmem S512x1024 .f32) (harg2 : arg2.IsWhole)
  (arg3 : Memref sig .tc .vmem S1024x3072 .bf16) (harg3 : arg3.IsWhole)
  (arg7 : Memref sig .tc .vmem S512x128 .f32) (arg8 : Memref sig .tc .vmem S4x128x128 .f32)
  (x0 : FVec Ideal S512x1024 .f32) (x1 : FVec Ideal S1024x3072 .bf16)

/-- The rows as the body reads them. -/
theorem read_x {inb} (i : Fin 512) (k : Fin 1024) :
    View.readAt (Elt Ideal) arg2.view (Rect.unit (s := S512x1024) ![0, 0] S512x1024.size inb).toLoadRect (harg2.unread x0) (ix2 i k)
      = x0 (ix2 i k) := by
  rw [Memref.IsWhole.readAt_unread]
  refine congrArg x0 (funext fun a => Fin.ext ?_)
  fin_cases a
  · exact show 0 + 1 * i.val = i.val by omega
  · exact show 0 + 1 * k.val = k.val by omega

/-- A third of the weight as the body reads it. -/
theorem read_w (o : ℕ) (ho : o + 1024 ≤ 3072) {inb} (k j : Fin 1024) :
    View.readAt (Elt Ideal) arg3.view (Rect.unit (s := S1024x3072) ![0, o] S1024x1024.size inb).toLoadRect (harg3.unread x1) (ix2 k j)
      = x1 (ix2 k ⟨o + j.val, by omega⟩) := by
  rw [Memref.IsWhole.readAt_unread]
  refine congrArg x1 (funext fun a => Fin.ext ?_)
  fin_cases a
  · exact show 0 + 1 * k.val = k.val by omega
  · exact show o + 1 * j.val = o + j.val by omega

/-- The queries' third. -/
theorem third0 {inb inb'} :
    Third x0 x1 (k0_pay5 (View.readAt (Elt Ideal) arg2.view (Rect.unit (s := S512x1024) ![0, 0] S512x1024.size inb).toLoadRect (harg2.unread x0))
      (View.readAt (Elt Ideal) arg3.view (Rect.unit (s := S1024x3072) ![0, 0] S1024x1024.size inb').toLoadRect (harg3.unread x1))) 0 := by
  intro i j
  refine (pay5 _ _ i j).trans ?_
  refine Eq.trans ?_ (ent_query x0 x1 i ⟨0 + j.val, by omega⟩ (show 0 + j.val < 1024 by omega)).symm
  refine congrArg (· * _) (Finset.sum_congr rfl fun k _ => ?_)
  rw [read_x, read_w arg3 harg3 x1 0 (by norm_num)]

/-- Another third. -/
theorem third (b : ℕ) (h1 : 1 ≤ b) (h2 : b ≤ 2) (o : ℕ) (ho : o = 1024 * b) {inb inb'} (hs) :
    Third x0 x1 (matmul dot_S512x1024_S1024x1024_S512x1024_1_0_0_1_n_n none
      (k0_pay4 (F := Ideal) (View.readAt (Elt Ideal) arg2.view (Rect.unit (s := S512x1024) ![0, 0] S512x1024.size inb).toLoadRect (harg2.unread x0)))
      (shapeCast S1024x1024 (View.readAt (Elt Ideal) arg3.view (Rect.unit (s := S1024x3072) ![0, o] S1024x1024.size inb').toLoadRect
        (harg3.unread x1)) hs : FVec Ideal S1024x1024 .bf16) (constant S512x1024 .f32 0x00000000#32) : FVec Ideal S512x1024 .f32) b := by
  intro i j
  subst ho
  refine (product _ _ i j hs).trans ?_
  refine Eq.trans ?_ (ent_other x0 x1 i ⟨1024 * b + j.val, by omega⟩ (show ¬ 1024 * b + j.val < 1024 by omega)).symm
  refine Finset.sum_congr rfl fun k _ => ?_
  rw [read_x, read_w arg3 harg3 x1 (1024 * b) (by omega)]

/-- The three thirds of the columns as the run names them. -/
theorem run0 : Third x0 x1 (kernelRun0_A.sl.r_1 (F := Ideal) c arg2 harg2 arg3 harg3 x0 x1) 0 := third0 arg2 harg2 arg3 harg3 x0 x1
theorem run1 : Third x0 x1 (kernelRun0_A.sl.v1069 (F := Ideal) c arg2 harg2 arg3 harg3 x0 x1) 1 :=
  third arg2 harg2 arg3 harg3 x0 x1 1 (by norm_num) (by norm_num) 1024 (by norm_num) _
theorem run2 : Third x0 x1 (kernelRun0_A.sl.v2132 (F := Ideal) c arg2 harg2 arg3 harg3 x0 x1) 2 :=
  third arg2 harg2 arg3 harg3 x0 x1 2 (by norm_num) (by norm_num) 2048 (by norm_num) _

/-! The first scratch buffer after each of its writes, and the second after each four of its own. -/

theorem col0 : Col x0 x1 (kernelRun0_A.sl.HS0_1 (F := Ideal) c arg2 harg2 arg3 harg3 x0 x1) 0 :=
  Col.intro (run0 c arg2 harg2 arg3 harg3 x0 x1) 0 0 (by norm_num) (by norm_num) _
theorem slab0 : Slab x0 x1 (kernelRun0_A.sl.HS1_4 (F := Ideal) c arg2 harg2 arg3 harg3 arg7 x0 x1) 0 :=
  Slab.intro (col0 c arg2 harg2 arg3 harg3 x0 x1) arg7.view _
theorem col1 : Col x0 x1 (kernelRun0_A.sl.HS0_2 (F := Ideal) c arg2 harg2 arg3 harg3 x0 x1) 1 :=
  Col.intro (run0 c arg2 harg2 arg3 harg3 x0 x1) 1 128 (by norm_num) (by norm_num) _
theorem slab1 : Slab x0 x1 (kernelRun0_A.sl.HS1_8 (F := Ideal) c arg2 harg2 arg3 harg3 arg7 x0 x1) 1 :=
  Slab.intro (col1 c arg2 harg2 arg3 harg3 x0 x1) arg7.view _
theorem col2 : Col x0 x1 (kernelRun0_A.sl.HS0_3 (F := Ideal) c arg2 harg2 arg3 harg3 x0 x1) 2 :=
  Col.intro (run0 c arg2 harg2 arg3 harg3 x0 x1) 2 256 (by norm_num) (by norm_num) _
theorem slab2 : Slab x0 x1 (kernelRun0_A.sl.HS1_12 (F := Ideal) c arg2 harg2 arg3 harg3 arg7 x0 x1) 2 :=
  Slab.intro (col2 c arg2 harg2 arg3 harg3 x0 x1) arg7.view _
theorem col3 : Col x0 x1 (kernelRun0_A.sl.HS0_4 (F := Ideal) c arg2 harg2 arg3 harg3 x0 x1) 3 :=
  Col.intro (run0 c arg2 harg2 arg3 harg3 x0 x1) 3 384 (by norm_num) (by norm_num) _
theorem slab3 : Slab x0 x1 (kernelRun0_A.sl.HS1_16 (F := Ideal) c arg2 harg2 arg3 harg3 arg7 x0 x1) 3 :=
  Slab.intro (col3 c arg2 harg2 arg3 harg3 x0 x1) arg7.view _
theorem col4 : Col x0 x1 (kernelRun0_A.sl.HS0_5 (F := Ideal) c arg2 harg2 arg3 harg3 x0 x1) 4 :=
  Col.intro (run0 c arg2 harg2 arg3 harg3 x0 x1) 4 512 (by norm_num) (by norm_num) _
theorem slab4 : Slab x0 x1 (kernelRun0_A.sl.HS1_20 (F := Ideal) c arg2 harg2 arg3 harg3 arg7 x0 x1) 4 :=
  Slab.intro (col4 c arg2 harg2 arg3 harg3 x0 x1) arg7.view _
theorem col5 : Col x0 x1 (kernelRun0_A.sl.HS0_6 (F := Ideal) c arg2 harg2 arg3 harg3 x0 x1) 5 :=
  Col.intro (run0 c arg2 harg2 arg3 harg3 x0 x1) 5 640 (by norm_num) (by norm_num) _
theorem slab5 : Slab x0 x1 (kernelRun0_A.sl.HS1_24 (F := Ideal) c arg2 harg2 arg3 harg3 arg7 x0 x1) 5 :=
  Slab.intro (col5 c arg2 harg2 arg3 harg3 x0 x1) arg7.view _
theorem col6 : Col x0 x1 (kernelRun0_A.sl.HS0_7 (F := Ideal) c arg2 harg2 arg3 harg3 x0 x1) 6 :=
  Col.intro (run0 c arg2 harg2 arg3 harg3 x0 x1) 6 768 (by norm_num) (by norm_num) _
theorem slab6 : Slab x0 x1 (kernelRun0_A.sl.HS1_28 (F := Ideal) c arg2 harg2 arg3 harg3 arg7 x0 x1) 6 :=
  Slab.intro (col6 c arg2 harg2 arg3 harg3 x0 x1) arg7.view _
theorem col7 : Col x0 x1 (kernelRun0_A.sl.HS0_8 (F := Ideal) c arg2 harg2 arg3 harg3 x0 x1) 7 :=
  Col.intro (run0 c arg2 harg2 arg3 harg3 x0 x1) 7 896 (by norm_num) (by norm_num) _
theorem slab7 : Slab x0 x1 (kernelRun0_A.sl.HS1_32 (F := Ideal) c arg2 harg2 arg3 harg3 arg7 x0 x1) 7 :=
  Slab.intro (col7 c arg2 harg2 arg3 harg3 x0 x1) arg7.view _
theorem col8 : Col x0 x1 (kernelRun0_A.sl.HS0_9 (F := Ideal) c arg2 harg2 arg3 harg3 x0 x1) 8 :=
  Col.intro (run1 c arg2 harg2 arg3 harg3 x0 x1) 8 0 (by norm_num) (by norm_num) _
theorem slab8 : Slab x0 x1 (kernelRun0_A.sl.HS1_36 (F := Ideal) c arg2 harg2 arg3 harg3 arg7 x0 x1) 8 :=
  Slab.intro (col8 c arg2 harg2 arg3 harg3 x0 x1) arg7.view _
theorem col9 : Col x0 x1 (kernelRun0_A.sl.HS0_10 (F := Ideal) c arg2 harg2 arg3 harg3 x0 x1) 9 :=
  Col.intro (run1 c arg2 harg2 arg3 harg3 x0 x1) 9 128 (by norm_num) (by norm_num) _
theorem slab9 : Slab x0 x1 (kernelRun0_A.sl.HS1_40 (F := Ideal) c arg2 harg2 arg3 harg3 arg7 x0 x1) 9 :=
  Slab.intro (col9 c arg2 harg2 arg3 harg3 x0 x1) arg7.view _
theorem col10 : Col x0 x1 (kernelRun0_A.sl.HS0_11 (F := Ideal) c arg2 harg2 arg3 harg3 x0 x1) 10 :=
  Col.intro (run1 c arg2 harg2 arg3 harg3 x0 x1) 10 256 (by norm_num) (by norm_num) _
theorem slab10 : Slab x0 x1 (kernelRun0_A.sl.HS1_44 (F := Ideal) c arg2 harg2 arg3 harg3 arg7 x0 x1) 10 :=
  Slab.intro (col10 c arg2 harg2 arg3 harg3 x0 x1) arg7.view _
theorem col11 : Col x0 x1 (kernelRun0_A.sl.HS0_12 (F := Ideal) c arg2 harg2 arg3 harg3 x0 x1) 11 :=
  Col.intro (run1 c arg2 harg2 arg3 harg3 x0 x1) 11 384 (by norm_num) (by norm_num) _
theorem slab11 : Slab x0 x1 (kernelRun0_A.sl.HS1_48 (F := Ideal) c arg2 harg2 arg3 harg3 arg7 x0 x1) 11 :=
  Slab.intro (col11 c arg2 harg2 arg3 harg3 x0 x1) arg7.view _
theorem col12 : Col x0 x1 (kernelRun0_A.sl.HS0_13 (F := Ideal) c arg2 harg2 arg3 harg3 x0 x1) 12 :=
  Col.intro (run1 c arg2 harg2 arg3 harg3 x0 x1) 12 512 (by norm_num) (by norm_num) _
theorem slab12 : Slab x0 x1 (kernelRun0_A.sl.HS1_52 (F := Ideal) c arg2 harg2 arg3 harg3 arg7 x0 x1) 12 :=
  Slab.intro (col12 c arg2 harg2 arg3 harg3 x0 x1) arg7.view _
theorem col13 : Col x0 x1 (kernelRun0_A.sl.HS0_14 (F := Ideal) c arg2 harg2 arg3 harg3 x0 x1) 13 :=
  Col.intro (run1 c arg2 harg2 arg3 harg3 x0 x1) 13 640 (by norm_num) (by norm_num) _
theorem slab13 : Slab x0 x1 (kernelRun0_A.sl.HS1_56 (F := Ideal) c arg2 harg2 arg3 harg3 arg7 x0 x1) 13 :=
  Slab.intro (col13 c arg2 harg2 arg3 harg3 x0 x1) arg7.view _
theorem col14 : Col x0 x1 (kernelRun0_A.sl.HS0_15 (F := Ideal) c arg2 harg2 arg3 harg3 x0 x1) 14 :=
  Col.intro (run1 c arg2 harg2 arg3 harg3 x0 x1) 14 768 (by norm_num) (by norm_num) _
theorem slab14 : Slab x0 x1 (kernelRun0_A.sl.HS1_60 (F := Ideal) c arg2 harg2 arg3 harg3 arg7 x0 x1) 14 :=
  Slab.intro (col14 c arg2 harg2 arg3 harg3 x0 x1) arg7.view _
theorem col15 : Col x0 x1 (kernelRun0_A.sl.HS0_16 (F := Ideal) c arg2 harg2 arg3 harg3 x0 x1) 15 :=
  Col.intro (run1 c arg2 harg2 arg3 harg3 x0 x1) 15 896 (by norm_num) (by norm_num) _
theorem slab15 : Slab x0 x1 (kernelRun0_A.sl.HS1_64 (F := Ideal) c arg2 harg2 arg3 harg3 arg7 x0 x1) 15 :=
  Slab.intro (col15 c arg2 harg2 arg3 harg3 x0 x1) arg7.view _
theorem col16 : Col x0 x1 (kernelRun0_A.sl.HS0_17 (F := Ideal) c arg2 harg2 arg3 harg3 x0 x1) 16 :=
  Col.intro (run2 c arg2 harg2 arg3 harg3 x0 x1) 16 0 (by norm_num) (by norm_num) _
theorem slab16 : Slab x0 x1 (kernelRun0_A.sl.HS1_68 (F := Ideal) c arg2 harg2 arg3 harg3 arg7 x0 x1) 16 :=
  Slab.intro (col16 c arg2 harg2 arg3 harg3 x0 x1) arg7.view _
theorem col17 : Col x0 x1 (kernelRun0_A.sl.HS0_18 (F := Ideal) c arg2 harg2 arg3 harg3 x0 x1) 17 :=
  Col.intro (run2 c arg2 harg2 arg3 harg3 x0 x1) 17 128 (by norm_num) (by norm_num) _
theorem slab17 : Slab x0 x1 (kernelRun0_A.sl.HS1_72 (F := Ideal) c arg2 harg2 arg3 harg3 arg7 x0 x1) 17 :=
  Slab.intro (col17 c arg2 harg2 arg3 harg3 x0 x1) arg7.view _
theorem col18 : Col x0 x1 (kernelRun0_A.sl.HS0_19 (F := Ideal) c arg2 harg2 arg3 harg3 x0 x1) 18 :=
  Col.intro (run2 c arg2 harg2 arg3 harg3 x0 x1) 18 256 (by norm_num) (by norm_num) _
theorem slab18 : Slab x0 x1 (kernelRun0_A.sl.HS1_76 (F := Ideal) c arg2 harg2 arg3 harg3 arg7 x0 x1) 18 :=
  Slab.intro (col18 c arg2 harg2 arg3 harg3 x0 x1) arg7.view _
theorem col19 : Col x0 x1 (kernelRun0_A.sl.HS0_20 (F := Ideal) c arg2 harg2 arg3 harg3 x0 x1) 19 :=
  Col.intro (run2 c arg2 harg2 arg3 harg3 x0 x1) 19 384 (by norm_num) (by norm_num) _
theorem slab19 : Slab x0 x1 (kernelRun0_A.sl.HS1_80 (F := Ideal) c arg2 harg2 arg3 harg3 arg7 x0 x1) 19 :=
  Slab.intro (col19 c arg2 harg2 arg3 harg3 x0 x1) arg7.view _
theorem col20 : Col x0 x1 (kernelRun0_A.sl.HS0_21 (F := Ideal) c arg2 harg2 arg3 harg3 x0 x1) 20 :=
  Col.intro (run2 c arg2 harg2 arg3 harg3 x0 x1) 20 512 (by norm_num) (by norm_num) _
theorem slab20 : Slab x0 x1 (kernelRun0_A.sl.HS1_84 (F := Ideal) c arg2 harg2 arg3 harg3 arg7 x0 x1) 20 :=
  Slab.intro (col20 c arg2 harg2 arg3 harg3 x0 x1) arg7.view _
theorem col21 : Col x0 x1 (kernelRun0_A.sl.HS0_22 (F := Ideal) c arg2 harg2 arg3 harg3 x0 x1) 21 :=
  Col.intro (run2 c arg2 harg2 arg3 harg3 x0 x1) 21 640 (by norm_num) (by norm_num) _
theorem slab21 : Slab x0 x1 (kernelRun0_A.sl.HS1_88 (F := Ideal) c arg2 harg2 arg3 harg3 arg7 x0 x1) 21 :=
  Slab.intro (col21 c arg2 harg2 arg3 harg3 x0 x1) arg7.view _
theorem col22 : Col x0 x1 (kernelRun0_A.sl.HS0_23 (F := Ideal) c arg2 harg2 arg3 harg3 x0 x1) 22 :=
  Col.intro (run2 c arg2 harg2 arg3 harg3 x0 x1) 22 768 (by norm_num) (by norm_num) _
theorem slab22 : Slab x0 x1 (kernelRun0_A.sl.HS1_92 (F := Ideal) c arg2 harg2 arg3 harg3 arg7 x0 x1) 22 :=
  Slab.intro (col22 c arg2 harg2 arg3 harg3 x0 x1) arg7.view _
theorem col23 : Col x0 x1 (kernelRun0_A.sl.HS0_24 (F := Ideal) c arg2 harg2 arg3 harg3 x0 x1) 23 :=
  Col.intro (run2 c arg2 harg2 arg3 harg3 x0 x1) 23 896 (by norm_num) (by norm_num) _
theorem slab23 : Slab x0 x1 (kernelRun0_A.sl.HS1_96 (F := Ideal) c arg2 harg2 arg3 harg3 arg7 x0 x1) 23 :=
  Slab.intro (col23 c arg2 harg2 arg3 harg3 x0 x1) arg7.view _

variable (i : grid0.Coords) (arg4 : Memref sig .tc .vmem S1x1x512x3072 .bf16) (harg4 : arg4.IsWhole)
  (arg5 : Memref sig .tc .vmem S1x4x128x3072 .bf16) (harg5 : arg5.IsWhole)
  (arg6 : Memref sig .tc .vmem S1x16x32x3072 .bf16) (harg6 : arg6.IsWhole)
  (harg7 : arg7.IsWhole) (harg8 : arg8.IsWhole)

/-- The pieces of the rows in order. -/
theorem pieces1 : All1 x0 x1 (kernelRun0_A (F := Ideal) c i arg2 harg2 arg3 harg3 arg4 harg4 arg5 harg5 arg6 harg6 arg7 harg7 arg8 harg8 x0 x1).1 :=
  All1.cons (b := 2) (run2 c arg2 harg2 arg3 harg3 x0 x1) (All1.cons (b := 1) (run1 c arg2 harg2 arg3 harg3 x0 x1)
    (All1.cons (b := 0) (run0 c arg2 harg2 arg3 harg3 x0 x1) (All1.nil x0 x1)))

/-- The pieces of the rows sorted modulo 4. -/
theorem pieces4 : All4 x0 x1 (kernelRun0_A (F := Ideal) c i arg2 harg2 arg3 harg3 arg4 harg4 arg5 harg5 arg6 harg6 arg7 harg7 arg8 harg8 x0 x1).2.1 := by
  iterate 4 refine All4.cons 23 (col23 c arg2 harg2 arg3 harg3 x0 x1) ?_
  iterate 4 refine All4.cons 22 (col22 c arg2 harg2 arg3 harg3 x0 x1) ?_
  iterate 4 refine All4.cons 21 (col21 c arg2 harg2 arg3 harg3 x0 x1) ?_
  iterate 4 refine All4.cons 20 (col20 c arg2 harg2 arg3 harg3 x0 x1) ?_
  iterate 4 refine All4.cons 19 (col19 c arg2 harg2 arg3 harg3 x0 x1) ?_
  iterate 4 refine All4.cons 18 (col18 c arg2 harg2 arg3 harg3 x0 x1) ?_
  iterate 4 refine All4.cons 17 (col17 c arg2 harg2 arg3 harg3 x0 x1) ?_
  iterate 4 refine All4.cons 16 (col16 c arg2 harg2 arg3 harg3 x0 x1) ?_
  iterate 4 refine All4.cons 15 (col15 c arg2 harg2 arg3 harg3 x0 x1) ?_
  iterate 4 refine All4.cons 14 (col14 c arg2 harg2 arg3 harg3 x0 x1) ?_
  iterate 4 refine All4.cons 13 (col13 c arg2 harg2 arg3 harg3 x0 x1) ?_
  iterate 4 refine All4.cons 12 (col12 c arg2 harg2 arg3 harg3 x0 x1) ?_
  iterate 4 refine All4.cons 11 (col11 c arg2 harg2 arg3 harg3 x0 x1) ?_
  iterate 4 refine All4.cons 10 (col10 c arg2 harg2 arg3 harg3 x0 x1) ?_
  iterate 4 refine All4.cons 9 (col9 c arg2 harg2 arg3 harg3 x0 x1) ?_
  iterate 4 refine All4.cons 8 (col8 c arg2 harg2 arg3 harg3 x0 x1) ?_
  iterate 4 refine All4.cons 7 (col7 c arg2 harg2 arg3 harg3 x0 x1) ?_
  iterate 4 refine All4.cons 6 (col6 c arg2 harg2 arg3 harg3 x0 x1) ?_
  iterate 4 refine All4.cons 5 (col5 c arg2 harg2 arg3 harg3 x0 x1) ?_
  iterate 4 refine All4.cons 4 (col4 c arg2 harg2 arg3 harg3 x0 x1) ?_
  iterate 4 refine All4.cons 3 (col3 c arg2 harg2 arg3 harg3 x0 x1) ?_
  iterate 4 refine All4.cons 2 (col2 c arg2 harg2 arg3 harg3 x0 x1) ?_
  iterate 4 refine All4.cons 1 (col1 c arg2 harg2 arg3 harg3 x0 x1) ?_
  iterate 4 refine All4.cons 0 (col0 c arg2 harg2 arg3 harg3 x0 x1) ?_
  exact All4.nil x0 x1

/-- The pieces of the rows sorted modulo 16. -/
theorem pieces16 : All16 x0 x1 (kernelRun0_A (F := Ideal) c i arg2 harg2 arg3 harg3 arg4 harg4 arg5 harg5 arg6 harg6 arg7 harg7 arg8 harg8 x0 x1).2.2.1 := by
  iterate 16 refine All16.cons 23 (slab23 c arg2 harg2 arg3 harg3 arg7 x0 x1) ?_
  iterate 16 refine All16.cons 22 (slab22 c arg2 harg2 arg3 harg3 arg7 x0 x1) ?_
  iterate 16 refine All16.cons 21 (slab21 c arg2 harg2 arg3 harg3 arg7 x0 x1) ?_
  iterate 16 refine All16.cons 20 (slab20 c arg2 harg2 arg3 harg3 arg7 x0 x1) ?_
  iterate 16 refine All16.cons 19 (slab19 c arg2 harg2 arg3 harg3 arg7 x0 x1) ?_
  iterate 16 refine All16.cons 18 (slab18 c arg2 harg2 arg3 harg3 arg7 x0 x1) ?_
  iterate 16 refine All16.cons 17 (slab17 c arg2 harg2 arg3 harg3 arg7 x0 x1) ?_
  iterate 16 refine All16.cons 16 (slab16 c arg2 harg2 arg3 harg3 arg7 x0 x1) ?_
  iterate 16 refine All16.cons 15 (slab15 c arg2 harg2 arg3 harg3 arg7 x0 x1) ?_
  iterate 16 refine All16.cons 14 (slab14 c arg2 harg2 arg3 harg3 arg7 x0 x1) ?_
  iterate 16 refine All16.cons 13 (slab13 c arg2 harg2 arg3 harg3 arg7 x0 x1) ?_
  iterate 16 refine All16.cons 12 (slab12 c arg2 harg2 arg3 harg3 arg7 x0 x1) ?_
  iterate 16 refine All16.cons 11 (slab11 c arg2 harg2 arg3 harg3 arg7 x0 x1) ?_
  iterate 16 refine All16.cons 10 (slab10 c arg2 harg2 arg3 harg3 arg7 x0 x1) ?_
  iterate 16 refine All16.cons 9 (slab9 c arg2 harg2 arg3 harg3 arg7 x0 x1) ?_
  iterate 16 refine All16.cons 8 (slab8 c arg2 harg2 arg3 harg3 arg7 x0 x1) ?_
  iterate 16 refine All16.cons 7 (slab7 c arg2 harg2 arg3 harg3 arg7 x0 x1) ?_
  iterate 16 refine All16.cons 6 (slab6 c arg2 harg2 arg3 harg3 arg7 x0 x1) ?_
  iterate 16 refine All16.cons 5 (slab5 c arg2 harg2 arg3 harg3 arg7 x0 x1) ?_
  iterate 16 refine All16.cons 4 (slab4 c arg2 harg2 arg3 harg3 arg7 x0 x1) ?_
  iterate 16 refine All16.cons 3 (slab3 c arg2 harg2 arg3 harg3 arg7 x0 x1) ?_
  iterate 16 refine All16.cons 2 (slab2 c arg2 harg2 arg3 harg3 arg7 x0 x1) ?_
  iterate 16 refine All16.cons 1 (slab1 c arg2 harg2 arg3 harg3 arg7 x0 x1) ?_
  iterate 16 refine All16.cons 0 (slab0 c arg2 harg2 arg3 harg3 arg7 x0 x1) ?_
  exact All16.nil x0 x1
end

end Cert.Dil

end
-- ==== Proof.DilValue.lean ====
/- The projection in front of the dilated attentions: the three arrays after the run. -/
module

public import proofs.«01_k».proof.Proof.DilKernel
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Dil

open Idealize.ShloMosaic Idealize.ShloMosaic.TcCoe Idealize.SL.Sem
open Idealize.ShloMosaic.Pipeline (Dat)
open Cert.Kernel3Ideal Cert.Kernel3Ideal.Gen Cert.Entries

variable (m : (ℓ : Loc nD τ sig) → Buf (Elt Ideal) ℓ)

section
variable (c : Dev nD) (i : grid0.Coords) (arg2 : Memref sig .tc .vmem S512x1024 .f32) (harg2 : arg2.IsWhole)
  (arg3 : Memref sig .tc .vmem S1024x3072 .bf16) (harg3 : arg3.IsWhole)
  (arg4 : Memref sig .tc .vmem S1x1x512x3072 .bf16) (harg4 : arg4.IsWhole)
  (arg5 : Memref sig .tc .vmem S1x4x128x3072 .bf16) (harg5 : arg5.IsWhole)
  (arg6 : Memref sig .tc .vmem S1x16x32x3072 .bf16) (harg6 : arg6.IsWhole)
  (arg7 : Memref sig .tc .vmem S512x128 .f32) (harg7 : arg7.IsWhole) (arg8 : Memref sig .tc .vmem S4x128x128 .f32) (harg8 : arg8.IsWhole)
  (x0 : FVec Ideal S512x1024 .f32) (x1 : FVec Ideal S1024x3072 .bf16)

/-- What the body leaves in the block of the rows in order. -/
theorem out1 (y : S1x1x512x3072.Idx) :
    out0_A_2 (F := Ideal) c i arg2 harg2 arg3 harg3 arg4 harg4 arg5 harg5 arg6 harg6 arg7 harg7 arg8 harg8 x0 x1 y = ent x0 x1 (y 2).val (y 3).val := by
  exact (pieces1 c arg2 harg2 arg3 harg3 arg7 arg8 x0 x1 i arg4 harg4 arg5 harg5 arg6 harg6 harg7 harg8).out VO0_2 _ y
    (cover0_A_2 (F := Ideal) c i arg2 harg2 arg3 harg3 arg4 harg4 arg5 harg5 arg6 harg6 arg7 harg7 arg8 harg8 x0 x1 y)

/-- What the body leaves in the block of the rows sorted modulo 4. -/
theorem out4 (y : S1x4x128x3072.Idx) :
    out0_A_3 (F := Ideal) c i arg2 harg2 arg3 harg3 arg4 harg4 arg5 harg5 arg6 harg6 arg7 harg7 arg8 harg8 x0 x1 y = ent x0 x1 ((y 1).val + 4 * (y 2).val) (y 3).val := by
  exact (pieces4 c arg2 harg2 arg3 harg3 arg7 arg8 x0 x1 i arg4 harg4 arg5 harg5 arg6 harg6 harg7 harg8).out VO0_3 _ y
    (cover0_A_3 (F := Ideal) c i arg2 harg2 arg3 harg3 arg4 harg4 arg5 harg5 arg6 harg6 arg7 harg7 arg8 harg8 x0 x1 y)

/-- What the body leaves in the block of the rows sorted modulo 16. -/
theorem out16 (y : S1x16x32x3072.Idx) :
    out0_A_4 (F := Ideal) c i arg2 harg2 arg3 harg3 arg4 harg4 arg5 harg5 arg6 harg6 arg7 harg7 arg8 harg8 x0 x1 y = ent x0 x1 ((y 1).val + 16 * (y 2).val) (y 3).val := by
  exact (pieces16 c arg2 harg2 arg3 harg3 arg7 arg8 x0 x1 i arg4 harg4 arg5 harg5 arg6 harg6 harg7 harg8).out VO0_4 _ y
    (cover0_A_4 (F := Ideal) c i arg2 harg2 arg3 harg3 arg4 harg4 arg5 harg5 arg6 harg6 arg7 harg7 arg8 harg8 x0 x1 y)

end

/-- The windows' block indices in the point's position. -/
theorem idx : ∀ t : Fin cfg0.N, win0_0.index t = ![t.val, 0] ∧ win0_1.index t = ![0, 0]
      ∧ win0_2.index t = ![t.val / 8, 0, t.val % 8, 0] ∧ win0_3.index t = ![t.val / 8, 0, t.val % 8, 0]
      ∧ win0_4.index t = ![t.val / 8, 0, t.val % 8, 0] :=
  (by decide +kernel : ∀ t : Fin grid0.N, _)

/-- The weight of the layer as a matrix. -/
def mat (B : FVec Ideal S1x1024x3072 .f32) : FVec Ideal S1024x3072 .bf16 := fun i => B (ix3 0 (i 0) (i 1))

section
variable (c : Dev nD) (A : FVec Ideal S32768x1024 .f32) (hmA : m ((c : Thread nD τ).loc main_arg0) = A)
  (B : FVec Ideal S1x1024x3072 .f32) (hmB : m ((c : Thread nD τ).loc main_arg1) = B)

include hmA in
/-- The rows' block of point `t`. -/
theorem blk_x (t : Fin cfg0.N) (i : Fin 512) (k : Fin 1024) :
    (iblk m c 0 t : FVec Ideal S512x1024 .f32) (ix2 i k)
      = A (ix2 ⟨t.val * 512 + i.val, by have h : t.val < 64 := t.isLt; omega⟩ k) := by
  subst hmA
  blk_simp [iblk]
  rw [V_main_arg0]
  refine congrArg _ (funext fun a => Fin.ext ?_)
  fin_cases a <;> blk_simp [idx t] <;> rfl

include hmB in
/-- The weight the region finds. -/
theorem weight (k : Fin 1024) (j : Fin 3072) :
    (V m c main_v1 : FVec Ideal S1024x3072 .bf16) (ix2 k j) = mat B (ix2 k j) := by
  subst hmB
  unfold V mat
  after_results_simp
  pointwise

include hmB in
/-- The block of the weight is the weight. -/
theorem blk_w (t : Fin cfg0.N) (k : Fin 1024) (j : Fin 3072) :
    (iblk m c 1 t : FVec Ideal S1024x3072 .bf16) (ix2 k j) = mat B (ix2 k j) := by
  rw [← weight m c B hmB]
  blk_simp [iblk]
  refine congrArg _ (funext fun a => Fin.ext ?_)
  fin_cases a <;> blk_simp [idx t]

include hmA hmB in
/-- An entry of point `t`'s blocks is the entry of the arrays. -/
theorem ent_blk (t : Fin cfg0.N) (i j : ℕ) (hi : i < 512) (hj : j < 3072) :
    ent (iblk m c 0 t : FVec Ideal S512x1024 .f32) (iblk m c 1 t) i j = ent A (mat B) (t.val * 512 + i) j := by
  have ht : t.val < 64 := t.isLt
  by_cases h : j < 1024
  · refine (ent_query _ _ ⟨i, hi⟩ ⟨j, hj⟩ h).trans
      (Eq.trans ?_ (ent_query A (mat B) ⟨t.val * 512 + i, by omega⟩ ⟨j, hj⟩ h).symm)
    refine congrArg (· * _) (Finset.sum_congr rfl fun k _ => ?_)
    rw [blk_x m c A hmA, blk_w m c B hmB]
  · refine (ent_other _ _ ⟨i, hi⟩ ⟨j, hj⟩ h).trans
      (Eq.trans ?_ (ent_other A (mat B) ⟨t.val * 512 + i, by omega⟩ ⟨j, hj⟩ h).symm)
    refine Finset.sum_congr rfl fun k _ => ?_
    rw [blk_x m c A hmA, blk_w m c B hmB]

include hmA hmB in
/-- What point `t` leaves in the block of the rows in order. -/
theorem point1 (t : Fin cfg0.N) (y : S1x1x512x3072.Idx) (a b : ℕ) (ha : a = t.val * 512 + (y 2).val) (hb : b = (y 3).val) :
    (outsAt0 m c t).1 y = ent A (mat B) a b := by
  subst ha hb
  have h2 : (y 2).val < 512 := (y 2).isLt
  have h3 : (y 3).val < 3072 := (y 3).isLt
  refine Eq.trans ?_ (ent_blk m c A hmA B hmB t (y 2).val (y 3).val h2 h3)
  simp only [outsAt0]
  exact out1 c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) y

include hmA hmB in
/-- What point `t` leaves in the block of the rows sorted modulo 4. -/
theorem point4 (t : Fin cfg0.N) (y : S1x4x128x3072.Idx) (a b : ℕ) (ha : a = t.val * 512 + ((y 1).val + 4 * (y 2).val))
    (hb : b = (y 3).val) :
    (outsAt0 m c t).2.1 y = ent A (mat B) a b := by
  have h1 : (y 1).val < 4 := (y 1).isLt
  have h2 : (y 2).val < 128 := (y 2).isLt
  have h3 : (y 3).val < 3072 := (y 3).isLt
  subst ha hb
  refine Eq.trans ?_ (ent_blk m c A hmA B hmB t ((y 1).val + 4 * (y 2).val) (y 3).val (by omega) h3)
  simp only [outsAt0]
  exact out4 c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) y

include hmA hmB in
/-- What point `t` leaves in the block of the rows sorted modulo 16. -/
theorem point16 (t : Fin cfg0.N) (y : S1x16x32x3072.Idx) (a b : ℕ) (ha : a = t.val * 512 + ((y 1).val + 16 * (y 2).val))
    (hb : b = (y 3).val) :
    (outsAt0 m c t).2.2 y = ent A (mat B) a b := by
  have h1 : (y 1).val < 16 := (y 1).isLt
  have h2 : (y 2).val < 32 := (y 2).isLt
  have h3 : (y 3).val < 3072 := (y 3).isLt
  subst ha hb
  refine Eq.trans ?_ (ent_blk m c A hmA B hmB t ((y 1).val + 16 * (y 2).val) (y 3).val (by omega) h3)
  simp only [outsAt0]
  exact out16 c (grid0.coords t) (ms0_0 t) (hs0_0 t) (ms0_1 t) (hs0_1 t) (ms0_2 t) (hs0_2 t) (ms0_3 t) (hs0_3 t)
    (ms0_4 t) (hs0_4 t) scM0_0 (Memref.isWhole_whole _) scM0_1 (Memref.isWhole_whole _) (iblk m c 0 t) (iblk m c 1 t) y

include hmA hmB in
/-- The first result after the run: the rows in order. -/
theorem final1 : (dats m 0 c).arrAt 2 (cfgs 0).N
    = (fun i : S8x1x4096x3072.Idx => ent A (mat B) ((i 0).val * 4096 + (i 2).val) (i 3).val : FVec Ideal S8x1x4096x3072 .bf16) := by
  refine (dats m 0 c).arrAt_eq_of_covers 2 _ (by decide +kernel) fun t _ y => ?_
  have ht : t.val < 64 := t.isLt
  have h0 : (y 0).val < 1 := (y 0).isLt
  blk_simp
  rw [after0_2]
  refine point1 m c A hmA B hmB t y _ _ ?_ ?_ <;> blk_simp [idx t] <;> try omega

include hmA hmB in
/-- The second result after the run: the rows sorted modulo 4. -/
theorem final4 : (dats m 0 c).arrAt 3 (cfgs 0).N
    = (fun i : S8x4x1024x3072.Idx => ent A (mat B) ((i 0).val * 4096 + (4 * (i 2).val + (i 1).val)) (i 3).val
      : FVec Ideal S8x4x1024x3072 .bf16) := by
  refine (dats m 0 c).arrAt_eq_of_covers 3 _ (by decide +kernel) fun t _ y => ?_
  have ht : t.val < 64 := t.isLt
  have h0 : (y 0).val < 1 := (y 0).isLt
  blk_simp
  rw [after0_3]
  refine point4 m c A hmA B hmB t y _ _ ?_ ?_ <;> blk_simp [idx t] <;> try omega

include hmA hmB in
/-- The third result after the run: the rows sorted modulo 16. -/
theorem final16 : (dats m 0 c).arrAt 4 (cfgs 0).N
    = (fun i : S8x16x256x3072.Idx => ent A (mat B) ((i 0).val * 4096 + (16 * (i 2).val + (i 1).val)) (i 3).val
      : FVec Ideal S8x16x256x3072 .bf16) := by
  refine (dats m 0 c).arrAt_eq_of_covers 4 _ (by decide +kernel) fun t _ y => ?_
  have ht : t.val < 64 := t.isLt
  have h0 : (y 0).val < 1 := (y 0).isLt
  blk_simp
  rw [after0_4]
  refine point16 m c A hmA B hmB t y _ _ ?_ ?_ <;> blk_simp [idx t] <;> try omega
end

end Cert.Dil

end
-- ==== Proof.ProjSpec.lean ====
/- The projections in front of the two attentions: the result as a function of the arguments, and the form the
   call computes it in. -/
module

public import proofs.«01_k».proof.Proof.Soft
public import proofs.«01_k».proof.Proof.Entries
public import Idealize.ShloMosaic.Lib.Pointwise

@[expose] public section

set_option maxRecDepth 16384

noncomputable section

namespace Cert.Proj

open Idealize.ShloMosaic Cert.Soft Cert.Entries

/-- The entry at row `a`, column `b` of a stack of one array, as a real; zero outside. -/
def rd3 {n k : ℕ} {φ : FTy} (A : FVec Ideal ⟨3, ![1, n, k]⟩ φ) (a b : ℕ) : ℝ :=
  if h : a < n ∧ b < k then EReal.toReal (A (ix3 0 ⟨a, h.1⟩ ⟨b, h.2⟩)) else 0

/-- A stack of one array of reals is its entries. -/
theorem rd3_eq {n k : ℕ} {φ : FTy} (A : FVec Ideal ⟨3, ![1, n, k]⟩ φ)
    (hA : ∀ i, A i = ((EReal.toReal (A i) : ℝ) : EReal)) (z : Fin 1) (i : Fin n) (j : Fin k) :
    A (ix3 z i j) = ((rd3 A i.val j.val : ℝ) : EReal) := by
  unfold rd3
  rw [dif_pos ⟨i.isLt, j.isLt⟩, hA, Subsingleton.elim z 0]

/-- The same at a column whose number is `n`. -/
theorem rd3_at {n k : ℕ} {φ : FTy} (A : FVec Ideal ⟨3, ![1, n, k]⟩ φ)
    (hA : ∀ i, A i = ((EReal.toReal (A i) : ℝ) : EReal)) (z : Fin 1) (i : Fin n) (j : Fin k) (e : ℕ) (h : j.val = e) :
    A (ix3 z i j) = ((rd3 A i.val e : ℝ) : EReal) := by
  subst h
  exact rd3_eq A hA z i j

/-- The same for the negated entry. -/
theorem rd3_neg {n k : ℕ} {φ : FTy} (A : FVec Ideal ⟨3, ![1, n, k]⟩ φ)
    (hA : ∀ i, A i = ((EReal.toReal (A i) : ℝ) : EReal)) (z : Fin 1) (i : Fin n) (j : Fin k) (e : ℕ) (h : j.val = e) :
    -(A (ix3 z i j)) = ((-rd3 A i.val e : ℝ) : EReal) := by
  rw [rd3_at A hA z i j e h, EReal.coe_neg]

/-- An array of reals at an index spelled out is its entries. -/
theorem rd2_eq {n k : ℕ} {φ : FTy} (A : FVec Ideal ⟨2, ![n, k]⟩ φ)
    (hA : ∀ i, A i = ((EReal.toReal (A i) : ℝ) : EReal)) (i : Fin n) (j : Fin k) :
    A (ix2 i j) = ((rd A i.val j.val : ℝ) : EReal) := rd_eq A hA _ _ _ rfl rfl

/-- The small constant of the norms. -/
def eps : ℝ := (Ideal.ofBits .f32 0x3727C5AC#32).toReal

/-- The pattern of the small constant is a positive real. -/
theorem bits_eps : Ideal.ofBits .f32 0x3727C5AC#32 = ((eps : ℝ) : EReal) ∧ 0 < eps := by
  have h : ∃ e : ℝ, Ideal.ofBits .f32 0x3727C5AC#32 = (e : EReal) ∧ 0 < e := by
    refine ⟨_, by simp [Ideal.ofBits, Ideal.ieee, -EReal.coe_mul]; rfl, by positivity⟩
  obtain ⟨e, he, hp⟩ := h
  unfold eps
  rw [he]
  exact ⟨rfl, hp⟩

/-- The norm of a row `o` at column `l`: times the reciprocal of the root of its mean square plus the small
    constant, times the gain. -/
def rms {n : ℕ} (N : ℝ) (o g : Fin n → ℝ) (l : Fin n) : ℝ := o l * (√((∑ x, o x * o x) * (1 / N) + eps))⁻¹ * g l

/-- The norm as it is computed. -/
theorem rms_eq {n : ℕ} (N : ℝ) (hN : 0 < N) (d : EReal) (hd : d = (N : EReal)) (o g : Fin n → EReal) (O G : Fin n → ℝ)
    (ho : ∀ i, o i = ((O i : ℝ) : EReal)) (hg : ∀ i, g i = ((G i : ℝ) : EReal)) (l : Fin n) :
    o l * Ideal.rsqrt (Ideal.div (∑ x, o x * o x) d + Ideal.ofBits .f32 0x3727C5AC#32) * g l
      = ((rms N O G l : ℝ) : EReal) := by
  have hp : 0 < (∑ x, O x * O x) * (1 / N) + eps := by
    have h1 : 0 ≤ ∑ x, O x * O x := Finset.sum_nonneg fun x _ => mul_self_nonneg _
    have h2 := bits_eps.2
    positivity
  unfold rms
  rw [coe_dot o o O O ho ho, hd, Ideal.div_coe hN.ne', bits_eps.1, ← EReal.coe_mul, ← EReal.coe_add, Ideal.rsqrt_coe,
    if_neg (not_lt.2 hp.le), if_neg hp.ne', ho, hg, ← EReal.coe_mul, ← EReal.coe_mul]

/-- The pattern of one hundred and twenty-eight. -/
theorem bits_128 : Ideal.ofBits .f32 0x43000000#32 = ((128 : ℝ) : EReal) := by
  simp [Ideal.ofBits, Ideal.ieee, -EReal.coe_mul]; norm_num

/-- The pattern of two hundred and fifty-six. -/
theorem bits_256 : Ideal.ofBits .f32 0x43800000#32 = ((256 : ℝ) : EReal) := by
  simp [Ideal.ofBits, Ideal.ieee, -EReal.coe_mul]; norm_num

/-- The pattern of thirty-two. -/
theorem bits_32 : Ideal.ofBits .f32 0x42000000#32 = ((32 : ℝ) : EReal) := by
  simp [Ideal.ofBits, Ideal.ieee, -EReal.coe_mul]; norm_num

/-- The pattern of eight. -/
theorem bits_8 : Ideal.ofBits .f32 0x41000000#32 = ((8 : ℝ) : EReal) := by
  simp [Ideal.ofBits, Ideal.ieee, -EReal.coe_mul]; norm_num

/-- The pattern of ten thousand. -/
theorem bits_10000 : Ideal.ofBits .f32 0x461C4000#32 = ((10000 : ℝ) : EReal) := by
  simp [Ideal.ofBits, Ideal.ieee, -EReal.coe_mul]; norm_num

/-- The angle of position `p` in the `e`-th of sixteen pairs. -/
def ang (p e : ℕ) : ℝ := (p : ℝ) * (10000 : ℝ).rpow (-(e : ℝ) * 2 * (1 / 32))

/-- A small number's pattern is the number. -/
theorem num (n : ℕ) (hn : n < 4096) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

/-- The angle as it is computed. -/
theorem ang_eq (p e : ℕ) (hp : p < 4096) (he : e < 16) :
    (FloatOps.sitofp .f32 (BitVec.ofNat 32 p) : Ideal .f32) * Ideal.pow (Ideal.ofBits .f32 0x461C4000#32)
        (Ideal.div (-(FloatOps.sitofp .f32 (BitVec.ofNat 32 e) : Ideal .f32) * Ideal.ofBits .f32 0x40000000#32)
          (Ideal.ofBits .f32 0x42000000#32)) = ((ang p e : ℝ) : EReal) := by
  rw [num p hp, num e (by omega), bits_two, bits_32, bits_10000, ← EReal.coe_neg, ← EReal.coe_mul,
    Ideal.div_coe (by norm_num), ← EReal.coe_mul, Ideal.pow_coe_coe, ← EReal.coe_mul]
  rfl

/-- The queries' factor: the reciprocal of the root of their length and of `log 2`. -/
def qs : ℝ := 1 / (√96 * Real.log 2)

/-- The queries' factor as it is computed. -/
theorem qs_eq : Ideal.div 1 (Ideal.sqrt (Ideal.ofBits .f32 0x42C00000#32) * Ideal.log (Ideal.ofBits .f32 0x40000000#32))
    = ((qs : ℝ) : EReal) := by
  have h2 : (0 : ℝ) < Real.log 2 := Real.log_pos (by norm_num)
  have h3 : (0 : ℝ) < √96 := Real.sqrt_pos.2 (by norm_num)
  rw [bits_96, bits_two, Ideal.sqrt_coe, if_neg (by norm_num), Ideal.log_coe, if_neg (by norm_num), ← EReal.coe_mul,
    Ideal.div_coe (by positivity), one_mul]
  rfl

/-- A group of 32 columns after the rotation by position `p`'s angles, at column `d`: the columns `e` and `16 + e` are
    a pair. -/
def rot (f : ℕ → ℝ) (p d : ℕ) : ℝ :=
  if d < 16 then f d * Real.cos (ang p d) - f (d + 16) * Real.sin (ang p d)
  else f (d - 16) * Real.sin (ang p (d - 16)) + f d * Real.cos (ang p (d - 16))

section
variable (A : FVec Ideal ⟨2, ![32768, 1024]⟩ .f32) (B : FVec Ideal ⟨3, ![1, 1024, 1952]⟩ .f32)
  (G : FVec Ideal ⟨2, ![1, 256]⟩ .f32) (W : FVec Ideal ⟨3, ![1, 256, 384]⟩ .f32)
  (G' : FVec Ideal ⟨2, ![1, 128]⟩ .f32) (W' : FVec Ideal ⟨3, ![1, 128, 768]⟩ .f32)

/-- The first projection at row `r`, column `j`. -/
def hin (r j : ℕ) : ℝ := ∑ k : Fin 1024, rd A r k.val * rd3 B k.val j

/-- The latent queries after their norm. -/
def latq (r : ℕ) (l : Fin 256) : ℝ := rms 256 (fun k => hin A B r (1536 + k.val)) (fun k => rd G 0 k.val) l

/-- The latent keys and values after their norm. -/
def latkv (r : ℕ) (l : Fin 128) : ℝ := rms 128 (fun k => hin A B r (1792 + k.val)) (fun k => rd G' 0 k.val) l

/-- The queries' second projection. -/
def uq (r j : ℕ) : ℝ := ∑ k : Fin 256, latq A B G r k * rd3 W k.val j

/-- The keys' and values' second projection. -/
def ukv (r j : ℕ) : ℝ := ∑ k : Fin 128, latkv A B G' r k * rd3 W' k.val j

/-- The result at row `r`, column `c`: the differential attention's queries times their factor, its keys and values;
    then per head the latent attention's queries times their factor, its keys, and its values, the queries' and keys'
    last 32 of 128 columns zero and the 32 before them rotated. -/
def res (r c : ℕ) : ℝ :=
  if c < 512 then hin A B r c * (8 * Real.log 2)⁻¹
  else if c < 1536 then hin A B r c
  else if c < 2048 then
    (if c % 128 < 64 then uq A B G W r ((c - 1536) / 128 * 96 + c % 128)
     else if c % 128 < 96 then rot (fun e => uq A B G W r ((c - 1536) / 128 * 96 + (64 + e))) (r % 4096) (c % 128 - 64)
     else 0) * qs
  else if c < 2560 then
    (if c % 128 < 64 then ukv A B G' W' r ((c - 2048) / 128 * 192 + c % 128)
     else if c % 128 < 96 then rot (fun e => hin A B r (1920 + e)) (r % 4096) (c % 128 - 64)
     else 0)
  else ukv A B G' W' r ((c - 2560) / 128 * 192 + (64 + c % 128))

/-! ## The form the call computes -/

/-- The second weight the call multiplies the rows with: the latent columns, then the keys' rotated columns and
    those columns with the pairs exchanged and one half negated, each between zeros. -/
def wc (k j : ℕ) : ℝ :=
  if j < 384 then rd3 B k (1536 + j)
  else if j < 448 then 0
  else if j < 480 then rd3 B k (1920 + (j - 448))
  else if j < 576 then 0
  else if j < 592 then -rd3 B k (1920 + (j - 576 + 16))
  else if j < 608 then rd3 B k (1920 + (j - 592))
  else 0

/-- The rows times the second weight. -/
def hc (r j : ℕ) : ℝ := ∑ k : Fin 1024, rd A r k.val * wc B k.val j

/-- The weight the latent queries are multiplied with: per head 96 columns and 32 zeros, and once more the rotated
    columns with the pairs exchanged and one half negated. -/
def wq (k j : ℕ) : ℝ :=
  if j < 512 then (if j % 128 < 96 then rd3 W k (j / 128 * 96 + j % 128) else 0)
  else if j % 128 < 64 then 0
  else if j % 128 < 80 then -rd3 W k ((j - 512) / 128 * 96 + (64 + (j % 128 - 64 + 16)))
  else if j % 128 < 96 then rd3 W k ((j - 512) / 128 * 96 + (64 + (j % 128 - 80)))
  else 0

/-- The latent queries times their weight. -/
def q2 (r j : ℕ) : ℝ := ∑ k : Fin 256, latq A B G r k * wq W k.val j

/-- The weight of the latent keys and values: per head the keys' 64 columns and 64 zeros, then the values'. -/
def wkv (k j : ℕ) : ℝ :=
  if j < 512 then (if j % 128 < 64 then rd3 W' k (j / 128 * 192 + j % 128) else 0)
  else rd3 W' k ((j - 512) / 128 * 192 + (64 + j % 128))

/-- The latent keys and values times their weight. -/
def kv2 (r j : ℕ) : ℝ := ∑ k : Fin 128, latkv A B G' r k * wkv W' k.val j

/-- The table of the cosines: zero outside the rotated columns. -/
def tcos (p d : ℕ) : ℝ :=
  if d < 64 then 0 else if d < 80 then Real.cos (ang p (d - 64)) else if d < 96 then Real.cos (ang p (d - 80)) else 0

/-- The table of the sines. -/
def tsin (p d : ℕ) : ℝ :=
  if d < 64 then 0 else if d < 80 then Real.sin (ang p (d - 64)) else if d < 96 then Real.sin (ang p (d - 80)) else 0

/-- The queries' table of the cosines: the columns before the rotated ones are kept. -/
def qcos (p d : ℕ) : ℝ := (if d < 64 then 1 else tcos p d) * qs

/-- The result as the call computes it. -/
def kout (r c : ℕ) : ℝ :=
  if c < 512 then hin A B r c * (8 * Real.log 2)⁻¹
  else if c < 1536 then hin A B r c
  else if c < 2048 then
    q2 A B G W r (c - 1536) * qcos (r % 4096) (c % 128) + q2 A B G W r (512 + (c - 1536)) * (tsin (r % 4096) (c % 128) * qs)
  else if c < 2560 then
    kv2 A B G' W' r (c - 2048)
      + (hc A B r (384 + c % 128) * tcos (r % 4096) (c % 128) + hc A B r (512 + c % 128) * tsin (r % 4096) (c % 128))
  else kv2 A B G' W' r (c - 2048)

/-- The second weight's first columns. -/
theorem hc_lat (r j : ℕ) (h : j < 384) : hc A B r j = hin A B r (1536 + j) := by
  unfold hc hin
  simp only [wc, if_pos h]

/-- A weight's column as a column of another weight. -/
theorem hc_col (r j i : ℕ) (h : ∀ k, wc B k j = rd3 B k i) : hc A B r j = hin A B r i := by
  unfold hc hin
  simp only [h]

/-- A weight's column as the negated column of another weight. -/
theorem hc_neg (r j i : ℕ) (h : ∀ k, wc B k j = -rd3 B k i) : hc A B r j = -hin A B r i := by
  unfold hc hin
  simp only [h, mul_neg, Finset.sum_neg_distrib]

/-- A column of the latent queries' weight as a column of the argument. -/
theorem q2_col (r j i : ℕ) (h : ∀ k, wq W k j = rd3 W k i) : q2 A B G W r j = uq A B G W r i := by
  unfold q2 uq
  simp only [h]

/-- A column of the latent queries' weight as a negated column of the argument. -/
theorem q2_neg (r j i : ℕ) (h : ∀ k, wq W k j = -rd3 W k i) : q2 A B G W r j = -uq A B G W r i := by
  unfold q2 uq
  simp only [h, mul_neg, Finset.sum_neg_distrib]

/-- A zero column of the latent queries' weight. -/
theorem q2_zero (r j : ℕ) (h : ∀ k, wq W k j = 0) : q2 A B G W r j = 0 := by
  unfold q2
  simp only [h, mul_zero, Finset.sum_const_zero]

/-- A column of the latent keys' and values' weight as a column of the argument. -/
theorem kv2_col (r j i : ℕ) (h : ∀ k, wkv W' k j = rd3 W' k i) : kv2 A B G' W' r j = ukv A B G' W' r i := by
  unfold kv2 ukv
  simp only [h]

/-- A zero column of the latent keys' and values' weight. -/
theorem kv2_zero (r j : ℕ) (h : ∀ k, wkv W' k j = 0) : kv2 A B G' W' r j = 0 := by
  unfold kv2
  simp only [h, mul_zero, Finset.sum_const_zero]

/-- The queries' columns: the call's form is the result's. -/
theorem kout_q (r c : ℕ) (h0 : 1536 ≤ c) (h1 : c < 2048) : kout A B G W G' W' r c = res A B G W G' W' r c := by
  unfold kout res
  rw [if_neg (by omega), if_neg (by omega), if_pos h1, if_neg (by omega), if_neg (by omega), if_pos h1]
  have hm : (c - 1536) % 128 = c % 128 := by omega
  have hm' : (512 + (c - 1536)) % 128 = c % 128 := by omega
  have hs : 512 + (c - 1536) - 512 = c - 1536 := by omega
  by_cases d0 : c % 128 < 64
  · rw [q2_col A B G W r (c - 1536) ((c - 1536) / 128 * 96 + c % 128)
        (fun k => by unfold wq; rw [if_pos (by omega), hm, if_pos (by omega)]), if_pos d0]
    unfold qcos tsin
    rw [if_pos d0, if_pos d0]
    ring
  · by_cases d1 : c % 128 < 80
    · rw [q2_col A B G W r (c - 1536) ((c - 1536) / 128 * 96 + (64 + (c % 128 - 64)))
          (fun k => by unfold wq; rw [if_pos (by omega), hm, if_pos (by omega), show 64 + (c % 128 - 64) = c % 128 by omega]),
        q2_neg A B G W r (512 + (c - 1536)) ((c - 1536) / 128 * 96 + (64 + (c % 128 - 64 + 16)))
          (fun k => by unfold wq; rw [if_neg (by omega), hm', if_neg d0, if_pos d1, hs]), if_neg d0, if_pos (by omega)]
      unfold qcos tsin tcos rot
      rw [if_neg d0, if_neg d0, if_neg d0, if_pos d1, if_pos d1, if_pos (by omega)]
      ring
    · by_cases d2 : c % 128 < 96
      · rw [q2_col A B G W r (c - 1536) ((c - 1536) / 128 * 96 + (64 + (c % 128 - 64)))
            (fun k => by unfold wq; rw [if_pos (by omega), hm, if_pos (by omega), show 64 + (c % 128 - 64) = c % 128 by omega]),
          q2_col A B G W r (512 + (c - 1536)) ((c - 1536) / 128 * 96 + (64 + (c % 128 - 64 - 16)))
            (fun k => by
              unfold wq
              rw [if_neg (by omega), hm', if_neg d0, if_neg d1, if_pos d2, hs, show c % 128 - 64 - 16 = c % 128 - 80 by omega]),
          if_neg d0, if_pos d2]
        unfold qcos tsin tcos rot
        rw [if_neg d0, if_neg d0, if_neg d0, if_neg d1, if_neg d1, if_pos d2, if_pos d2, if_neg (by omega),
          show c % 128 - 64 - 16 = c % 128 - 80 by omega]
        ring
      · rw [q2_zero A B G W r (c - 1536) (fun k => by unfold wq; rw [if_pos (by omega), hm, if_neg d2]), if_neg d0, if_neg d2]
        unfold tsin
        rw [if_neg d0, if_neg d1, if_neg d2]
        ring

/-- The keys' columns: the call's form is the result's. -/
theorem kout_k (r c : ℕ) (h0 : 2048 ≤ c) (h1 : c < 2560) : kout A B G W G' W' r c = res A B G W G' W' r c := by
  unfold kout res
  rw [if_neg (by omega), if_neg (by omega), if_neg (by omega), if_pos h1, if_neg (by omega), if_neg (by omega),
    if_neg (by omega), if_pos h1]
  have hm : (c - 2048) % 128 = c % 128 := by omega
  by_cases d0 : c % 128 < 64
  · rw [kv2_col A B G' W' r (c - 2048) ((c - 2048) / 128 * 192 + c % 128)
        (fun k => by unfold wkv; rw [if_pos (by omega), hm, if_pos d0]), if_pos d0]
    unfold tcos tsin
    rw [if_pos d0, if_pos d0]
    ring
  · rw [kv2_zero A B G' W' r (c - 2048) (fun k => by unfold wkv; rw [if_pos (by omega), hm, if_neg d0]), if_neg d0]
    by_cases d1 : c % 128 < 80
    · rw [hc_col A B r (384 + c % 128) (1920 + (c % 128 - 64)) (fun k => by
            unfold wc
            rw [if_neg (by omega), if_neg (by omega), if_pos (by omega), show 384 + c % 128 - 448 = c % 128 - 64 by omega]),
        hc_neg A B r (512 + c % 128) (1920 + (c % 128 - 64 + 16)) (fun k => by
            unfold wc
            rw [if_neg (by omega), if_neg (by omega), if_neg (by omega), if_neg (by omega), if_pos (by omega),
              show 512 + c % 128 - 576 = c % 128 - 64 by omega]), if_pos (by omega)]
      unfold tsin tcos rot
      rw [if_neg d0, if_neg d0, if_pos d1, if_pos d1, if_pos (by omega)]
      ring
    · by_cases d2 : c % 128 < 96
      · rw [hc_col A B r (384 + c % 128) (1920 + (c % 128 - 64)) (fun k => by
              unfold wc
              rw [if_neg (by omega), if_neg (by omega), if_pos (by omega), show 384 + c % 128 - 448 = c % 128 - 64 by omega]),
          hc_col A B r (512 + c % 128) (1920 + (c % 128 - 64 - 16)) (fun k => by
              unfold wc
              rw [if_neg (by omega), if_neg (by omega), if_neg (by omega), if_neg (by omega), if_neg (by omega),
                if_pos (by omega), show 512 + c % 128 - 592 = c % 128 - 64 - 16 by omega]), if_pos d2]
        unfold tsin tcos rot
        rw [if_neg d0, if_neg d0, if_neg d1, if_neg d1, if_pos d2, if_pos d2, if_neg (by omega),
          show c % 128 - 64 - 16 = c % 128 - 80 by omega]
        ring
      · rw [if_neg d2]
        unfold tsin tcos
        rw [if_neg d0, if_neg d0, if_neg d1, if_neg d1, if_neg d2, if_neg d2]
        ring

/-- The form the call computes is the result. -/
theorem kout_eq (r c : ℕ) (h : c < 3072) : kout A B G W G' W' r c = res A B G W G' W' r c := by
  by_cases h0 : c < 1536
  · unfold kout res
    by_cases h1 : c < 512
    · rw [if_pos h1, if_pos h1]
    · rw [if_neg h1, if_pos h0, if_neg h1, if_pos h0]
  · by_cases h1 : c < 2048
    · exact kout_q A B G W G' W' r c (by omega) h1
    · by_cases h2 : c < 2560
      · exact kout_k A B G W G' W' r c (by omega) h2
      · unfold kout res
        rw [if_neg (by omega), if_neg h0, if_neg h1, if_neg h2, if_neg (by omega), if_neg h0, if_neg h1, if_neg h2]
        refine kv2_col A B G' W' r _ _ fun k => ?_
        unfold wkv
        rw [if_neg (by omega), show c - 2048 - 512 = c - 2560 by omega, show (c - 2048) % 128 = c % 128 by omega]
end

end Cert.Proj

end
-- ==== Proof.ProjKernel.lean ====
/- The projections in front of the two attentions: what a block stores, and the array after the run. -/
module

public import proofs.«01_k».proof.Proof.ProjSpec
public import proofs.«01_k».proof.Proof.Gen.Kernel4Ideal.Value
public import Idealize.ShloMosaic.Lib.Pipeline.ValueKit
public import Idealize.ShloMosaic.Lib.Pointwise

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen Cert.Soft Cert.Entries

/-! ## What a block stores, from the entries of its operands -/

section
variable (x : FVec Ideal S512x1024 .f32) (wa : FVec Ideal S1024x1536 .bf16) (w : FVec Ideal S1024x640 .bf16)
  (g : FVec Ideal S1x256 .f32) (u : FVec Ideal S256x1024 .bf16) (g' : FVec Ideal S1x128 .f32)
  (u' : FVec Ideal S128x1024 .bf16)
  (X : Fin 512 → Fin 1024 → ℝ) (WA : Fin 1024 → Fin 1536 → ℝ) (WC : Fin 1024 → Fin 640 → ℝ) (G : Fin 256 → ℝ) (U : Fin 256 → Fin 1024 → ℝ)
  (G' : Fin 128 → ℝ) (U' : Fin 128 → Fin 1024 → ℝ)

/-- The rows times the first weight. -/
theorem pay2 (hx : ∀ i k, x (ix2 i k) = ((X i k : ℝ) : EReal)) (hw : ∀ k j, wa (ix2 k j) = ((WA k j : ℝ) : EReal))
    (i : Fin 512) (j : Fin 1536) : k0_pay2 (F := Ideal) x wa (ix2 i j) = ((∑ k, X i k * WA k j : ℝ) : EReal) := by
  pointwise [k0_pay2, k0_pay1]
  exact coe_dot _ _ _ _ (hx i) (fun k => hw k j)

/-- The rows times the second weight. -/
theorem pay5 (hx : ∀ i k, x (ix2 i k) = ((X i k : ℝ) : EReal)) (hw : ∀ k j, w (ix2 k j) = ((WC k j : ℝ) : EReal))
    (i : Fin 512) (j : Fin 640) : k0_pay5 (F := Ideal) x w (ix2 i j) = ((∑ k, X i k * WC k j : ℝ) : EReal) := by
  pointwise [k0_pay5, k0_pay1]
  exact coe_dot _ _ _ _ (hx i) (fun k => hw k j)

/-- The latent queries' second projection. -/
theorem pay11 (hx : ∀ i k, x (ix2 i k) = ((X i k : ℝ) : EReal)) (hw : ∀ k j, w (ix2 k j) = ((WC k j : ℝ) : EReal))
    (hg : ∀ k, g (ix2 0 k) = ((G k : ℝ) : EReal)) (hu : ∀ k j, u (ix2 k j) = ((U k j : ℝ) : EReal))
    (i : Fin 512) (j : Fin 1024) :
    k0_pay11 (F := Ideal) (k0_pay9 x w g) (k0_pay10 u) (ix2 i j)
      = ((∑ l, rms 256 (fun k : Fin 256 => ∑ n, X i n * WC n ⟨k.val, by omega⟩) G l * U l j : ℝ) : EReal) := by
  have h5 := pay5 x w X WC hx hw
  have h : ∀ l, k0_pay9 (F := Ideal) x w g (ix2 i l)
      = ((rms 256 (fun k : Fin 256 => ∑ n, X i n * WC n ⟨k.val, by omega⟩) G l : ℝ) : EReal) := fun l => by
    unfold k0_pay9
    generalize k0_pay5 (F := Ideal) x w = y at h5
    pointwise
    exact rms_eq 256 (by norm_num) _ bits_256 (fun k : Fin 256 => y (ix2 i ⟨k.val, by omega⟩)) (fun k => g (ix2 0 k)) _ _
      (fun k => h5 i ⟨k.val, by omega⟩) hg l
  generalize k0_pay9 (F := Ideal) x w g = y at h
  pointwise [k0_pay11, k0_pay10]
  exact coe_dot _ _ _ _ h (fun k => hu k j)

/-- The latent keys' and values' second projection. -/
theorem pay12 (hx : ∀ i k, x (ix2 i k) = ((X i k : ℝ) : EReal)) (hw : ∀ k j, w (ix2 k j) = ((WC k j : ℝ) : EReal))
    (hg : ∀ k, g' (ix2 0 k) = ((G' k : ℝ) : EReal)) (hu : ∀ k j, u' (ix2 k j) = ((U' k j : ℝ) : EReal))
    (i : Fin 512) (j : Fin 1024) :
    k0_pay12 (F := Ideal) (k0_pay6 x w) g' u' (ix2 i j)
      = ((∑ l, rms 128 (fun k : Fin 128 => ∑ n, X i n * WC n ⟨256 + k.val, by omega⟩) G' l * U' l j : ℝ) : EReal) := by
  have h5 := pay5 x w X WC hx hw
  have h6 : ∀ k : Fin 128, k0_pay6 (F := Ideal) x w (ix2 i k) = ((∑ n, X i n * WC n ⟨256 + k.val, by omega⟩ : ℝ) : EReal) := fun k => by
    unfold k0_pay6
    generalize k0_pay5 (F := Ideal) x w = y at h5
    pointwise
    exact h5 i ⟨256 + k.val, by omega⟩
  generalize k0_pay6 (F := Ideal) x w = y at h6
  pointwise [k0_pay12]
  refine coe_dot _ _ _ _ (fun l => ?_) (fun k => hu k j)
  exact rms_eq 128 (by norm_num) _ bits_128 (fun k : Fin 128 => y (ix2 i k)) (fun k => g' (ix2 0 k)) _ _ h6 hg l

/-- The rotated columns of the keys. -/
theorem pay15 (hx : ∀ i k, x (ix2 i k) = ((X i k : ℝ) : EReal)) (hw : ∀ k j, w (ix2 k j) = ((WC k j : ℝ) : EReal))
    (ck sk : FVec Ideal S512x128 .f32) (CK SK : Fin 512 → Fin 128 → ℝ) (hc : ∀ i d, ck (ix2 i d) = ((CK i d : ℝ) : EReal))
    (hs : ∀ i d, sk (ix2 i d) = ((SK i d : ℝ) : EReal)) (i : Fin 512) (d : Fin 128) :
    k0_pay15 (F := Ideal) (k0_pay7 x w) (k0_pay8 x w) ck sk (ix2 i d)
      = (((∑ n, X i n * WC n ⟨384 + d.val, by omega⟩) * CK i d + (∑ n, X i n * WC n ⟨512 + d.val, by omega⟩) * SK i d : ℝ) : EReal) := by
  have h5 := pay5 x w X WC hx hw
  unfold k0_pay7 k0_pay8
  generalize k0_pay5 (F := Ideal) x w = y at h5
  pointwise [k0_pay15]
  rw [h5, h5, hc, hs, ← EReal.coe_mul, ← EReal.coe_mul, ← EReal.coe_add]

end

/-! ## The arrays the call reads, from the arguments -/

variable (m : (ℓ : Loc nD τ sig) → Buf (Elt Ideal) ℓ)

/-- The first weight's entries. -/
theorem wa_at (c : Dev nD) (B : FVec Ideal S1x1024x1952 .f32) (hm : m ((c : Thread nD τ).loc main_arg1) = B)
    (hB : ∀ i, B i = ((EReal.toReal (B i) : ℝ) : EReal)) (k : Fin 1024) (j : Fin 1536) :
    (V m c main_v36 : FVec Ideal S1024x1536 .bf16) (ix2 k j) = ((rd3 B k.val j.val : ℝ) : EReal) := by
  subst hm
  refine Eq.trans ?_ (rd3_eq _ hB 0 k ⟨j.val, by omega⟩)
  unfold V; after_results_simp; pointwise
  try rfl

set_option maxHeartbeats 1600000 in
/-- The second weight's entries. -/
theorem wc_at (c : Dev nD) (B : FVec Ideal S1x1024x1952 .f32) (hm : m ((c : Thread nD τ).loc main_arg1) = B)
    (hB : ∀ i, B i = ((EReal.toReal (B i) : ℝ) : EReal)) (k : Fin 1024) (j : Fin 640) :
    (V m c main_v37 : FVec Ideal S1024x640 .bf16) (ix2 k j) = ((wc B k.val j.val : ℝ) : EReal) := by
  subst hm
  unfold V; after_results_simp; pointwise; after_results_simp; pointwise
  have e : ∀ j, (m (c, Proc.tc.devRef main_arg1) : FVec Ideal S1x1024x1952 .f32) (ix3 0 k j)
      = ((rd3 (m ((c : Thread nD τ).loc main_arg1) : FVec Ideal S1x1024x1952 .f32) k.val j.val : ℝ) : EReal) := fun j => rd3_eq _ hB 0 k j
  simp only [e]
  split_ifs <;> first
    | (exfalso; omega)
    | (unfold wc
       repeat (first | rw [if_pos (by omega)] | rw [if_neg (by omega)])
       all_goals first
         | exact EReal.coe_zero.symm
         | (refine congrArg (fun n : ℕ => ((rd3 _ k.val n : ℝ) : EReal)) ?_; (try dsimp only) <;> omega)
         | (rw [← EReal.coe_neg]
            refine congrArg (fun n : ℕ => ((-rd3 _ k.val n : ℝ) : EReal)) ?_; (try dsimp only) <;> omega))

set_option maxHeartbeats 1600000 in
/-- The latent queries' weight's entries. -/
theorem wq_at (c : Dev nD) (B : FVec Ideal S1x256x384 .f32) (hm : m ((c : Thread nD τ).loc main_arg3) = B)
    (hB : ∀ i, B i = ((EReal.toReal (B i) : ℝ) : EReal)) (k : Fin 256) (j : Fin 1024) :
    (V m c main_v38 : FVec Ideal S256x1024 .bf16) (ix2 k j) = ((wq B k.val j.val : ℝ) : EReal) := by
  subst hm
  unfold V; after_results_simp; pointwise; after_results_simp; pointwise; after_results_simp; pointwise
  have e : ∀ j, (m (c, Proc.tc.devRef main_arg3) : FVec Ideal S1x256x384 .f32) (ix3 0 k j)
      = ((rd3 (m ((c : Thread nD τ).loc main_arg3) : FVec Ideal S1x256x384 .f32) k.val j.val : ℝ) : EReal) := fun j => rd3_eq _ hB 0 k j
  simp only [e]
  split_ifs <;> first
    | (exfalso; omega)
    | (unfold wq
       repeat (first | rw [if_pos (by omega)] | rw [if_neg (by omega)])
       all_goals first
         | exact EReal.coe_zero.symm
         | (refine congrArg (fun n : ℕ => ((rd3 _ k.val n : ℝ) : EReal)) ?_; (try dsimp only) <;> omega)
         | (rw [← EReal.coe_neg]
            refine congrArg (fun n : ℕ => ((-rd3 _ k.val n : ℝ) : EReal)) ?_; (try dsimp only) <;> omega))

/-- The latent keys' and values' weight's entries. -/
theorem wkv_at (c : Dev nD) (B : FVec Ideal S1x128x768 .f32) (hm : m ((c : Thread nD τ).loc main_arg5) = B)
    (hB : ∀ i, B i = ((EReal.toReal (B i) : ℝ) : EReal)) (k : Fin 128) (j : Fin 1024) :
    (V m c main_v39 : FVec Ideal S128x1024 .bf16) (ix2 k j) = ((wkv B k.val j.val : ℝ) : EReal) := by
  subst hm
  unfold V; after_results_simp; after_results_loop; pointwise
  have e : ∀ j, (m (c, Proc.tc.devRef main_arg5) : FVec Ideal S1x128x768 .f32) (ix3 0 k j)
      = ((rd3 (m ((c : Thread nD τ).loc main_arg5) : FVec Ideal S1x128x768 .f32) k.val j.val : ℝ) : EReal) := fun j => rd3_eq _ hB 0 k j
  simp only [e]
  split_ifs <;> first
    | (exfalso; omega)
    | (unfold wkv
       repeat (first | rw [if_pos (by omega)] | rw [if_neg (by omega)])
       all_goals first
         | exact EReal.coe_zero.symm
         | (refine congrArg (fun n : ℕ => ((rd3 _ k.val n : ℝ) : EReal)) ?_; (try dsimp only) <;> omega)
         | (rw [← EReal.coe_neg]
            refine congrArg (fun n : ℕ => ((-rd3 _ k.val n : ℝ) : EReal)) ?_; (try dsimp only) <;> omega))

/-- The queries' gains' entries. -/
theorem gq_at (c : Dev nD) (G : FVec Ideal S1x256 .f32) (hm : m ((c : Thread nD τ).loc main_arg2) = G)
    (hG : ∀ i, G i = ((EReal.toReal (G i) : ℝ) : EReal)) (k : Fin 256) :
    (V m c main_v74 : FVec Ideal S1x256 .f32) (ix2 0 k) = ((rd G 0 k.val : ℝ) : EReal) := by
  subst hm
  refine Eq.trans ?_ (rd2_eq _ hG 0 k)
  unfold V; after_results_simp; pointwise
  try rfl

/-- The keys' and values' gains' entries. -/
theorem gkv_at (c : Dev nD) (G : FVec Ideal S1x128 .f32) (hm : m ((c : Thread nD τ).loc main_arg4) = G)
    (hG : ∀ i, G i = ((EReal.toReal (G i) : ℝ) : EReal)) (k : Fin 128) :
    (V m c main_v76 : FVec Ideal S1x128 .f32) (ix2 0 k) = ((rd G 0 k.val : ℝ) : EReal) := by
  subst hm
  refine Eq.trans ?_ (rd2_eq _ hG 0 k)
  unfold V; after_results_simp; pointwise
  try rfl

/-- A cosine of an angle as it is computed. -/
theorem cos_at (p e e' : ℕ) (hp : p < 4096) (he : e < 16) (h : e = e') :
    Ideal.cos ((FloatOps.sitofp .f32 (BitVec.ofNat 32 p) : Ideal .f32) * Ideal.pow (Ideal.ofBits .f32 0x461C4000#32)
        (Ideal.div (-(FloatOps.sitofp .f32 (BitVec.ofNat 32 e) : Ideal .f32) * Ideal.ofBits .f32 0x40000000#32)
          (Ideal.ofBits .f32 0x42000000#32))) = ((Real.cos (ang p e') : ℝ) : EReal) := by
  subst h
  rw [ang_eq p e hp he, Ideal.cos_coe]

/-- A sine of an angle as it is computed. -/
theorem sin_at (p e e' : ℕ) (hp : p < 4096) (he : e < 16) (h : e = e') :
    Ideal.sin ((FloatOps.sitofp .f32 (BitVec.ofNat 32 p) : Ideal .f32) * Ideal.pow (Ideal.ofBits .f32 0x461C4000#32)
        (Ideal.div (-(FloatOps.sitofp .f32 (BitVec.ofNat 32 e) : Ideal .f32) * Ideal.ofBits .f32 0x40000000#32)
          (Ideal.ofBits .f32 0x42000000#32))) = ((Real.sin (ang p e') : ℝ) : EReal) := by
  subst h
  rw [ang_eq p e hp he, Ideal.sin_coe]

/-- The keys' table of the cosines. -/
theorem ck_at (c : Dev nD) (p : Fin 4096) (d : Fin 128) :
    (V m c main_v71 : FVec Ideal S4096x128 .f32) (ix2 p d) = ((tcos p.val d.val : ℝ) : EReal) := by
  have hp := p.isLt
  unfold V; after_results_simp; pointwise; after_results_simp; pointwise
  unfold tcos
  split_ifs <;> first
    | (exfalso; omega)
    | exact cos_at _ _ _ hp (by omega) (by omega)
    | exact EReal.coe_zero.symm

/-- The keys' table of the sines. -/
theorem sk_at (c : Dev nD) (p : Fin 4096) (d : Fin 128) :
    (V m c main_v72 : FVec Ideal S4096x128 .f32) (ix2 p d) = ((tsin p.val d.val : ℝ) : EReal) := by
  have hp := p.isLt
  unfold V; after_results_simp; pointwise; after_results_simp; pointwise
  unfold tsin
  split_ifs <;> first
    | (exfalso; omega)
    | exact sin_at _ _ _ hp (by omega) (by omega)
    | exact EReal.coe_zero.symm

/-- The queries' table of the cosines. -/
theorem cq_at (c : Dev nD) (p : Fin 4096) (d : Fin 128) :
    (V m c main_v67 : FVec Ideal S4096x128 .f32) (ix2 p d) = ((qcos p.val d.val : ℝ) : EReal) := by
  have hp := p.isLt
  unfold V; after_results_simp; pointwise; after_results_simp; pointwise
  unfold qcos
  rw [qs_eq, EReal.coe_mul]
  refine congrArg (fun z : EReal => z * ((qs : ℝ) : EReal)) ?_
  unfold tcos
  split_ifs <;> first
    | (exfalso; omega)
    | exact cos_at _ _ _ hp (by omega) (by omega)
    | exact EReal.coe_zero.symm
    | exact EReal.coe_one.symm

/-- The queries' table of the sines. -/
theorem sq_at (c : Dev nD) (p : Fin 4096) (d : Fin 128) :
    (V m c main_v70 : FVec Ideal S4096x128 .f32) (ix2 p d) = ((tsin p.val d.val * qs : ℝ) : EReal) := by
  have hp := p.isLt
  unfold V; after_results_simp; pointwise; after_results_simp; pointwise
  rw [qs_eq, EReal.coe_mul]
  refine congrArg (fun z : EReal => z * ((qs : ℝ) : EReal)) ?_
  unfold tsin
  split_ifs <;> first
    | (exfalso; omega)
    | exact sin_at _ _ _ hp (by omega) (by omega)
    | exact EReal.coe_zero.symm

end Cert.Proj

end
-- ==== Proof.ProjValue.lean ====
/- The projections in front of the two attentions: the array after the run. -/
module

public import proofs.«01_k».proof.Proof.ProjKernel

@[expose] public section

set_option maxRecDepth 16384

noncomputable section

namespace Cert.Proj

open Idealize.ShloMosaic Idealize.ShloMosaic.TcCoe Idealize.SL.Sem
open Idealize.ShloMosaic.Pipeline (Dat)
open Cert.Kernel4Ideal Cert.Kernel4Ideal.Gen Cert.Soft Cert.Entries

variable (m : (ℓ : Loc nD τ sig) → Buf (Elt Ideal) ℓ)

/-- The windows' block indices in the point's position. -/
theorem idx : ∀ t : Fin cfg0.N, win0_0.index t = ![t.val, 0] ∧ win0_1.index t = ![0, 0] ∧ win0_2.index t = ![0, 0]
      ∧ win0_3.index t = ![0, 0] ∧ win0_4.index t = ![0, 0] ∧ win0_5.index t = ![0, 0] ∧ win0_6.index t = ![0, 0]
      ∧ win0_7.index t = ![t.val % 8, 0] ∧ win0_8.index t = ![t.val % 8, 0] ∧ win0_9.index t = ![t.val % 8, 0]
      ∧ win0_10.index t = ![t.val % 8, 0] ∧ win0_11.index t = ![t.val, 0] :=
  (by decide +kernel : ∀ t : Fin grid0.N, _)

/-- The rows' block of point `t`. -/
theorem blk_x (c : Dev nD) (A : FVec Ideal S32768x1024 .f32) (hm : m ((c : Thread nD τ).loc main_arg0) = A)
    (hA : ∀ i, A i = ((EReal.toReal (A i) : ℝ) : EReal)) (t : Fin cfg0.N) (i : Fin 512) (k : Fin 1024) :
    (iblk m c 0 t : FVec Ideal S512x1024 .f32) (ix2 i k) = ((rd A (t.val * 512 + i.val) k.val : ℝ) : EReal) := by
  subst hm
  blk_simp [iblk]
  rw [V_main_arg0]
  refine rd_eq _ hA _ _ _ ?_ ?_ <;> blk_simp [idx t] <;> try omega

/-- The block of the first weight is the array. -/
theorem blk_wa (c : Dev nD) (t : Fin cfg0.N) (k : Fin 1024) (j : Fin 1536) :
    (iblk m c 1 t : FVec Ideal S1024x1536 .bf16) (ix2 k j) = (V m c main_v36 : FVec Ideal S1024x1536 .bf16) (ix2 k j) := by
  blk_simp [iblk]
  refine congrArg _ (funext fun a => Fin.ext ?_)
  fin_cases a <;> blk_simp [idx t]

/-- The block of the second weight is the array. -/
theorem blk_wc (c : Dev nD) (t : Fin cfg0.N) (k : Fin 1024) (j : Fin 640) :
    (iblk m c 2 t : FVec Ideal S1024x640 .bf16) (ix2 k j) = (V m c main_v37 : FVec Ideal S1024x640 .bf16) (ix2 k j) := by
  blk_simp [iblk]
  refine congrArg _ (funext fun a => Fin.ext ?_)
  fin_cases a <;> blk_simp [idx t]

/-- The block of the queries' gains is the array. -/
theorem blk_gq (c : Dev nD) (t : Fin cfg0.N) (k : Fin 256) :
    (iblk m c 3 t : FVec Ideal S1x256 .f32) (ix2 0 k) = (V m c main_v74 : FVec Ideal S1x256 .f32) (ix2 0 k) := by
  blk_simp [iblk]
  refine congrArg _ (funext fun a => Fin.ext ?_)
  fin_cases a <;> blk_simp [idx t]

/-- The block of the queries' second weight is the array. -/
theorem blk_wq (c : Dev nD) (t : Fin cfg0.N) (k : Fin 256) (j : Fin 1024) :
    (iblk m c 4 t : FVec Ideal S256x1024 .bf16) (ix2 k j) = (V m c main_v38 : FVec Ideal S256x1024 .bf16) (ix2 k j) := by
  blk_simp [iblk]
  refine congrArg _ (funext fun a => Fin.ext ?_)
  fin_cases a <;> blk_simp [idx t]

/-- The block of the keys' and values' gains is the array. -/
theorem blk_gkv (c : Dev nD) (t : Fin cfg0.N) (k : Fin 128) :
    (iblk m c 5 t : FVec Ideal S1x128 .f32) (ix2 0 k) = (V m c main_v76 : FVec Ideal S1x128 .f32) (ix2 0 k) := by
  blk_simp [iblk]
  refine congrArg _ (funext fun a => Fin.ext ?_)
  fin_cases a <;> blk_simp [idx t]

/-- The block of the keys' and values' second weight is the array. -/
theorem blk_wkv (c : Dev nD) (t : Fin cfg0.N) (k : Fin 128) (j : Fin 1024) :
    (iblk m c 6 t : FVec Ideal S128x1024 .bf16) (ix2 k j) = (V m c main_v39 : FVec Ideal S128x1024 .bf16) (ix2 k j) := by
  blk_simp [iblk]
  refine congrArg _ (funext fun a => Fin.ext ?_)
  fin_cases a <;> blk_simp [idx t]

/-- The row of a table that row `i` of point `t`'s block reads. -/
def prow (t : Fin cfg0.N) (i : Fin 512) : Fin 4096 := ⟨t.val % 8 * 512 + i.val, by omega⟩

/-- The block of the queries' cosines. -/
theorem blk_cq (c : Dev nD) (t : Fin cfg0.N) (i : Fin 512) (d : Fin 128) :
    (iblk m c 7 t : FVec Ideal S512x128 .f32) (ix2 i d) = ((qcos (prow t i).val d.val : ℝ) : EReal) := by
  rw [← cq_at m c]
  blk_simp [iblk]
  refine congrArg _ (funext fun a => Fin.ext ?_)
  fin_cases a <;> blk_simp [idx t] <;> rfl

/-- The block of the queries' sines. -/
theorem blk_sq (c : Dev nD) (t : Fin cfg0.N) (i : Fin 512) (d : Fin 128) :
    (iblk m c 8 t : FVec Ideal S512x128 .f32) (ix2 i d) = ((tsin (prow t i).val d.val * qs : ℝ) : EReal) := by
  rw [← sq_at m c]
  blk_simp [iblk]
  refine congrArg _ (funext fun a => Fin.ext ?_)
  fin_cases a <;> blk_simp [idx t] <;> rfl

/-- The block of the keys' cosines. -/
theorem blk_ck (c : Dev nD) (t : Fin cfg0.N) (i : Fin 512) (d : Fin 128) :
    (iblk m c 9 t : FVec Ideal S512x128 .f32) (ix2 i d) = ((tcos (prow t i).val d.val : ℝ) : EReal) := by
  rw [← ck_at m c]
  blk_simp [iblk]
  refine congrArg _ (funext fun a => Fin.ext ?_)
  fin_cases a <;> blk_simp [idx t] <;> rfl

/-- The block of the keys' sines. -/
theorem blk_sk (c : Dev nD) (t : Fin cfg0.N) (i : Fin 512) (d : Fin 128) :
    (iblk m c 10 t : FVec Ideal S512x128 .f32) (ix2 i d) = ((tsin (prow t i).val d.val : ℝ) : EReal) := by
  rw [← sk_at m c]
  blk_simp [iblk]
  refine congrArg _ (funext fun a => Fin.ext ?_)
  fin_cases a <;> blk_simp [idx t] <;> rfl

/-! ## The stored pieces, from the products -/

/-- Head 1's queries. -/
theorem pay18 (Q : FVec Ideal S512x1024 .f32) (C S : FVec Ideal S512x128 .f32) (i : Fin 512) (d : Fin 128) :
    k0_pay18 (F := Ideal) Q (k0_pay13 C) (k0_pay14 S) (ix2 i d)
      = (Q (ix2 i ⟨128 + d.val, by omega⟩) * C (ix2 i d) + Q (ix2 i ⟨640 + d.val, by omega⟩) * S (ix2 i d) : EReal) := by
  pointwise [k0_pay18, k0_pay13, k0_pay14]

/-- Head 2's queries. -/
theorem pay20 (Q : FVec Ideal S512x1024 .f32) (C S : FVec Ideal S512x128 .f32) (i : Fin 512) (d : Fin 128) :
    k0_pay20 (F := Ideal) Q (k0_pay13 C) (k0_pay14 S) (ix2 i d)
      = (Q (ix2 i ⟨256 + d.val, by omega⟩) * C (ix2 i d) + Q (ix2 i ⟨768 + d.val, by omega⟩) * S (ix2 i d) : EReal) := by
  pointwise [k0_pay20, k0_pay13, k0_pay14]

/-- Head 3's queries. -/
theorem pay22 (Q : FVec Ideal S512x1024 .f32) (C S : FVec Ideal S512x128 .f32) (i : Fin 512) (d : Fin 128) :
    k0_pay22 (F := Ideal) Q (k0_pay13 C) (k0_pay14 S) (ix2 i d)
      = (Q (ix2 i ⟨384 + d.val, by omega⟩) * C (ix2 i d) + Q (ix2 i ⟨896 + d.val, by omega⟩) * S (ix2 i d) : EReal) := by
  pointwise [k0_pay22, k0_pay13, k0_pay14]

/-- Head 0's queries. -/
theorem pay16 (y : FVec Ideal S512x256 .bf16) (u : FVec Ideal S256x1024 .bf16) (C S : FVec Ideal S512x128 .f32) (i : Fin 512) (d : Fin 128) :
    k0_pay16 (F := Ideal) y u C S (ix2 i d)
      = (k0_pay11 (F := Ideal) y u (ix2 i ⟨d.val, by omega⟩) * C (ix2 i d)
          + k0_pay11 (F := Ideal) y u (ix2 i ⟨512 + d.val, by omega⟩) * S (ix2 i d) : EReal) := by
  unfold k0_pay16
  generalize k0_pay11 (F := Ideal) y u = Q
  pointwise [k0_pay13, k0_pay14]

/-- Head 1's keys. -/
theorem pay19 (K : FVec Ideal S512x1024 .f32) (R : FVec Ideal S512x128 .f32) (i : Fin 512) (d : Fin 128) :
    k0_pay19 (F := Ideal) K R (ix2 i d) = (K (ix2 i ⟨128 + d.val, by omega⟩) + R (ix2 i d) : EReal) := by
  pointwise [k0_pay19]

/-- Head 2's keys. -/
theorem pay21 (K : FVec Ideal S512x1024 .f32) (R : FVec Ideal S512x128 .f32) (i : Fin 512) (d : Fin 128) :
    k0_pay21 (F := Ideal) K R (ix2 i d) = (K (ix2 i ⟨256 + d.val, by omega⟩) + R (ix2 i d) : EReal) := by
  pointwise [k0_pay21]

/-- Head 3's keys. -/
theorem pay23 (K : FVec Ideal S512x1024 .f32) (R : FVec Ideal S512x128 .f32) (i : Fin 512) (d : Fin 128) :
    k0_pay23 (F := Ideal) K R (ix2 i d) = (K (ix2 i ⟨384 + d.val, by omega⟩) + R (ix2 i d) : EReal) := by
  pointwise [k0_pay23]

/-- Head 0's keys. -/
theorem pay17 (y y' y'' : FVec Ideal S512x128 .f32) (g : FVec Ideal S1x128 .f32) (u : FVec Ideal S128x1024 .bf16) (C S : FVec Ideal S512x128 .f32)
    (i : Fin 512) (d : Fin 128) :
    k0_pay17 (F := Ideal) y y' y'' g u C S (ix2 i d)
      = (k0_pay12 (F := Ideal) y g u (ix2 i ⟨d.val, by omega⟩) + k0_pay15 (F := Ideal) y' y'' C S (ix2 i d) : EReal) := by
  unfold k0_pay17
  generalize k0_pay12 (F := Ideal) y g u = K
  generalize k0_pay15 (F := Ideal) y' y'' C S = R
  pointwise

/-- The values. -/
theorem pay24 (K : FVec Ideal S512x1024 .f32) (i : Fin 512) (d : Fin 512) :
    k0_pay24 (F := Ideal) K (ix2 i d) = K (ix2 i ⟨512 + d.val, by omega⟩) := by
  pointwise [k0_pay24]

/-- The differential attention's queries. -/
theorem pay3 (x : FVec Ideal S512x1024 .f32) (w : FVec Ideal S1024x1536 .bf16) (i : Fin 512) (d : Fin 512) :
    k0_pay3 (F := Ideal) x w (ix2 i d)
      = (k0_pay2 (F := Ideal) x w (ix2 i ⟨d.val, by omega⟩) * (((8 * Real.log 2)⁻¹ : ℝ) : EReal) : EReal) := by
  unfold k0_pay3
  generalize k0_pay2 (F := Ideal) x w = P
  pointwise
  rfl

/-- The differential attention's keys and values. -/
theorem pay4 (x : FVec Ideal S512x1024 .f32) (w : FVec Ideal S1024x1536 .bf16) (i : Fin 512) (d : Fin 1024) :
    k0_pay4 (F := Ideal) x w (ix2 i d) = k0_pay2 (F := Ideal) x w (ix2 i ⟨512 + d.val, by omega⟩) := by
  unfold k0_pay4
  generalize k0_pay2 (F := Ideal) x w = P
  pointwise

section
variable (A : FVec Ideal S32768x1024 .f32) (B : FVec Ideal S1x1024x1952 .f32) (G : FVec Ideal S1x256 .f32) (W : FVec Ideal S1x256x384 .f32)
  (G' : FVec Ideal S1x128 .f32) (W' : FVec Ideal S1x128x768 .f32)

/-- A query's entry. -/
theorem kout_at_q (a b r p d j j' : ℕ) (h0 : 1536 ≤ b) (h1 : b < 2048) (er : r = a) (ep : p = a % 4096) (ed : d = b % 128)
    (ej : j = b - 1536) (ej' : j' = 512 + (b - 1536)) :
    (((q2 A B G W r j : ℝ) : EReal) * ((qcos p d : ℝ) : EReal) + ((q2 A B G W r j' : ℝ) : EReal) * ((tsin p d * qs : ℝ) : EReal))
      = ((kout A B G W G' W' a b : ℝ) : EReal) := by
  subst er ep ed ej ej'
  rw [← EReal.coe_mul, ← EReal.coe_mul, ← EReal.coe_add]
  unfold kout
  rw [if_neg (by omega), if_neg (by omega), if_pos h1]

/-- A key's entry. -/
theorem kout_at_k (a b r p d j e e' : ℕ) (h0 : 2048 ≤ b) (h1 : b < 2560) (er : r = a) (ep : p = a % 4096) (ed : d = b % 128)
    (ej : j = b - 2048) (ee : e = 384 + b % 128) (ee' : e' = 512 + b % 128) :
    (((kv2 A B G' W' r j : ℝ) : EReal) + ((hc A B r e * tcos p d + hc A B r e' * tsin p d : ℝ) : EReal))
      = ((kout A B G W G' W' a b : ℝ) : EReal) := by
  subst er ep ed ej ee ee'
  rw [← EReal.coe_add]
  unfold kout
  rw [if_neg (by omega), if_neg (by omega), if_neg (by omega), if_pos h1]

/-- A value's entry. -/
theorem kout_at_v (a b r j : ℕ) (h0 : 2560 ≤ b) (er : r = a) (ej : j = b - 2048) :
    ((kv2 A B G' W' r j : ℝ) : EReal) = ((kout A B G W G' W' a b : ℝ) : EReal) := by
  subst er ej
  unfold kout
  rw [if_neg (by omega), if_neg (by omega), if_neg (by omega), if_neg (by omega)]

/-- An entry of the differential attention's queries. -/
theorem kout_at_dq (a b r j : ℕ) (h0 : b < 512) (er : r = a) (ej : j = b) :
    (((hin A B r j : ℝ) : EReal) * (((8 * Real.log 2)⁻¹ : ℝ) : EReal)) = ((kout A B G W G' W' a b : ℝ) : EReal) := by
  subst er ej
  rw [← EReal.coe_mul]
  unfold kout
  rw [if_pos h0]

/-- An entry of the differential attention's keys and values. -/
theorem kout_at_dkv (a b r j : ℕ) (h0 : 512 ≤ b) (h1 : b < 1536) (er : r = a) (ej : j = b) :
    ((hin A B r j : ℝ) : EReal) = ((kout A B G W G' W' a b : ℝ) : EReal) := by
  subst er ej
  unfold kout
  rw [if_neg (by omega), if_pos h1]

end

section
variable (c : Dev nD) (A : FVec Ideal S32768x1024 .f32) (hm : m ((c : Thread nD τ).loc main_arg0) = A)
  (hA : ∀ i, A i = ((EReal.toReal (A i) : ℝ) : EReal))
  (B : FVec Ideal S1x1024x1952 .f32) (hmB : m ((c : Thread nD τ).loc main_arg1) = B)
  (hB : ∀ i, B i = ((EReal.toReal (B i) : ℝ) : EReal))
  (G : FVec Ideal S1x256 .f32) (hmG : m ((c : Thread nD τ).loc main_arg2) = G)
  (hG : ∀ i, G i = ((EReal.toReal (G i) : ℝ) : EReal))
  (W : FVec Ideal S1x256x384 .f32) (hmW : m ((c : Thread nD τ).loc main_arg3) = W)
  (hW : ∀ i, W i = ((EReal.toReal (W i) : ℝ) : EReal))
  (G' : FVec Ideal S1x128 .f32) (hmG' : m ((c : Thread nD τ).loc main_arg4) = G')
  (hG' : ∀ i, G' i = ((EReal.toReal (G' i) : ℝ) : EReal))
  (W' : FVec Ideal S1x128x768 .f32) (hmW' : m ((c : Thread nD τ).loc main_arg5) = W')
  (hW' : ∀ i, W' i = ((EReal.toReal (W' i) : ℝ) : EReal))

include hm hA hmB hB in
/-- The first product at point `t`. -/
theorem at_in (t : Fin cfg0.N) (i : Fin 512) (j : Fin 1536) :
    k0_pay2 (F := Ideal) (iblk m c 0 t) (iblk m c 1 t) (ix2 i j) = ((hin A B (t.val * 512 + i.val) j.val : ℝ) : EReal) :=
  pay2 _ _ _ _ (blk_x m c A hm hA t) (fun k j => (blk_wa m c t k j).trans (wa_at m c B hmB hB k j)) i j

include hm hA hmB hB hmG hG hmW hW in
/-- The queries' second product at point `t`. -/
theorem at_q2 (t : Fin cfg0.N) (i : Fin 512) (j : Fin 1024) :
    k0_pay11 (F := Ideal) (k0_pay9 (iblk m c 0 t) (iblk m c 2 t) (iblk m c 3 t)) (k0_pay10 (iblk m c 4 t)) (ix2 i j)
      = ((q2 A B G W (t.val * 512 + i.val) j.val : ℝ) : EReal) := by
  refine (pay11 _ _ _ _ _ (fun k j => wc B k.val j.val) _ _ (blk_x m c A hm hA t) (fun k j => (blk_wc m c t k j).trans (wc_at m c B hmB hB k j))
    (fun k => (blk_gq m c t k).trans (gq_at m c G hmG hG k))
    (fun k j => (blk_wq m c t k j).trans (wq_at m c W hmW hW k j)) i j).trans ?_
  refine congrArg _ (Finset.sum_congr rfl fun l _ => ?_)
  unfold latq
  refine congrArg (fun f => rms 256 f _ l * _) (funext fun k => ?_)
  exact hc_lat A B _ k.val (by omega)

include hm hA hmB hB hmG' hG' hmW' hW' in
/-- The keys' and values' second product at point `t`. -/
theorem at_kv2 (t : Fin cfg0.N) (i : Fin 512) (j : Fin 1024) :
    k0_pay12 (F := Ideal) (k0_pay6 (iblk m c 0 t) (iblk m c 2 t)) (iblk m c 5 t) (iblk m c 6 t) (ix2 i j)
      = ((kv2 A B G' W' (t.val * 512 + i.val) j.val : ℝ) : EReal) := by
  refine (pay12 _ _ _ _ _ (fun k j => wc B k.val j.val) _ _ (blk_x m c A hm hA t) (fun k j => (blk_wc m c t k j).trans (wc_at m c B hmB hB k j))
    (fun k => (blk_gkv m c t k).trans (gkv_at m c G' hmG' hG' k))
    (fun k j => (blk_wkv m c t k j).trans (wkv_at m c W' hmW' hW' k j)) i j).trans ?_
  refine congrArg _ (Finset.sum_congr rfl fun l _ => ?_)
  unfold latkv
  refine congrArg (fun f => rms 128 f _ l * _) (funext fun k => ?_)
  rw [show 1792 + k.val = 1536 + (256 + k.val) by omega]
  exact hc_lat A B _ (256 + k.val) (by omega)

include hm hA hmB hB in
/-- The rotated columns at point `t`. -/
theorem at_kr (t : Fin cfg0.N) (i : Fin 512) (d : Fin 128) :
    k0_pay15 (F := Ideal) (k0_pay7 (iblk m c 0 t) (iblk m c 2 t)) (k0_pay8 (iblk m c 0 t) (iblk m c 2 t)) (iblk m c 9 t) (iblk m c 10 t) (ix2 i d)
      = ((hc A B (t.val * 512 + i.val) (384 + d.val) * tcos (prow t i).val d.val
          + hc A B (t.val * 512 + i.val) (512 + d.val) * tsin (prow t i).val d.val : ℝ) : EReal) :=
  pay15 _ _ _ (fun k j => wc B k.val j.val) (blk_x m c A hm hA t) (fun k j => (blk_wc m c t k j).trans (wc_at m c B hmB hB k j)) _ _ _ _
    (blk_ck m c t) (blk_sk m c t) i d

include hm hA hmB hB hmG hG hmW hW hmG' hG' hmW' hW' in
/-- What the body leaves at index `y` of point `t`'s block. -/
theorem point (t : Fin cfg0.N) (y : S512x3072.Idx) (a b : ℕ)
    (ha : a = t.val * 512 + (y 0).val) (hb : b = (y 1).val) :
    outsAt0 m c t y = ((kout A B G W G' W' a b : ℝ) : EReal) := by
  have ht : t.val < 64 := t.isLt
  have hp := at_in m c A hm hA B hmB hB t
  have hq := at_q2 m c A hm hA B hmB hB G hmG hG W hmW hW t
  have hk := at_kv2 m c A hm hA B hmB hB G' hmG' hG' W' hmW' hW' t
  have hr := at_kr m c A hm hA B hmB hB t
  have hcq := blk_cq m c t
  have hsq := blk_sq m c t
  unfold outsAt0 out0_A_11
  frame_out
  canon_tiles x h using View.cover_of_tiledBy _ ![512, 128] (by sl_kernel_rfl) y
  all_goals idx_vars x
  case piece0 =>
    rw [pay24, hk]
    refine kout_at_v A B G W G' W' a b _ _ ?_ ?_ ?_ <;> (try dsimp only) <;> omega
  case piece1 =>
    rw [pay23, hk, hr]
    refine kout_at_k A B G W G' W' a b _ _ _ _ _ _ ?_ ?_ ?_ ?_ ?_ ?_ ?_ ?_ <;> (try dsimp only [prow]) <;> omega
  case piece2 =>
    rw [pay22, hq, hq, hcq, hsq]
    refine kout_at_q A B G W G' W' a b _ _ _ _ _ ?_ ?_ ?_ ?_ ?_ ?_ ?_ <;> (try dsimp only [prow]) <;> omega
  case piece3 =>
    rw [pay21, hk, hr]
    refine kout_at_k A B G W G' W' a b _ _ _ _ _ _ ?_ ?_ ?_ ?_ ?_ ?_ ?_ ?_ <;> (try dsimp only [prow]) <;> omega
  case piece4 =>
    rw [pay20, hq, hq, hcq, hsq]
    refine kout_at_q A B G W G' W' a b _ _ _ _ _ ?_ ?_ ?_ ?_ ?_ ?_ ?_ <;> (try dsimp only [prow]) <;> omega
  case piece5 =>
    rw [pay19, hk, hr]
    refine kout_at_k A B G W G' W' a b _ _ _ _ _ _ ?_ ?_ ?_ ?_ ?_ ?_ ?_ ?_ <;> (try dsimp only [prow]) <;> omega
  case piece6 =>
    rw [pay18, hq, hq, hcq, hsq]
    refine kout_at_q A B G W G' W' a b _ _ _ _ _ ?_ ?_ ?_ ?_ ?_ ?_ ?_ <;> (try dsimp only [prow]) <;> omega
  case piece7 =>
    rw [pay17, hk, hr]
    refine kout_at_k A B G W G' W' a b _ _ _ _ _ _ ?_ ?_ ?_ ?_ ?_ ?_ ?_ ?_ <;> (try dsimp only [prow]) <;> omega
  case piece8 =>
    rw [pay16, hq, hq, hcq, hsq]
    refine kout_at_q A B G W G' W' a b _ _ _ _ _ ?_ ?_ ?_ ?_ ?_ ?_ ?_ <;> (try dsimp only [prow]) <;> omega
  case piece9 =>
    rw [pay4, hp]
    refine kout_at_dkv A B G W G' W' a b _ _ ?_ ?_ ?_ ?_ <;> (try dsimp only) <;> omega
  case piece10 =>
    rw [pay3, hp]
    refine kout_at_dq A B G W G' W' a b _ _ ?_ ?_ ?_ <;> (try dsimp only) <;> omega

include hm hA hmB hB hmG hG hmW hW hmG' hG' hmW' hW' in
/-- The result array after the run. -/
theorem final :
    (dats m 0 c).arrAt 11 (cfgs 0).N
      = (fun i : S32768x3072.Idx => ((res A B G W G' W' (i 0).val (i 1).val : ℝ) : EReal) : FVec Ideal S32768x3072 .bf16) := by
  refine (dats m 0 c).arrAt_eq_of_covers 11 _ (by decide +kernel) fun t _ y => ?_
  blk_simp
  rw [after0_11]
  have hy : (y 1).val < 3072 := (y 1).isLt
  refine (point m c A hm hA B hmB hB G hmG hG W hmW hW G' hmG' hG' W' hmW' hW' t y _ _ ?_ ?_).trans
    (congrArg _ (kout_eq A B G W G' W' _ _ ?_)) <;> blk_simp [idx t] <;> try omega
end

end Cert.Proj

end
-- ==== Proof.ProjReference.lean ====
/- The projections in front of the two attentions: what the reference computes. -/
module

public import proofs.«01_k».proof.Proof.ProjValue
public import proofs.«01_k».proof.Proof.Gen.Reference4Ideal.Read
public import Idealize.ShloMosaic.Lib.Pointwise

@[expose] public section

set_option maxRecDepth 16384

noncomputable section

namespace Cert.ProjRef

open Idealize.ShloMosaic Idealize.ShloMosaic.TcCoe Idealize.SL.Sem
open Cert.Reference4Ideal Cert.Reference4Ideal.Gen Cert.Reference4Ideal.Read Cert.Soft Cert.Entries Cert.Proj

/-- The differential attention's queries' factor. -/
theorem factor : Ideal.div 1 (Ideal.ofBits .f32 0x41000000#32 * Ideal.log (Ideal.ofBits .f32 0x40000000#32))
    = (((8 * Real.log 2)⁻¹ : ℝ) : EReal) := by
  have h2 : (0 : ℝ) < Real.log 2 := Real.log_pos (by norm_num)
  rw [bits_8, bits_two, Ideal.log_coe, if_neg (by norm_num), ← EReal.coe_mul, Ideal.div_coe (by positivity), one_mul, one_div]

section
variable (A : FVec Ideal S32768x1024 .f32) (hA : ∀ i, A i = ((EReal.toReal (A i) : ℝ) : EReal))
  (B : FVec Ideal S1x1024x1952 .f32) (hB : ∀ i, B i = ((EReal.toReal (B i) : ℝ) : EReal))
  (G : FVec Ideal S1x256 .f32) (hG : ∀ i, G i = ((EReal.toReal (G i) : ℝ) : EReal))
  (W : FVec Ideal S1x256x384 .f32) (hW : ∀ i, W i = ((EReal.toReal (W i) : ℝ) : EReal))
  (G' : FVec Ideal S1x128 .f32) (hG' : ∀ i, G' i = ((EReal.toReal (G' i) : ℝ) : EReal))
  (W' : FVec Ideal S1x128x768 .f32) (hW' : ∀ i, W' i = ((EReal.toReal (W' i) : ℝ) : EReal))

include hA hB in
/-- The rows times the first weight. -/
theorem proj (b : Fin 8) (q : Fin 4096) (j : Fin 1952) :
    val_main_v2 (F := Ideal) A B (ix3 b q j) = ((hin A B (b.val * 4096 + q.val) j.val : ℝ) : EReal) := by
  pointwise [val_main_v2, val_main_v1, val_main_v0]
  exact coe_dot _ _ _ _ (fun k => rd2_eq A hA ⟨b.val * 4096 + q.val, by omega⟩ k) (fun k => rd3_eq B hB 0 k j)

include hA hB hG in
/-- The latent queries after their norm. -/
theorem latent_q (b : Fin 8) (q : Fin 4096) (l : Fin 256) :
    val_main_v22 (F := Ideal) A B G (ix3 b q l) = ((latq A B G (b.val * 4096 + q.val) l : ℝ) : EReal) := by
  have h := proj A hA B hB b q
  revert h
  unfold val_main_v22 val_main_v19 val_main_v18 val_main_v17 val_main_v16 val_main_v14 val_main_v12 val_main_v11 val_main_v10 val_main_v6
  generalize val_main_v2 (F := Ideal) A B = y
  intro h
  pointwise [val_main_v21, val_main_v20, val_main_v15, val_main_v13, val_main_v9, val_main_cst, val_main_cst_0, val_main_cst_1]
  exact rms_eq 256 (by norm_num) _ bits_256 (fun k : Fin 256 => y (ix3 b q ⟨1536 + k.val, by omega⟩)) (fun k => G (ix2 0 k)) _ _
      (fun k => h ⟨1536 + k.val, by omega⟩) (fun k => rd2_eq G hG 0 k) l

include hA hB hG' in
/-- The latent keys and values after their norm. -/
theorem latent_kv (b : Fin 8) (q : Fin 4096) (l : Fin 128) :
    val_main_v72 (F := Ideal) A B G' (ix3 b q l) = ((latkv A B G' (b.val * 4096 + q.val) l : ℝ) : EReal) := by
  have h := proj A hA B hB b q
  revert h
  unfold val_main_v72 val_main_v69 val_main_v68 val_main_v67 val_main_v66 val_main_v64 val_main_v62 val_main_v61 val_main_v60 val_main_v7
  generalize val_main_v2 (F := Ideal) A B = y
  intro h
  pointwise [val_main_v71, val_main_v70, val_main_v65, val_main_v63, val_main_v59, val_main_cst_5, val_main_cst_6, val_main_cst_7]
  exact rms_eq 128 (by norm_num) _ bits_128 (fun k : Fin 128 => y (ix3 b q ⟨1792 + k.val, by omega⟩)) (fun k => G' (ix2 0 k)) _ _
      (fun k => h ⟨1792 + k.val, by omega⟩) (fun k => rd2_eq G' hG' 0 k) l

include hA hB hG hW in
/-- The queries' second projection. -/
theorem up_q (b : Fin 8) (q : Fin 4096) (j : Fin 384) :
    val_main_v24 (F := Ideal) A B G W (ix3 b q j) = ((uq A B G W (b.val * 4096 + q.val) j.val : ℝ) : EReal) := by
  have h := latent_q A hA B hB G hG b q
  revert h
  unfold val_main_v24
  generalize val_main_v22 (F := Ideal) A B G = y
  intro h
  pointwise [val_main_v23]
  exact coe_dot _ _ _ _ h (fun k => rd3_eq W hW 0 k j)

include hA hB hG' hW' in
/-- The keys' and values' second projection. -/
theorem up_kv (b : Fin 8) (q : Fin 4096) (j : Fin 768) :
    val_main_v74 (F := Ideal) A B G' W' (ix3 b q j) = ((ukv A B G' W' (b.val * 4096 + q.val) j.val : ℝ) : EReal) := by
  have h := latent_kv A hA B hB G' hG' b q
  revert h
  unfold val_main_v74
  generalize val_main_v72 (F := Ideal) A B G' = y
  intro h
  pointwise [val_main_v73]
  exact coe_dot _ _ _ _ h (fun k => rd3_eq W' hW' 0 k j)

/-- The queries' cosines. -/
theorem cos_q (p : Fin 4096) (e : Fin 16) : val_main_v42 (F := Ideal) (ix2 p e) = ((Real.cos (ang p.val e.val) : ℝ) : EReal) := by
  pointwise [val_main_v42, val_main_v41, val_main_v40, val_main_v39, val_main_v38, val_main_v37, val_main_v36, val_main_v35, val_main_v34,
    val_main_v33, val_main_v32, val_main_v31, val_main_v30, val_main_v29, val_main_v28, val_main_cst_2, val_main_cst_3, val_main_cst_4]
  exact cos_at _ _ _ p.isLt e.isLt rfl

/-- The queries' sines. -/
theorem sin_q (p : Fin 4096) (e : Fin 16) : val_main_v44 (F := Ideal) (ix2 p e) = ((Real.sin (ang p.val e.val) : ℝ) : EReal) := by
  pointwise [val_main_v44, val_main_v41, val_main_v40, val_main_v39, val_main_v38, val_main_v37, val_main_v36, val_main_v35, val_main_v34,
    val_main_v33, val_main_v32, val_main_v31, val_main_v30, val_main_v29, val_main_v28, val_main_cst_2, val_main_cst_3, val_main_cst_4]
  exact sin_at _ _ _ p.isLt e.isLt rfl

/-- The keys' cosines. -/
theorem cos_k (p : Fin 4096) (e : Fin 16) : val_main_v93 (F := Ideal) (ix2 p e) = ((Real.cos (ang p.val e.val) : ℝ) : EReal) := by
  pointwise [val_main_v93, val_main_v92, val_main_v91, val_main_v90, val_main_v89, val_main_v88, val_main_v87, val_main_v86, val_main_v85,
    val_main_v84, val_main_v83, val_main_v82, val_main_v81, val_main_v80, val_main_v79, val_main_cst_8, val_main_cst_9, val_main_cst_10]
  exact cos_at _ _ _ p.isLt e.isLt rfl

/-- The keys' sines. -/
theorem sin_k (p : Fin 4096) (e : Fin 16) : val_main_v95 (F := Ideal) (ix2 p e) = ((Real.sin (ang p.val e.val) : ℝ) : EReal) := by
  pointwise [val_main_v95, val_main_v92, val_main_v91, val_main_v90, val_main_v89, val_main_v88, val_main_v87, val_main_v86, val_main_v85,
    val_main_v84, val_main_v83, val_main_v82, val_main_v81, val_main_v80, val_main_v79, val_main_cst_8, val_main_cst_9, val_main_cst_10]
  exact sin_at _ _ _ p.isLt e.isLt rfl

include hA hB hG hW in
/-- The rotated columns of the queries. -/
theorem rope_q (b : Fin 8) (q : Fin 4096) (h : Fin 4) (e : Fin 32) :
    val_main_v58 (F := Ideal) A B G W (ix4 b q h e)
      = ((rot (fun e => uq A B G W (b.val * 4096 + q.val) (h.val * 96 + (64 + e))) q.val e.val : ℝ) : EReal) := by
  have hu := up_q A hA B hB G hG W hW b q
  have hc := cos_q q
  have hs := sin_q q
  revert hu hc hs
  unfold val_main_v58 val_main_v57 val_main_v56 val_main_v55 val_main_v54 val_main_v53 val_main_v52 val_main_v51 val_main_v50 val_main_v49
    val_main_v48 val_main_v47 val_main_v46 val_main_v45 val_main_v43 val_main_v27 val_main_v25
  generalize val_main_v24 (F := Ideal) A B G W = y
  generalize val_main_v42 (F := Ideal) = yc
  generalize val_main_v44 (F := Ideal) = ys
  intro hu hc hs
  pointwise
  simp only [hu, hc, hs, ← EReal.coe_mul, ← EReal.coe_sub, ← EReal.coe_add]
  unfold rot
  by_cases h16 : e.val < 16
  · rw [dif_pos h16, if_pos h16, Nat.add_comm 16 e.val]
  · rw [dif_neg h16, if_neg h16, show 16 + (e.val - 16) = e.val by omega]

include hA hB in
/-- The rotated columns of the keys. -/
theorem rope_k (b : Fin 8) (q : Fin 4096) (h : Fin 4) (e : Fin 32) :
    val_main_v110 (F := Ideal) A B (ix4 b q h e)
      = ((rot (fun e => hin A B (b.val * 4096 + q.val) (1920 + e)) q.val e.val : ℝ) : EReal) := by
  have hu := proj A hA B hB b q
  have hc := cos_k q
  have hs := sin_k q
  revert hu hc hs
  unfold val_main_v110 val_main_v109 val_main_v108 val_main_v107 val_main_v106 val_main_v105 val_main_v104 val_main_v103 val_main_v102
    val_main_v101 val_main_v100 val_main_v99 val_main_v98 val_main_v97 val_main_v96 val_main_v94 val_main_v78 val_main_v8
  generalize val_main_v2 (F := Ideal) A B = y
  generalize val_main_v93 (F := Ideal) = yc
  generalize val_main_v95 (F := Ideal) = ys
  intro hu hc hs
  pointwise
  simp only [hu, hc, hs, ← EReal.coe_mul, ← EReal.coe_sub, ← EReal.coe_add]
  unfold rot
  by_cases h16 : e.val < 16
  · rw [dif_pos h16, if_pos h16, Nat.add_comm 16 e.val]
  · rw [dif_neg h16, if_neg h16, show 16 + (e.val - 16) = e.val by omega]

include hA hB hG hW in
/-- The latent attention's queries times their factor. -/
theorem query (b : Fin 8) (q : Fin 4096) (h : Fin 4) (d : Fin 128) :
    val_main_v118 (F := Ideal) A B G W (ix4 b q h d)
      = (((if d.val < 64 then uq A B G W (b.val * 4096 + q.val) (h.val * 96 + d.val)
          else if d.val < 96 then rot (fun e => uq A B G W (b.val * 4096 + q.val) (h.val * 96 + (64 + e))) q.val (d.val - 64)
          else 0) * qs : ℝ) : EReal) := by
  have hu := up_q A hA B hB G hG W hW b q
  have hr := rope_q A hA B hB G hG W hW b q h
  revert hu hr
  unfold val_main_v118 val_main_v113 val_main_v26 val_main_v25
  generalize val_main_v24 (F := Ideal) A B G W = y
  generalize val_main_v58 (F := Ideal) A B G W = z
  intro hu hr
  pointwise [val_main_v117, val_main_v116, val_main_v115, val_main_v114, val_main_v112, val_main_v111, val_main_cst_11, val_main_cst_12,
    val_main_cst_13, val_main_cst_14]
  rw [qs_eq, EReal.coe_mul]
  refine congrArg (fun z : EReal => z * ((qs : ℝ) : EReal)) ?_
  split_ifs <;> first
    | (exfalso; omega)
    | exact EReal.coe_zero.symm
    | exact hu _
    | exact (hr _).trans (congrArg Real.toEReal (if_pos (by omega)).symm)
    | exact EReal.coe_zero.symm.trans (congrArg Real.toEReal (if_neg (by omega)).symm)

include hA hB hG' hW' in
/-- The latent attention's keys. -/
theorem key (b : Fin 8) (q : Fin 4096) (h : Fin 4) (d : Fin 128) :
    val_main_v119 (F := Ideal) A B G' W' (ix4 b q h d)
      = (((if d.val < 64 then ukv A B G' W' (b.val * 4096 + q.val) (h.val * 192 + d.val)
          else if d.val < 96 then rot (fun e => hin A B (b.val * 4096 + q.val) (1920 + e)) q.val (d.val - 64)
          else 0) : ℝ) : EReal) := by
  have hu := up_kv A hA B hB G' hG' W' hW' b q
  have hr := rope_k A hA B hB b q h
  revert hu hr
  unfold val_main_v119 val_main_v76 val_main_v75
  generalize val_main_v74 (F := Ideal) A B G' W' = y
  generalize val_main_v110 (F := Ideal) A B = z
  intro hu hr
  pointwise [val_main_v111, val_main_cst_11]
  split_ifs <;> first
    | (exfalso; omega)
    | exact EReal.coe_zero.symm
    | exact hu _
    | exact (hr _).trans (congrArg Real.toEReal (if_pos (by omega)).symm)
    | exact EReal.coe_zero.symm.trans (congrArg Real.toEReal (if_neg (by omega)).symm)

include hA hB hG hW hG' hW' in
/-- The reference's result at row `r`, column `c`. -/
theorem result (r : Fin 32768) (c : Fin 3072) :
    val_main_v129 (F := Ideal) A B G W G' W' (ix2 r c) = ((res A B G W G' W' r.val c.val : ℝ) : EReal) := by
  have hp := proj A hA B hB ⟨r.val / 4096, by omega⟩ ⟨r.val % 4096, by omega⟩
  have hq := query A hA B hB G hG W hW ⟨r.val / 4096, by omega⟩ ⟨r.val % 4096, by omega⟩
  have hk := key A hA B hB G' hG' W' hW' ⟨r.val / 4096, by omega⟩ ⟨r.val % 4096, by omega⟩
  have hv := up_kv A hA B hB G' hG' W' hW' ⟨r.val / 4096, by omega⟩ ⟨r.val % 4096, by omega⟩
  revert hp hq hk hv
  unfold val_main_v129 val_main_v128 val_main_v127 val_main_v126 val_main_v125 val_main_v124 val_main_v123 val_main_v77 val_main_v75
    val_main_v5 val_main_v4 val_main_v3
  generalize val_main_v2 (F := Ideal) A B = y
  generalize val_main_v118 (F := Ideal) A B G W = yq
  generalize val_main_v119 (F := Ideal) A B G' W' = yk
  generalize val_main_v74 (F := Ideal) A B G' W' = yv
  intro hp hq hk hv
  pointwise [val_main_v122, val_main_v121, val_main_v120, val_main_v112, val_main_cst_12, val_main_cst_15, val_main_cst_16]
  have er : r.val / 4096 * 4096 + r.val % 4096 = r.val := by omega
  simp only [hp, hq, hk, hv, er, factor]
  have hc := c.isLt
  unfold res
  by_cases h0 : c.val < 512
  · rw [dif_pos h0, if_pos h0, EReal.coe_mul]
  rw [dif_neg h0, if_neg h0]
  by_cases h1 : c.val < 1024
  · rw [dif_pos (by omega), if_pos (show c.val < 1536 by omega), show 512 + (c.val - 512) = c.val by omega]
  rw [dif_neg (by omega)]
  by_cases h2 : c.val < 1536
  · rw [dif_pos (by omega), if_pos h2, show 1024 + (c.val - 512 - 512) = c.val by omega]
  rw [dif_neg (by omega), if_neg h2]
  by_cases h3 : c.val < 2048
  · rw [dif_pos (by omega), if_pos h3, show c.val - 512 - 512 - 512 = c.val - 1536 by omega,
      show (c.val - 1536) % 128 = c.val % 128 by omega]
  rw [dif_neg (by omega), if_neg h3]
  by_cases h4 : c.val < 2560
  · rw [dif_pos (by omega), if_pos h4, show c.val - 512 - 512 - 512 - 512 = c.val - 2048 by omega,
      show (c.val - 2048) % 128 = c.val % 128 by omega]
  rw [dif_neg (by omega), if_neg h4, show c.val - 512 - 512 - 512 - 512 - 512 = c.val - 2560 by omega,
    show (c.val - 2560) % 128 = c.val % 128 by omega]

end

end Cert.ProjRef

end
-- ==== Proof.DilReference.lean ====
/- The projection in front of the dilated attentions: what the reference computes. -/
module

public import proofs.«01_k».proof.Proof.DilValue
public import proofs.«01_k».proof.Proof.ProjReference
public import proofs.«01_k».proof.Proof.Gen.Reference3Ideal.Read
public import Idealize.ShloMosaic.Lib.Pointwise

@[expose] public section

set_option maxRecDepth 16384

noncomputable section

namespace Cert.DilRef

open Idealize.ShloMosaic Idealize.ShloMosaic.TcCoe Idealize.SL.Sem
open Cert.Reference3Ideal Cert.Reference3Ideal.Gen Cert.Reference3Ideal.Read Cert.Entries

section
variable (A : FVec Ideal S32768x1024 .f32) (B : FVec Ideal S1x1024x3072 .f32)

/-- The rows times the weight. -/
theorem product (b : Fin 8) (s : Fin 4096) (j : Fin 3072) :
    val_main_v2 (F := Ideal) A B (ix3 b s j)
      = ∑ k : Fin 1024, A (ix2 ⟨b.val * 4096 + s.val, by omega⟩ k) * Cert.Dil.mat B (ix2 k j) := by
  pointwise [val_main_v2, val_main_v1, val_main_v0, Cert.Dil.mat]
  try rfl

/-- The same with the queries' columns scaled. -/
theorem scaled (b : Fin 8) (s : Fin 4096) (j : Fin 3072) :
    val_main_v10 (F := Ideal) A B (ix3 b s j) = Cert.Dil.ent A (Cert.Dil.mat B) (b.val * 4096 + s.val) j.val := by
  have h := product A B b s
  revert h
  unfold val_main_v10 val_main_v9 val_main_v8 val_main_v3
  generalize val_main_v2 (F := Ideal) A B = y
  intro h
  by_cases hj : j.val < 1024
  · refine Eq.trans ?_ (Cert.Dil.ent_query A (Cert.Dil.mat B) ⟨b.val * 4096 + s.val, by omega⟩ j hj).symm
    rw [← h j, ← Cert.ProjRef.factor]
    pointwise [val_main_v7, val_main_v6, val_main_v5, val_main_v4, val_main_cst, val_main_cst_0, val_main_cst_1]
    exact dif_pos hj
  · refine Eq.trans ?_ (Cert.Dil.ent_other A (Cert.Dil.mat B) ⟨b.val * 4096 + s.val, by omega⟩ j hj).symm
    rw [← h j]
    pointwise
    exact (dif_neg hj).trans (congrArg (fun q => y (ix3 b s q)) (Fin.ext (show 1024 + (j.val - 1024) = j.val by omega)))

/-- The row and column the first result reads. -/
theorem at1 (b : Fin 8) (z : Fin 1) (s : Fin 4096) (j : Fin 3072) :
    idx_main_v11 (idx_main_v12 (ix4 b z s j)) = ix3 b s j := by
  have hr : z.val < 1 := z.isLt
  have hq : s.val < 4096 := s.isLt
  have hj : j.val < 3072 := j.isLt
  refine funext fun a => Fin.ext ?_
  fin_cases a
  · exact show (((b.val * 4096 + s.val) * 1 + z.val) * 3072 + j.val) / 12582912 = b.val by omega
  · exact show (((b.val * 4096 + s.val) * 1 + z.val) * 3072 + j.val) / 3072 % 4096 = s.val by omega
  · exact show (((b.val * 4096 + s.val) * 1 + z.val) * 3072 + j.val) % 3072 = j.val by omega

/-- The first result of the reference: the rows in order. -/
theorem result1 (b : Fin 8) (z : Fin 1) (s : Fin 4096) (j : Fin 3072) :
    val_main_v13 (F := Ideal) A B (ix4 b z s j)
      = Cert.Dil.ent A (Cert.Dil.mat B) (b.val * 4096 + s.val) j.val := by
  rw [val_main_v13_apply, val_main_v12_apply, val_main_v11_apply, at1, scaled]
  rfl

/-- The row and column the second result reads. -/
theorem at4 (b : Fin 8) (r : Fin 4) (q : Fin 1024) (j : Fin 3072) :
    idx_main_v14 (idx_main_v15 (ix4 b r q j)) = ix3 b ⟨4 * q.val + r.val, by omega⟩ j := by
  have hr : r.val < 4 := r.isLt
  have hq : q.val < 1024 := q.isLt
  have hj : j.val < 3072 := j.isLt
  refine funext fun a => Fin.ext ?_
  fin_cases a
  · exact show (((b.val * 1024 + q.val) * 4 + r.val) * 3072 + j.val) / 12582912 = b.val by omega
  · exact show (((b.val * 1024 + q.val) * 4 + r.val) * 3072 + j.val) / 3072 % 4096 = (4 * q.val + r.val) by omega
  · exact show (((b.val * 1024 + q.val) * 4 + r.val) * 3072 + j.val) % 3072 = j.val by omega

/-- The second result of the reference: the rows sorted modulo 4. -/
theorem result4 (b : Fin 8) (r : Fin 4) (q : Fin 1024) (j : Fin 3072) :
    val_main_v16 (F := Ideal) A B (ix4 b r q j)
      = Cert.Dil.ent A (Cert.Dil.mat B) (b.val * 4096 + (4 * q.val + r.val)) j.val := by
  rw [val_main_v16_apply, val_main_v15_apply, val_main_v14_apply, at4, scaled]
  rfl

/-- The row and column the third result reads. -/
theorem at16 (b : Fin 8) (r : Fin 16) (q : Fin 256) (j : Fin 3072) :
    idx_main_v17 (idx_main_v18 (ix4 b r q j)) = ix3 b ⟨16 * q.val + r.val, by omega⟩ j := by
  have hr : r.val < 16 := r.isLt
  have hq : q.val < 256 := q.isLt
  have hj : j.val < 3072 := j.isLt
  refine funext fun a => Fin.ext ?_
  fin_cases a
  · exact show (((b.val * 256 + q.val) * 16 + r.val) * 3072 + j.val) / 12582912 = b.val by omega
  · exact show (((b.val * 256 + q.val) * 16 + r.val) * 3072 + j.val) / 3072 % 4096 = (16 * q.val + r.val) by omega
  · exact show (((b.val * 256 + q.val) * 16 + r.val) * 3072 + j.val) % 3072 = j.val by omega

/-- The third result of the reference: the rows sorted modulo 16. -/
theorem result16 (b : Fin 8) (r : Fin 16) (q : Fin 256) (j : Fin 3072) :
    val_main_v19 (F := Ideal) A B (ix4 b r q j)
      = Cert.Dil.ent A (Cert.Dil.mat B) (b.val * 4096 + (16 * q.val + r.val)) j.val := by
  rw [val_main_v19_apply, val_main_v18_apply, val_main_v17_apply, at16, scaled]
  rfl
end

end Cert.DilRef

end
-- ==== Proof.DilClaim.lean ====
/- The projection's value claim in front of the dilated attentions: the call and the reference end with the same
   three results. -/
module

public import proofs.«01_k».proof.Defs
public import proofs.«01_k».proof.Proof.Gen.Kernel3
public import proofs.«01_k».proof.Proof.DilReference
public import Idealize.ShloMosaic.Lib.Claim

@[expose] public section

set_option maxRecDepth 16384

noncomputable section

namespace Cert.DilClaim

open Idealize.ShloMosaic Idealize.ShloMosaic.TcCoe Idealize.SL.Sem

section
variable (m : (ℓ : Loc Cert.Kernel3Ideal.nD Cert.Kernel3Ideal.τ Cert.Kernel3Ideal.sig) → Buf (Elt Ideal) ℓ)
  (c : Dev Cert.Kernel3Ideal.nD)
  (A : FVec Ideal Cert.Kernel3Ideal.S32768x1024 .f32) (hA : m ((c.tc : Thread Cert.Kernel3Ideal.nD Cert.Kernel3Ideal.τ).loc Cert.Kernel3Ideal.main_arg0) = A)
  (B : FVec Ideal Cert.Kernel3Ideal.S1x1024x3072 .f32) (hB : m ((c.tc : Thread Cert.Kernel3Ideal.nD Cert.Kernel3Ideal.τ).loc Cert.Kernel3Ideal.main_arg1) = B)

include hA hB in
/-- The first result of the call is the reference's. -/
theorem same1 : (Cert.Kernel3Ideal.Gen.dats m 0 c).arrAt 2 (Cert.Kernel3Ideal.cfgs 0).N
    = Cert.Reference3Ideal.Read.val_main_v13 (F := Ideal) A B := by
  rw [Cert.Dil.final1 m c A hA B hB]
  funext i
  refine Eq.trans ?_ (congrArg _ (show ix4 (i 0) (i 1) (i 2) (i 3) = i from by funext a; fin_cases a <;> rfl))
  exact (Cert.DilRef.result1 A B (i 0) (i 1) (i 2) (i 3)).symm

include hA hB in
/-- The second result of the call is the reference's. -/
theorem same4 : (Cert.Kernel3Ideal.Gen.dats m 0 c).arrAt 3 (Cert.Kernel3Ideal.cfgs 0).N
    = Cert.Reference3Ideal.Read.val_main_v16 (F := Ideal) A B := by
  rw [Cert.Dil.final4 m c A hA B hB]
  funext i
  refine Eq.trans ?_ (congrArg _ (show ix4 (i 0) (i 1) (i 2) (i 3) = i from by funext a; fin_cases a <;> rfl))
  exact (Cert.DilRef.result4 A B (i 0) (i 1) (i 2) (i 3)).symm

include hA hB in
/-- The third result of the call is the reference's. -/
theorem same16 : (Cert.Kernel3Ideal.Gen.dats m 0 c).arrAt 4 (Cert.Kernel3Ideal.cfgs 0).N
    = Cert.Reference3Ideal.Read.val_main_v19 (F := Ideal) A B := by
  rw [Cert.Dil.final16 m c A hA B hB]
  funext i
  refine Eq.trans ?_ (congrArg _ (show ix4 (i 0) (i 1) (i 2) (i 3) = i from by funext a; fin_cases a <;> rfl))
  exact (Cert.DilRef.result16 A B (i 0) (i 1) (i 2) (i 3)).symm
end

set_option maxHeartbeats 8000000 in
/-- The value claim of the projection's call. -/
theorem algebraic : Cert.algebraic_Kernel3Ideal_Reference3Ideal := by
  pair_intro
  · run_from Cert.Kernel3Ideal.Gen.run_main m g
  · run_from Cert.Reference3Ideal.Value.run m' g'
    · exact (same1 m c _ rfl _ rfl).symm
    · exact (same4 m c _ rfl _ rfl).symm
    · exact (same16 m c _ rfl _ rfl).symm

/-- The one constant of the call that is read as its exact value: the queries' factor `1 / (8 log 2)`. -/
theorem named_scale : Cert.preserves_Kernel3_Kernel3Ideal :=
  IdealRules.named_const.statement Cert.Kernel3Ideal.κ "qscale" .f32 0x3E38AA3B#32 (((8 * (Real.log 2))⁻¹ : ℝ) : EReal) rfl

/-- The frame of the reference. -/
theorem frame_reference : Cert.quiescent_Reference3Ideal := by
  intro m g _
  exact (θ_run Cert.Reference3Ideal.defs _ _).mono
    (fun r h => ⟨fun c => (h c).2.2.2, sem_eq_zero_of_no_sems (by decide) r.2⟩) (Cert.Reference3Ideal.Value.run (F := Ideal) m g)

end Cert.DilClaim

end
-- ==== Proof.MixKernel.lean ====
/- The first layer's output projection with its norm: what a block stores. -/
module

public import proofs.«01_k».proof.Proof.Entries
public import proofs.«01_k».proof.Proof.Gen.Kernel5Ideal.Value
public import Idealize.ShloMosaic.Lib.Pipeline.ValueKit
public import Idealize.ShloMosaic.Lib.Pointwise
public import Idealize.ShloMosaic.Lib.WholeRead

@[expose] public section

set_option maxRecDepth 16384

noncomputable section

namespace Cert.Mix

open Idealize.ShloMosaic Idealize.ShloMosaic.TcCoe Idealize.SL.Sem
open Idealize.ShloMosaic.Pipeline (Dat)
open Cert.Kernel5Ideal Cert.Kernel5Ideal.Gen Cert.Entries

/-- The norm's argument: the residual scaled by the root of 2, plus both heads' groups times their halves of the weight. -/
def res (x : EReal) (a b : Fin 512 → EReal) (u w : Fin 512 → EReal) : EReal :=
  Ideal.ofBits .f32 0x3FB504F3#32 * x + ((∑ k : Fin 512, a k * u k) + ∑ k : Fin 512, b k * w k)

/-- The mean of a row. -/
def mean (y : Fin 1024 → EReal) : EReal := Ideal.div (∑ j : Fin 1024, y j) (Ideal.ofBits .f32 0x44800000#32)

/-- A row with its mean taken out. -/
def cen (y : Fin 1024 → EReal) (j : Fin 1024) : EReal := y j - mean y

/-- The layer norm of a row. -/
def norm (y : Fin 1024 → EReal) (g b : EReal) (j : Fin 1024) : EReal :=
  cen y j * Ideal.rsqrt (mean (fun k => cen y k * cen y k) + Ideal.ofBits .f32 0x3727C5AC#32) * g + b

section
variable (a b : FVec Ideal S512x512 .bf16) (u w : FVec Ideal S512x1024 .bf16) (x : FVec Ideal S512x1024 .f32)

/-- Row `i` of the norm's argument. -/
def row (i : Fin 512) (j : Fin 1024) : EReal :=
  res (x (ix2 i j)) (fun k => a (ix2 i k)) (fun k => b (ix2 i k)) (fun k => u (ix2 k j)) (fun k => w (ix2 k j))

/-- The row with its mean taken out, as the body computes it. -/
theorem pay4 (i : Fin 512) (j : Fin 1024) : k0_pay4 (F := Ideal) a u b w x (ix2 i j) = cen (row a b u w x i) j := by
  pointwise [k0_pay4, row, cen, mean, res]

/-- The reciprocal root. -/
theorem pay5 (i : Fin 512) (z : Fin 1) : k0_pay5 (F := Ideal) a u b w x (ix2 i z)
    = Ideal.rsqrt (mean (fun k => cen (row a b u w x i) k * cen (row a b u w x i) k) + Ideal.ofBits .f32 0x3727C5AC#32) := by
  have h := pay4 a b u w x i
  unfold k0_pay5
  revert h
  generalize k0_pay4 (F := Ideal) a u b w x = y
  generalize cen (row a b u w x i) = v
  intro h
  pointwise [mean]
  simp only [h]

/-- The stored row. -/
theorem pay6 (g h : FVec Ideal S1x1024 .f32) (i : Fin 512) (j : Fin 1024) :
    k0_pay6 (F := Ideal) (k0_pay2 g) (k0_pay3 h) (k0_pay4 a u b w x) (k0_pay5 a u b w x) (ix2 i j)
      = norm (row a b u w x i) (g (ix2 0 j)) (h (ix2 0 j)) j := by
  have h4 := pay4 a b u w x i j
  have h5 := pay5 a b u w x i 0
  revert h4 h5
  generalize k0_pay4 (F := Ideal) a u b w x = y
  generalize k0_pay5 (F := Ideal) a u b w x = z
  intro h4 h5
  unfold norm
  rw [← h4, ← h5]
  pointwise [k0_pay6, k0_pay2, k0_pay3]
end

variable (m : (ℓ : Loc nD τ sig) → Buf (Elt Ideal) ℓ)

/-- The windows' block indices in the point's position. -/
theorem idx : ∀ t : Fin cfg0.N, win0_0.index t = ![t.val, 0] ∧ win0_1.index t = ![t.val, 0] ∧ win0_2.index t = ![0, 0]
      ∧ win0_3.index t = ![t.val, 0] ∧ win0_4.index t = ![0, 0] ∧ win0_5.index t = ![0, 0] ∧ win0_9.index t = ![t.val, 0] :=
  (by decide +kernel : ∀ t : Fin grid0.N, _)

/-- Row `r` of the norm's argument, from the call's arguments. -/
def arow (P Q : FVec Ideal S32768x512 .bf16) (B : FVec Ideal S1x1024x1024 .f32) (X : FVec Ideal S32768x1024 .f32)
    (r : Fin 32768) (j : Fin 1024) : EReal :=
  res (X (ix2 r j)) (fun k => P (ix2 r k)) (fun k => Q (ix2 r k)) (fun k => B (ix3 0 ⟨k.val, by omega⟩ j))
    (fun k => B (ix3 0 ⟨512 + k.val, by omega⟩ j))

section
variable (c : Dev nD) (P : FVec Ideal S32768x512 .bf16) (hmP : m ((c : Thread nD τ).loc main_arg0) = P)
  (Q : FVec Ideal S32768x512 .bf16) (hmQ : m ((c : Thread nD τ).loc main_arg1) = Q)
  (B : FVec Ideal S1x1024x1024 .f32) (hmB : m ((c : Thread nD τ).loc main_arg2) = B)
  (X : FVec Ideal S32768x1024 .f32) (hmX : m ((c : Thread nD τ).loc main_arg3) = X)
  (G : FVec Ideal S2x1024 .f32) (hmG : m ((c : Thread nD τ).loc main_arg4) = G)
  (H : FVec Ideal S2x1024 .f32) (hmH : m ((c : Thread nD τ).loc main_arg5) = H)

/-- Row `i` of point `t`'s blocks in the arrays. -/
def arr (t : Fin cfg0.N) (i : Fin 512) : Fin 32768 := ⟨t.val * 512 + i.val, by have h : t.val < 64 := t.isLt; omega⟩

include hmP in
/-- The block of the first heads' rows. -/
theorem blk_p (t : Fin cfg0.N) (i k : Fin 512) : (iblk m c 0 t : FVec Ideal S512x512 .bf16) (ix2 i k) = P (ix2 (arr t i) k) := by
  subst hmP
  blk_simp [iblk]
  rw [V_main_arg0]
  refine congrArg _ (funext fun a => Fin.ext ?_)
  fin_cases a <;> blk_simp [idx t] <;> rfl

include hmQ in
/-- The block of the second heads' rows. -/
theorem blk_q (t : Fin cfg0.N) (i k : Fin 512) : (iblk m c 1 t : FVec Ideal S512x512 .bf16) (ix2 i k) = Q (ix2 (arr t i) k) := by
  subst hmQ
  blk_simp [iblk]
  rw [V_main_arg1]
  refine congrArg _ (funext fun a => Fin.ext ?_)
  fin_cases a <;> blk_simp [idx t] <;> rfl

include hmX in
/-- The block of the layer's input. -/
theorem blk_x (t : Fin cfg0.N) (i : Fin 512) (j : Fin 1024) :
    (iblk m c 3 t : FVec Ideal S512x1024 .f32) (ix2 i j) = X (ix2 (arr t i) j) := by
  subst hmX
  blk_simp [iblk]
  rw [V_main_arg3]
  refine congrArg _ (funext fun a => Fin.ext ?_)
  fin_cases a <;> blk_simp [idx t] <;> rfl

include hmB in
/-- The weight the region finds. -/
theorem weight (k j : Fin 1024) : (V m c main_v18 : FVec Ideal S1024x1024 .bf16) (ix2 k j) = B (ix3 0 k j) := by
  subst hmB
  unfold V
  after_results_simp
  pointwise

include hmB in
/-- The block of the weight. -/
theorem blk_w (t : Fin cfg0.N) (k j : Fin 1024) : (iblk m c 2 t : FVec Ideal S1024x1024 .bf16) (ix2 k j) = B (ix3 0 k j) := by
  rw [← weight m c B hmB]
  blk_simp [iblk]
  refine congrArg _ (funext fun a => Fin.ext ?_)
  fin_cases a <;> blk_simp [idx t]

include hmG in
/-- The gain the region finds. -/
theorem gain (z : Fin 1) (j : Fin 1024) : (V m c main_v21 : FVec Ideal S1x1024 .f32) (ix2 z j) = G (ix2 0 j) := by
  subst hmG
  unfold V
  after_results_simp
  pointwise

include hmH in
/-- The shift the region finds. -/
theorem shift (z : Fin 1) (j : Fin 1024) : (V m c main_v24 : FVec Ideal S1x1024 .f32) (ix2 z j) = H (ix2 0 j) := by
  subst hmH
  unfold V
  after_results_simp
  pointwise

include hmG in
/-- The block of the gain. -/
theorem blk_g (t : Fin cfg0.N) (z : Fin 1) (j : Fin 1024) : (iblk m c 4 t : FVec Ideal S1x1024 .f32) (ix2 z j) = G (ix2 0 j) := by
  rw [← gain m c G hmG z]
  blk_simp [iblk]
  refine congrArg _ (funext fun a => Fin.ext ?_)
  fin_cases a <;> blk_simp [idx t]

include hmH in
/-- The block of the shift. -/
theorem blk_h (t : Fin cfg0.N) (z : Fin 1) (j : Fin 1024) : (iblk m c 5 t : FVec Ideal S1x1024 .f32) (ix2 z j) = H (ix2 0 j) := by
  rw [← shift m c H hmH z]
  blk_simp [iblk]
  refine congrArg _ (funext fun a => Fin.ext ?_)
  fin_cases a <;> blk_simp [idx t]

/-- A half of the weight as the body reads it. -/
theorem half (w : FVec Ideal S1024x1024 .bf16) (o : ℕ) (ho : o + 512 ≤ 1024) (inb) (k : Fin 512) (j : Fin 1024) :
    View.ld (Val := Elt Ideal) (e' := .bf16) w (Rect.unit (s := S1024x1024) ![o, 0] ![512, 1024] inb) (ix2 k j)
      = w (ix2 ⟨o + k.val, by omega⟩ j) := by
  refine congrArg w (funext fun a => Fin.ext ?_)
  fin_cases a
  · exact show o + 1 * k.val = o + k.val by omega
  · exact show 0 + 1 * j.val = j.val by omega

include hmP hmQ hmB hmX hmG hmH in
/-- The row the body stores, in the arguments' entries. -/
theorem stored (t : Fin cfg0.N) (i : Fin 512) (j : Fin 1024) (inb inb') :
    k0_pay6 (F := Ideal) (k0_pay2 (iblk m c 4 t)) (k0_pay3 (iblk m c 5 t))
      (k0_pay4 (iblk m c 0 t) (View.ld (iblk m c 2 t) (Rect.unit (s := S1024x1024) ![0, 0] ![512, 1024] inb)) (iblk m c 1 t)
        (View.ld (iblk m c 2 t) (Rect.unit (s := S1024x1024) ![512, 0] ![512, 1024] inb')) (iblk m c 3 t))
      (k0_pay5 (iblk m c 0 t) (View.ld (iblk m c 2 t) (Rect.unit (s := S1024x1024) ![0, 0] ![512, 1024] inb)) (iblk m c 1 t)
        (View.ld (iblk m c 2 t) (Rect.unit (s := S1024x1024) ![512, 0] ![512, 1024] inb')) (iblk m c 3 t)) (ix2 i j)
      = norm (arow P Q B X (arr t i)) (G (ix2 0 j)) (H (ix2 0 j)) j := by
  refine (pay6 _ _ _ _ _ _ _ i j).trans ?_
  rw [blk_g m c G hmG, blk_h m c H hmH]
  refine congrArg (fun y => norm y _ _ j) (funext fun l => ?_)
  unfold row arow
  rw [blk_x m c X hmX]
  congr 1
  · exact funext fun k => blk_p m c P hmP t i k
  · exact funext fun k => blk_q m c Q hmQ t i k
  · refine funext fun k => ?_
    rw [half _ 0 (by norm_num), blk_w m c B hmB]
    exact congrArg (fun q => B (ix3 0 q l)) (Fin.ext (Nat.zero_add _))
  · exact funext fun k => by rw [half _ 512 (by norm_num), blk_w m c B hmB]

include hmP hmQ hmB hmX hmG hmH in
/-- What the body leaves at an index of a point's block. -/
theorem point (t : Fin cfg0.N) (y : S512x1024.Idx) (a : Fin 32768) (b : Fin 1024) (ha : a.val = t.val * 512 + (y 0).val)
    (hb : b.val = (y 1).val) :
    (outsAt0 m c t.val t.isLt).1 y = norm (arow P Q B X a) (G (ix2 0 b)) (H (ix2 0 b)) b := by
  by_cases h0 : t.val % 64 = 0
  · rw [outsAt0_A m c t h0]
    unfold out0_A_9
    frame_out
    idx_vars y
    obtain rfl : a = arr t y0 := Fin.ext ha
    obtain rfl : b = y1 := Fin.ext hb
    exact stored m c P hmP Q hmQ B hmB X hmX G hmG H hmH t y0 _ _ _
  · rw [outsAt0_B m c t h0]
    unfold out0_B_9
    frame_out
    idx_vars y
    obtain rfl : a = arr t y0 := Fin.ext ha
    obtain rfl : b = y1 := Fin.ext hb
    exact stored m c P hmP Q hmQ B hmB X hmX G hmG H hmH t y0 _ _ _

include hmP hmQ hmB hmX hmG hmH in
/-- The first result after the run: the norm of every row. -/
theorem final : (dats m 0 c).arrAt 9 (cfgs 0).N
    = (fun i : S32768x1024.Idx => norm (arow P Q B X (i 0)) (G (ix2 0 (i 1))) (H (ix2 0 (i 1))) (i 1) : FVec Ideal S32768x1024 .f32) := by
  refine (dats m 0 c).arrAt_eq_of_covers 9 _ (by decide +kernel) fun t _ y => ?_
  blk_simp
  rw [after0_9]
  refine point m c P hmP Q hmQ B hmB X hmX G hmG H hmH t y _ _ ?_ ?_ <;> blk_simp [idx t] <;> try omega
end

end Cert.Mix

end
-- ==== Proof.MixReference.lean ====
/- The first layer's output projection with its norm: what the reference computes. -/
module

public import proofs.«01_k».proof.Proof.MixKernel
public import proofs.«01_k».proof.Proof.Gen.Reference5Ideal.Read
public import Idealize.ShloMosaic.Lib.Pointwise

@[expose] public section

set_option maxRecDepth 16384

noncomputable section

namespace Cert.MixRef

open Idealize.ShloMosaic Idealize.ShloMosaic.TcCoe Idealize.SL.Sem
open Cert.Reference5Ideal Cert.Reference5Ideal.Gen Cert.Reference5Ideal.Read Cert.Mix

section
variable (P Q : FVec Ideal S32768x512 .bf16) (B : FVec Ideal S1x1024x1024 .f32) (X : FVec Ideal S32768x1024 .f32)
  (G H : FVec Ideal S2x1024 .f32)

/-- Position `s` of sequence `b` as a row. -/
def pos (b : Fin 8) (s : Fin 4096) : Fin 32768 := ⟨b.val * 4096 + s.val, by omega⟩

/-- A sum over all columns by halves. -/
theorem halves (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-- Both groups of heads side by side. -/
theorem joined (b : Fin 8) (s : Fin 4096) (k : Fin 1024) :
    val_main_v3 (F := Ideal) P Q (ix3 b s k)
      = if h : k.val < 512 then P (ix2 (pos b s) ⟨k.val, h⟩) else Q (ix2 (pos b s) ⟨k.val - 512, by omega⟩) := by
  pointwise [val_main_v3, val_main_v2, val_main_v1, val_main_v0, pos]

/-- The norm's argument. -/
theorem argument (b : Fin 8) (s : Fin 4096) (j : Fin 1024) :
    val_main_v9 (F := Ideal) P Q B X (ix3 b s j) = arow P Q B X (pos b s) j := by
  have h3 := joined P Q b s
  revert h3
  unfold val_main_v9 val_main_v5
  generalize val_main_v3 (F := Ideal) P Q = y
  intro h3
  pointwise [val_main_v8, val_main_v7, val_main_cst, val_main_v6, val_main_v4, arow, res, pos]
  rw [halves]
  simp only [h3]
  congr 2

/-- The argument with its mean taken out. -/
theorem centred (b : Fin 8) (s : Fin 4096) (j : Fin 1024) :
    val_main_v19 (F := Ideal) P Q B X (ix3 b s j) = cen (arow P Q B X (pos b s)) j := by
  have h := argument P Q B X b s
  revert h
  unfold val_main_v19 val_main_v18 val_main_v17 val_main_v15 val_main_v14
  generalize val_main_v9 (F := Ideal) P Q B X = y
  generalize arow P Q B X (pos b s) = v
  intro h
  pointwise [val_main_v16, val_main_cst_0, val_main_cst_1, cen, mean]
  simp only [h]

/-- An entry of the result. -/
theorem result (b : Fin 8) (s : Fin 4096) (j : Fin 1024) :
    val_main_v37 (F := Ideal) P Q B X G H (ix3 b s j) = Cert.Mix.norm (arow P Q B X (pos b s)) (G (ix2 0 j)) (H (ix2 0 j)) j := by
  have h := centred P Q B X b s
  have e : val_main_v26 (F := Ideal) P Q B X = val_main_v19 (F := Ideal) P Q B X := rfl
  revert h
  unfold val_main_v37 val_main_v34 val_main_v31 val_main_v30 val_main_v29 val_main_v28 val_main_v24 val_main_v22 val_main_v21 val_main_v20 Cert.Mix.norm
  rw [e]
  generalize val_main_v19 (F := Ideal) P Q B X = y
  generalize cen (arow P Q B X (pos b s)) = v
  intro h
  pointwise [val_main_v36, val_main_v35, val_main_v33, val_main_v32, val_main_v27, val_main_v23, val_main_cst_2, val_main_cst_3, val_main_cst_4, val_main_v13, val_main_v12, val_main_v11, val_main_v10, mean]
  simp only [h]

/-- The result, row by row. -/
theorem rows : val_main_v38 (F := Ideal) P Q B X G H
    = (fun i : S32768x1024.Idx => Cert.Mix.norm (arow P Q B X (i 0)) (G (ix2 0 (i 1))) (H (ix2 0 (i 1))) (i 1)) := by
  funext i
  have h0 : (i 0).val < 32768 := (i 0).isLt
  have h1 : (i 1).val < 1024 := (i 1).isLt
  rw [val_main_v38_apply, show idx_main_v38 i = ix3 (⟨(i 0).val / 4096, by omega⟩ : Fin 8) (⟨(i 0).val % 4096, by omega⟩ : Fin 4096) (i 1) from by
    refine funext fun a => Fin.ext ?_
    fin_cases a
    · exact show ((i 0).val * 1024 + (i 1).val) / 4194304 = (i 0).val / 4096 by omega
    · exact show ((i 0).val * 1024 + (i 1).val) / 1024 % 4096 = (i 0).val % 4096 by omega
    · exact show ((i 0).val * 1024 + (i 1).val) % 1024 = (i 1).val by omega]
  refine (result P Q B X G H _ _ _).trans ?_
  refine congrArg (fun r => Cert.Mix.norm (arow P Q B X r) _ _ _) (Fin.ext ?_)
  exact show (i 0).val / 4096 * 4096 + (i 0).val % 4096 = (i 0).val by omega
end

end Cert.MixRef

end
-- ==== Proof.MixClaim.lean ====
/- The value claim of the first layer's output projection with its norm: the call and the reference end with the same
   rows. -/
module

public import proofs.«01_k».proof.Defs
public import proofs.«01_k».proof.Proof.Gen.Kernel5
public import proofs.«01_k».proof.Proof.Gen.Reference5Ideal.Run
public import proofs.«01_k».proof.Proof.MixReference
public import Idealize.ShloMosaic.Lib.Claim

@[expose] public section

set_option maxRecDepth 16384

noncomputable section

namespace Cert.MixClaim

open Idealize.ShloMosaic Idealize.ShloMosaic.TcCoe Idealize.SL.Sem

set_option maxHeartbeats 8000000 in
/-- The value claim of the output projection's call, of its first result. -/
theorem algebraic : Cert.algebraic_Kernel5Ideal_Reference5Ideal := by
  pair_intro
  · run_from Cert.Kernel5Ideal.Gen.run_main m g
  · run_from Cert.Reference5Ideal.Value.run m' g'
    obtain ⟨e0, e1, e2, e3, e4, e5, -⟩ := hagree c
    rw [Cert.Mix.final m c _ rfl _ rfl _ rfl _ rfl _ rfl _ rfl, Cert.Reference5Ideal.Read.val_main_v38_eq, e0, e1, e2, e3, e4, e5]
    exact Cert.MixRef.rows _ _ _ _ _ _

/-- The frame of the reference. -/
theorem frame_reference : Cert.quiescent_Reference5Ideal := by
  intro m g _
  exact (θ_run Cert.Reference5Ideal.defs _ _).mono
    (fun r h => ⟨fun c => (h c).2, sem_eq_zero_of_no_sems (by decide) r.2⟩) (Cert.Reference5Ideal.Value.run (F := Ideal) m g)

end Cert.MixClaim

end
-- ==== Proof.ProjClaim.lean ====
/- The projections' value claim: the call and the reference end with the same result. -/
module

public import proofs.«01_k».proof.Defs
public import proofs.«01_k».proof.Proof.Gen.Kernel4
public import proofs.«01_k».proof.Proof.Gen.Pre_finite4
public import proofs.«01_k».proof.Proof.ProjReference
public import Idealize.ShloMosaic.Lib.Claim

@[expose] public section

set_option maxRecDepth 16384

noncomputable section

namespace Cert.ProjClaim

open Idealize.ShloMosaic Idealize.ShloMosaic.TcCoe Idealize.SL.Sem Cert.Soft

/-- What the precondition says: every entry of the arguments is a real. -/
theorem pre_real (A : FVec Ideal Cert.Pre_finite4.S32768x1024 .f32) (B : FVec Ideal Cert.Pre_finite4.S1x1024x1952 .f32)
    (G : FVec Ideal Cert.Pre_finite4.S1x256 .f32) (W : FVec Ideal Cert.Pre_finite4.S1x256x384 .f32)
    (G' : FVec Ideal Cert.Pre_finite4.S1x128 .f32) (W' : FVec Ideal Cert.Pre_finite4.S1x128x768 .f32)
    (h0 : (Cert.Pre_finite4.fn (F := Ideal) A B G W G' W').1 = fun _ => 1#1)
    (h1 : (Cert.Pre_finite4.fn (F := Ideal) A B G W G' W').2.1 = fun _ => 1#1)
    (h2 : (Cert.Pre_finite4.fn (F := Ideal) A B G W G' W').2.2.1 = fun _ => 1#1)
    (h3 : (Cert.Pre_finite4.fn (F := Ideal) A B G W G' W').2.2.2.1 = fun _ => 1#1)
    (h4 : (Cert.Pre_finite4.fn (F := Ideal) A B G W G' W').2.2.2.2.1 = fun _ => 1#1)
    (h5 : (Cert.Pre_finite4.fn (F := Ideal) A B G W G' W').2.2.2.2.2 = fun _ => 1#1) :
    (∀ i, A i = ((EReal.toReal (A i) : ℝ) : EReal)) ∧ (∀ i, B i = ((EReal.toReal (B i) : ℝ) : EReal))
      ∧ (∀ i, G i = ((EReal.toReal (G i) : ℝ) : EReal)) ∧ (∀ i, W i = ((EReal.toReal (W i) : ℝ) : EReal))
      ∧ (∀ i, G' i = ((EReal.toReal (G' i) : ℝ) : EReal)) ∧ (∀ i, W' i = ((EReal.toReal (W' i) : ℝ) : EReal)) := by
  refine ⟨fun i => ?_, fun i => ?_, fun i => ?_, fun i => ?_, fun i => ?_, fun i => ?_⟩
  · have hi := congrFun h0 i
    pointwise [Cert.Pre_finite4.fn] at hi
    refine real_of_abs_lt _ ?_
    rw [← bits_top]
    exact of_bit _ hi
  · have hi := congrFun h1 i
    pointwise [Cert.Pre_finite4.fn] at hi
    refine real_of_abs_lt _ ?_
    rw [← bits_top]
    exact of_bit _ hi
  · have hi := congrFun h2 i
    pointwise [Cert.Pre_finite4.fn] at hi
    refine real_of_abs_lt _ ?_
    rw [← bits_top]
    exact of_bit _ hi
  · have hi := congrFun h3 i
    pointwise [Cert.Pre_finite4.fn] at hi
    refine real_of_abs_lt _ ?_
    rw [← bits_top]
    exact of_bit _ hi
  · have hi := congrFun h4 i
    pointwise [Cert.Pre_finite4.fn] at hi
    refine real_of_abs_lt _ ?_
    rw [← bits_top]
    exact of_bit _ hi
  · have hi := congrFun h5 i
    pointwise [Cert.Pre_finite4.fn] at hi
    refine real_of_abs_lt _ ?_
    rw [← bits_top]
    exact of_bit _ hi

set_option maxHeartbeats 8000000 in
/-- The value claim of the projections' call. -/
theorem algebraic : Cert.algebraic_Kernel4Ideal_Reference4Ideal_pre_finite4 := by
  pair_intro
  · run_from Cert.Kernel4Ideal.Gen.run_main m g
  · run_from Cert.Reference4Ideal.Value.run m' g'
    obtain ⟨p0, p1, p2, p3, p4, p5⟩ := hpre c
    obtain ⟨r0, r1, r2, r3, r4, r5⟩ := pre_real _ _ _ _ _ _ p0 p1 p2 p3 p4 p5
    obtain ⟨e0, e1, e2, e3, e4, e5⟩ := hagree c
    rw [Cert.Proj.final m c _ rfl r0 _ rfl r1 _ rfl r2 _ rfl r3 _ rfl r4 _ rfl r5,
      Cert.Reference4Ideal.Read.val_main_v129_eq, e0, e1, e2, e3, e4, e5]
    funext i
    rw [show i = ix2 (i 0) (i 1) from by funext a; fin_cases a <;> rfl]
    exact (Cert.ProjRef.result _ r0 _ r1 _ r2 _ r3 _ r4 _ r5 (i 0) (i 1))

/-- The one constant of the call that is read as its exact value: the queries' factor `1 / (8 log 2)`. -/
theorem named_scale : Cert.preserves_Kernel4_Kernel4Ideal :=
  IdealRules.named_const.statement Cert.Kernel4Ideal.κ "qscale" .f32 0x3E38AA3B#32 (((8 * (Real.log 2))⁻¹ : ℝ) : EReal) rfl

/-- The frame of the reference. -/
theorem frame_reference : Cert.quiescent_Reference4Ideal := by
  intro m g _
  exact (θ_run Cert.Reference4Ideal.defs _ _).mono
    (fun r h => ⟨fun c => (h c).2, sem_eq_zero_of_no_sems (by decide) r.2⟩) (Cert.Reference4Ideal.Value.run (F := Ideal) m g)

end Cert.ProjClaim

end
-- ==== Proof.GateSpec.lean ====
/- The router: the first of the greatest, the two greatest, what a stable sort puts first, and the gates of a row of
   scores. -/
module

public import proofs.«01_k».proof.Proof.Soft
public import Idealize.ShloMosaic.Lib.Pointwise
public import Idealize.ShloMosaic.Lib.SortFacts

@[expose] public section

set_option maxRecDepth 16384

noncomputable section

namespace Cert.Gate

open Idealize.ShloMosaic

/-- Position `g` is the first that holds the greatest value. -/
def First {n : ℕ} (L : Fin n → EReal) (g : Fin n) : Prop := (∀ k, L k ≤ L g) ∧ ∀ k, k < g → L k < L g

/-- Position `a` holds the greatest value and position `b` the greatest of the others. -/
def Two {n : ℕ} (N : Fin n → EReal) (a b : Fin n) : Prop := b ≠ a ∧ (∀ k, N k ≤ N a) ∧ ∀ k, k ≠ a → N k ≤ N b

/-- Another position of the greatest value leaves a second greatest of the same value. -/
theorem Two.move {n : ℕ} {N : Fin n → EReal} {a b : Fin n} (h : Two N a b) (a' : Fin n) (e : N a' = N a) :
    ∃ b', Two N a' b' ∧ N b' = N b := by
  obtain ⟨hb, ha, hr⟩ := h
  by_cases h1 : a' = a
  · subst h1
    exact ⟨b, ⟨hb, ha, hr⟩, rfl⟩
  · have hab : N a ≤ N b := e ▸ hr a' h1
    by_cases h2 : b = a'
    · subst h2
      exact ⟨a, ⟨fun q => h1 q.symm, fun k => (ha k).trans hab, fun k _ => ha k⟩, e.symm⟩
    · exact ⟨b, ⟨h2, fun k => e ▸ ha k, fun k _ => (ha k).trans hab⟩, rfl⟩

/-- The first position of a value that occurs. -/
theorem exists_first {n : ℕ} (N : Fin n → EReal) (a : Fin n) : ∃ a', N a' = N a ∧ ∀ k, k < a' → N k ≠ N a := by
  obtain ⟨x, hx, hmin⟩ := (wellFounded_lt (α := Fin n)).has_min {e | N e = N a} ⟨a, rfl⟩
  exact ⟨x, hx, fun k hk hn => hmin k hn hk⟩

/-- A greatest value, folded from the least extended real. -/
theorem fold_max_eq {n : ℕ} (f : Fin n → EReal) (a : Fin n) (h : ∀ k, f k ≤ f a) : Finset.univ.fold max (⊥ : EReal) f = f a :=
  le_antisymm (Finset.fold_max_le _ |>.mpr ⟨bot_le, fun k _ => h k⟩) (Finset.le_fold_max _ |>.mpr (Or.inr ⟨a, Finset.mem_univ _, le_rfl⟩))

/-- A least value, folded from the greatest extended real. -/
theorem fold_min_eq {n : ℕ} (f : Fin n → EReal) (a : Fin n) (h : ∀ k, f a ≤ f k) : Finset.univ.fold min (⊤ : EReal) f = f a :=
  le_antisymm (Finset.fold_min_le _ |>.mpr (Or.inr ⟨a, Finset.mem_univ _, le_rfl⟩)) (Finset.le_fold_min _ |>.mpr ⟨le_top, fun k _ => h k⟩)

/-- The pattern of one. -/
theorem bits_one : Ideal.ofBits .f32 0x3F800000#32 = 1 := by
  rw [← EReal.coe_one]
  simp [Ideal.ofBits, Ideal.ieee, -EReal.coe_mul, -EReal.coe_one]
  norm_num

/-- The pattern of 128. -/
theorem bits_128 : Ideal.ofBits .f32 0x43000000#32 = ((128 : ℝ) : EReal) := by
  simp [Ideal.ofBits, Ideal.ieee, -EReal.coe_mul]; norm_num

/-- A lane's number as an extended real. -/
theorem lane_real (k : Fin 128) : FloatOps.sitofp (F := Ideal) FTy.f32 (BitVec.ofNat 32 k.val) = ((k.val : ℝ) : EReal) := by
  have h : (BitVec.ofNat 32 k.val).toInt = (k.val : ℤ) :=
    (by decide +kernel : ∀ k : Fin 128, (BitVec.ofNat 32 k.val).toInt = (k.val : ℤ)) k
  show (((BitVec.ofNat 32 k.val).toInt : ℝ) : EReal) = _
  rw [h]
  norm_cast

/-- A lane's number back to a word. -/
theorem lane_word (k : Fin 128) : FloatOps.fptosi (F := Ideal) (φ := .f32) 32 ((k.val : ℝ) : EReal) = BitVec.ofNat 32 k.val := by
  show Ideal.fptosi 32 _ = _
  rw [Ideal.fptosi, Ideal.toIntClamped_coe, if_pos (by positivity), Int.floor_natCast]
  have : max (-(2 ^ (32 - 1) : ℕ) : ℤ) (min (((2 ^ (32 - 1) : ℕ) : ℤ) - 1) (k.val : ℤ)) = (k.val : ℤ) := by
    have := k.isLt
    norm_num
    omega
  rw [this, BitVec.ofInt_natCast]

/-- The least number of a lane holding `M`, as a word, is that of the first such lane. -/
theorem lane_min (f : Fin 128 → EReal) (M : EReal) (a : Fin 128) (ha : f a = M) (hl : ∀ k, k < a → f k ≠ M) :
    FloatOps.fptosi (F := Ideal) (φ := .f32) 32 (Finset.fold min (Ideal.ofBits FTy.f32 0x7F800000#32)
        (fun k : Fin 128 => if f k = M then FloatOps.sitofp (F := Ideal) FTy.f32 (BitVec.ofNat 32 k.val) else Ideal.ofBits FTy.f32 0x43000000#32)
        Finset.univ) = BitVec.ofNat 32 a.val := by
  rw [Soft.bits_top, fold_min_eq _ a, if_pos ha, lane_real, lane_word]
  intro k
  rw [if_pos ha, lane_real]
  split
  · rename_i hk
    rw [lane_real]
    have : a.val ≤ k.val := by
      by_contra hn
      exact hl k (Fin.lt_def.mpr (by omega)) hk
    exact_mod_cast this
  · rw [bits_128]
    have : a.val ≤ 128 := by omega
    exact_mod_cast this

/-- Whether a descending sort puts position `k` of `N` before position `l`. -/
def bef {n : ℕ} (N : Fin n → EReal) (k l : Fin n) : Bool := FloatOps.cmpfTotal (F := Ideal) (φ := .f32) .gt (N k) (N l) == 1#1

/-- The position a descending sort puts at `j`. -/
def pos {n : ℕ} (N : Fin n → EReal) (j : Fin n) : Fin n := sortedFrom (bef N) j

/-- It is before when its value is greater. -/
theorem bef_iff {n : ℕ} (N : Fin n → EReal) (k l : Fin n) : bef N k l = true ↔ N l < N k := by
  unfold bef
  rw [Ideal.cmpfTotal_def]
  simp only [Ideal.cmp, CmpDirection.ordered, beq_iff_eq]
  by_cases h : N l < N k <;> simp [h]

/-- It is not before when its value is at most the other's. -/
theorem bef_false {n : ℕ} (N : Fin n → EReal) (k l : Fin n) : bef N k l = false ↔ N k ≤ N l := by
  rw [← not_iff_not, Bool.not_eq_false, bef_iff, not_le]

/-- Later positions of the sort hold no greater values. -/
theorem pos_anti {n : ℕ} (N : Fin n → EReal) (i j : Fin n) (h : i < j) : N (pos N j) ≤ N (pos N i) := by
  rw [← bef_false]
  exact sortedFrom_noInversion (bef N) (bef N)
    (fun a b hab => (bef_false N b a).mpr ((bef_iff N a b).mp hab).le) (fun a b hab => hab)
    (fun a b c hab hbc => (bef_false N a c).mpr (((bef_false N a b).mp hab).trans ((bef_false N b c).mp hbc))) i j h

/-- The head of a stable sort of ascending positions sorts strictly before every earlier position. -/
theorem head_first {n : ℕ} (R : Fin n → Fin n → Bool) : ∀ l : List (Fin n), l.Pairwise (· < ·) →
    ∀ h, (stableSort R l).head? = some h → ∀ k ∈ l, k < h → R h k = true := by
  intro l
  induction l with
  | nil => intro _ h _ k hk; simp at hk
  | cons a t ih =>
    intro hp h hh k hk hkh
    rw [List.pairwise_cons] at hp
    unfold stableSort at hh
    cases hs : stableSort R t with
    | nil =>
      have ht : t = [] := by
        have hn := (perm_stableSort R t)
        rw [hs] at hn
        exact List.nil_perm.mp hn
      subst ht
      rw [hs] at hh
      simp [insertBefore] at hh
      simp at hk
      subst hh hk
      exact absurd hkh (lt_irrefl _)
    | cons b r =>
      rw [hs] at hh
      unfold insertBefore at hh
      by_cases hb : R b a = true
      · rw [if_pos hb] at hh
        simp at hh
        subst hh
        rcases List.mem_cons.mp hk with rfl | hk
        · exact hb
        · exact ih hp.2 b (by rw [hs]; rfl) k hk hkh
      · rw [if_neg hb] at hh
        simp at hh
        subst hh
        rcases List.mem_cons.mp hk with rfl | hk
        · exact absurd hkh (lt_irrefl _)
        · exact absurd (hp.1 k hk) (not_lt.mpr hkh.le)

/-- The sort puts the first of the greatest values first. -/
theorem pos_first {n : ℕ} (N : Fin (n + 1) → EReal) : First N (pos N 0) := by
  constructor
  · intro k
    obtain ⟨j, rfl⟩ := sortedFrom_surjective (bef N) k
    by_cases h : j = 0
    · subst h; exact le_rfl
    · exact pos_anti N 0 j (Fin.pos_of_ne_zero h)
  · intro k hk
    rw [← bef_iff]
    refine head_first (bef N) (List.finRange (n + 1)) (List.pairwise_lt_finRange _) _ ?_ k (List.mem_finRange k) hk
    unfold pos sortedFrom sortPositions
    rw [List.head?_eq_getElem?, List.get_eq_getElem]
    exact List.getElem?_eq_getElem (by rw [length_stableSort, List.length_finRange]; omega)

/-- The sort puts the two greatest values first. -/
theorem pos_two {n : ℕ} (N : Fin (n + 2) → EReal) : Two N (pos N 0) (pos N 1) := by
  refine ⟨fun h => absurd (sortedFrom_injective (bef N) h) (by simp), (pos_first N).1, fun k hk => ?_⟩
  obtain ⟨j, rfl⟩ := sortedFrom_surjective (bef N) k
  have h0 : j ≠ 0 := fun h => hk (by subst h; rfl)
  by_cases h : j = 1
  · subst h; exact le_rfl
  · refine pos_anti N 1 j ?_
    rw [Fin.lt_def]
    have h0' : j.val ≠ 0 := fun q => h0 (Fin.ext q)
    have h1' : j.val ≠ 1 := fun q => h (Fin.ext (by simpa using q))
    have : ((1 : Fin (n + 2)).val) = 1 := by simp
    omega

/-- The chosen group's share: one over the sum of the exponentials of the scores shifted by its own. -/
def share (L : Fin 4 → EReal) (g : Fin 4) : EReal := Ideal.div 1 (∑ k : Fin 4, Ideal.exp (L k - L g))

/-- Lane `l` of a row of gates: the group's share times the softmax of the two greatest scores in lanes 0 and 1, zero
    in the others. -/
def gate (L : Fin 4 → EReal) (N : Fin 8 → EReal) (g : Fin 4) (a b : Fin 8) (l : Fin 128) : EReal :=
  if l.val = 0 then share L g * Ideal.div 1 (1 + Ideal.exp (N b - N a))
  else if l.val = 1 then share L g * Ideal.div (Ideal.exp (N b - N a)) (1 + Ideal.exp (N b - N a)) else 0

end Cert.Gate

end
-- ==== Proof.GateKernel.lean ====
/- The router's gates: what a block stores. -/
module

public import proofs.«01_k».proof.Proof.GateSpec
public import proofs.«01_k».proof.Proof.MixKernel
public import proofs.«01_k».proof.Proof.Gen.Kernel6Ideal.Value
public import Idealize.ShloMosaic.Lib.Pipeline.ValueKit
public import Idealize.ShloMosaic.Lib.Pointwise
public import Idealize.ShloMosaic.Lib.WholeRead

@[expose] public section

set_option maxRecDepth 16384

noncomputable section

namespace Cert.Gate

open Idealize.ShloMosaic Idealize.ShloMosaic.TcCoe Idealize.SL.Sem
open Cert.Kernel6Ideal Cert.Kernel6Ideal.Gen

/-- The lane of group `g`'s score. -/
def clane (g : Fin 4) : Fin 128 := ⟨g.val, by omega⟩

/-- The lane of the score of expert `e` of group `g`. -/
def flane (g : Fin 4) (e : Fin 8) : Fin 128 := ⟨4 + (8 * g.val + e.val), by omega⟩

/-- The numbers of the lanes. -/
def lanes : IVec S512x128 32 := iota .tc S512x128 32 [1] iota_S512x128_d1_w32

/-- The test of a coarse lane. -/
theorem test_coarse : ∀ l : Fin 128, IntOp.cmpi .slt (BitVec.ofNat 32 l.val) 4#32 = if l.val < 4 then 1#1 else 0#1 := by
  decide +kernel

/-- The test of a lane of the chosen group. -/
theorem test_fine : ∀ (l : Fin 128) (g : Fin 4), IntOp.andi
      (IntOp.andi (IntOp.cmpi .sge (BitVec.ofNat 32 l.val) 4#32) (IntOp.cmpi .slt (BitVec.ofNat 32 l.val) 36#32))
      (IntOp.cmpi .eq (IntOp.shrsi ArithUnit.vector (IntOp.subi (BitVec.ofNat 32 l.val) 4#32) 3#32) (BitVec.ofNat 32 (clane g).val))
    = if 4 + 8 * g.val ≤ l.val ∧ l.val < 12 + 8 * g.val then 1#1 else 0#1 := by
  decide +kernel

/-- The test of one lane. -/
theorem test_eq : ∀ l k : Fin 128, IntOp.cmpi .eq (BitVec.ofNat 32 l.val) (BitVec.ofNat 32 k.val) = if l = k then 1#1 else 0#1 := by
  decide +kernel

/-- The test of lanes 0 and 1. -/
theorem test_lane : ∀ l : Fin 128, IntOp.cmpi .eq (BitVec.ofNat 32 l.val) 0#32 = (if l.val = 0 then 1#1 else 0#1)
    ∧ IntOp.cmpi .eq (BitVec.ofNat 32 l.val) 1#32 = (if l.val = 1 then 1#1 else 0#1) := by
  decide +kernel

/-- A choice by a decided bit. -/
theorem sel_ite {p : Prop} [Decidable p] (a b : EReal) : Scalar.select (if p then 1#1 else 0#1) a b = if p then a else b := by
  by_cases h : p <;> simp [h, Scalar.select]

section
variable (a1 a2 : FVec Ideal S1x1024 .f32) (x : FVec Ideal S512x1024 .f32) (r : FVec Ideal S512x1 .f32)
  (w1 w2 : FVec Ideal S1024x128 .bf16) (b : FVec Ideal S1x128 .f32)

/-- The score of a lane: with real rows and weights the parts below the first pass vanish. -/
theorem score (i : Fin 512) (l : Fin 128) (y : Fin 1024 → ℝ) (hy : ∀ k, k0_pay6 (F := Ideal) a1 a2 x r (ix2 i k) = ((y k : ℝ) : EReal))
    (hw : ∀ k, w2 (ix2 k l) = 0) :
    k0_pay7 (F := Ideal) a1 a2 x r w1 w2 w1 b (ix2 i l)
      = (∑ k : Fin 1024, k0_pay6 (F := Ideal) a1 a2 x r (ix2 i k) * w1 (ix2 k l)) + b (ix2 0 l) := by
  unfold k0_pay7
  revert hy
  generalize k0_pay6 (F := Ideal) a1 a2 x r = v
  intro hy
  pointwise
  have h0 : ∀ k, v (ix2 i k) - v (ix2 i k) = 0 := fun k => by rw [hy, ← EReal.coe_sub, sub_self, EReal.coe_zero]
  simp only [hw, h0, mul_zero, zero_mul, Finset.sum_const_zero, add_zero]

variable (i : Fin 512) (L : Fin 4 → ℝ) (g : Fin 4)

/-- The coarse scores with the other lanes masked. -/
theorem masked (l : Fin 128) : k0_pay9 (F := Ideal) a1 a2 x r w1 w2 w1 b (ix2 i l)
    = if l.val < 4 then k0_pay7 (F := Ideal) a1 a2 x r w1 w2 w1 b (ix2 i l) else ⊥ := by
  unfold k0_pay9
  generalize k0_pay7 (F := Ideal) a1 a2 x r w1 w2 w1 b = y
  pointwise
  rw [test_coarse, Soft.bits_bot, sel_ite]

variable (hL : ∀ k, k0_pay7 (F := Ideal) a1 a2 x r w1 w2 w1 b (ix2 i (clane k)) = ((L k : ℝ) : EReal))
  (hg : First (fun k => ((L k : ℝ) : EReal)) g)

include hL in
/-- A masked coarse score. -/
theorem masked_at (k : Fin 4) : k0_pay9 (F := Ideal) a1 a2 x r w1 w2 w1 b (ix2 i (clane k)) = ((L k : ℝ) : EReal) := by
  rw [masked, if_pos (show (clane k).val < 4 from k.isLt), hL]

/-- A masked lane. -/
theorem masked_out (l : Fin 128) (h : ¬ l.val < 4) : k0_pay9 (F := Ideal) a1 a2 x r w1 w2 w1 b (ix2 i l) = ⊥ := by
  rw [masked, if_neg h]

include hL hg in
/-- The greatest coarse score. -/
theorem greatest (z : Fin 1) : k0_pay10 (F := Ideal) a1 a2 x r w1 w2 w1 b (ix2 i z) = ((L g : ℝ) : EReal) := by
  have h1 := masked_at a1 a2 x r w1 w2 b i L hL
  have h2 := masked_out a1 a2 x r w1 w2 b i
  unfold k0_pay10
  revert h1 h2
  generalize k0_pay9 (F := Ideal) a1 a2 x r w1 w2 w1 b = y
  intro h1 h2
  pointwise
  rw [Soft.bits_bot, fold_max_eq _ (clane g), h1]
  intro l
  by_cases h : l.val < 4
  · rw [h1, show l = clane ⟨l.val, h⟩ from rfl, h1]
    exact hg.1 _
  · rw [h2 l h]; exact bot_le

include hL hg in
/-- The chosen group. -/
theorem group (z : Fin 1) : k0_pay11 (F := Ideal) a1 a2 x r w1 w2 w1 b (ix2 i z) = BitVec.ofNat 32 (clane g).val := by
  have h0 := greatest a1 a2 x r w1 w2 b i L g hL hg 0
  have h1 := masked_at a1 a2 x r w1 w2 b i L hL
  unfold k0_pay11
  revert h0 h1
  generalize k0_pay9 (F := Ideal) a1 a2 x r w1 w2 w1 b = y
  generalize k0_pay10 (F := Ideal) a1 a2 x r w1 w2 w1 b = u
  intro h0 h1
  pointwise [k0_pay8]
  rw [h0]
  refine lane_min (fun l => y (ix2 i l)) _ (clane g) (h1 g) fun l hl => ?_
  have h : l.val < 4 := (Fin.lt_def.mp hl).trans g.isLt
  rw [show l = clane ⟨l.val, h⟩ from rfl]
  show y _ ≠ _
  rw [h1]
  exact (hg.2 ⟨l.val, h⟩ (Fin.lt_def.mpr (Fin.lt_def.mp hl))).ne

include hL hg in
/-- The chosen group's share. -/
theorem share_at (z : Fin 1) : k0_pay12 (F := Ideal) (k0_pay9 a1 a2 x r w1 w2 w1 b) (k0_pay10 a1 a2 x r w1 w2 w1 b) (ix2 i z)
    = share (fun k => ((L k : ℝ) : EReal)) g := by
  have h0 := greatest a1 a2 x r w1 w2 b i L g hL hg 0
  have h1 := masked_at a1 a2 x r w1 w2 b i L hL
  have h2 := masked_out a1 a2 x r w1 w2 b i
  unfold k0_pay12
  revert h0 h1 h2
  generalize k0_pay9 (F := Ideal) a1 a2 x r w1 w2 w1 b = y
  generalize k0_pay10 (F := Ideal) a1 a2 x r w1 w2 w1 b = u
  intro h0 h1 h2
  pointwise
  rw [h0]
  unfold share
  have hs : ∑ l : Fin 128, Ideal.exp (y (ix2 i l) - ((L g : ℝ) : EReal)) = ∑ k : Fin 4, Ideal.exp (((L k : ℝ) : EReal) - ((L g : ℝ) : EReal)) := by
    refine (Fin.sum_univ_add (a := 4) (b := 124) fun l : Fin 128 => Ideal.exp (y (ix2 i l) - ((L g : ℝ) : EReal))).trans ?_
    rw [show (∑ k : Fin 124, Ideal.exp (y (ix2 i (Fin.natAdd 4 k)) - ((L g : ℝ) : EReal))) = 0 from
      Finset.sum_eq_zero fun k _ => by
        rw [h2 (Fin.natAdd 4 k) (by simp)]
        rfl, add_zero]
    exact Finset.sum_congr rfl fun k _ => by rw [← h1 k]; rfl
  rw [hs]
end

section
variable (y : FVec Ideal S512x128 .f32) (s : IVec S512x1 32) (i : Fin 512) (g : Fin 4) (N : Fin 8 → EReal)
  (hs : ∀ z, s (ix2 i z) = BitVec.ofNat 32 (clane g).val) (hN : ∀ e, y (ix2 i (flane g e)) = N e)

include hs in
/-- The fine scores with the lanes outside the chosen group masked. -/
theorem fine_masked (l : Fin 128) : k0_pay13 (F := Ideal) y lanes s (ix2 i l)
    = if 4 + 8 * g.val ≤ l.val ∧ l.val < 12 + 8 * g.val then y (ix2 i l) else ⊥ := by
  pointwise [k0_pay13, lanes]
  rw [hs, test_fine, Soft.bits_bot, sel_ite]

include hs hN in
/-- A masked fine score. -/
theorem fine_at (e : Fin 8) : k0_pay13 (F := Ideal) y lanes s (ix2 i (flane g e)) = N e := by
  rw [fine_masked y s i g hs, if_pos, hN]
  unfold flane
  exact ⟨by dsimp only; omega, by dsimp only; omega⟩

include hs hN in
/-- A lane that is not masked is one of the group's. -/
theorem fine_cases (l : Fin 128) : (∃ e, l = flane g e) ∨ k0_pay13 (F := Ideal) y lanes s (ix2 i l) = ⊥ := by
  rw [fine_masked y s i g hs]
  by_cases h : 4 + 8 * g.val ≤ l.val ∧ l.val < 12 + 8 * g.val
  · refine Or.inl ⟨⟨l.val - (4 + 8 * g.val), by omega⟩, Fin.ext ?_⟩
    show l.val = 4 + (8 * g.val + (l.val - (4 + 8 * g.val)))
    omega
  · exact Or.inr (if_neg h)

variable (a b : Fin 8) (hab : Two N a b)

include hs hN hab in
/-- The greatest fine score. -/
theorem first_value (z : Fin 1) : k0_pay14 (F := Ideal) y lanes s (ix2 i z) = N a := by
  have h1 := fine_at y s i g N hs hN
  have h2 := fine_cases y s i g N hs hN
  unfold k0_pay14
  revert h1 h2
  generalize k0_pay13 (F := Ideal) y lanes s = v
  intro h1 h2
  pointwise
  rw [Soft.bits_bot, fold_max_eq _ (flane g a), h1]
  intro l
  rcases h2 l with ⟨e, rfl⟩ | h
  · rw [h1, h1]; exact hab.2.1 e
  · rw [h]; exact bot_le

include hs hN hab in
/-- The lane of the greatest fine score. -/
theorem first_lane (ha : ∀ k, k < a → N k ≠ N a) (hr : N a ≠ ⊥) (z : Fin 1) :
    k0_pay15 (F := Ideal) y lanes (k0_pay8 (F := Ideal)) s (ix2 i z) = BitVec.ofNat 32 (flane g a).val := by
  have h0 := first_value y s i g N hs hN a b hab 0
  have h1 := fine_at y s i g N hs hN
  have h2 := fine_cases y s i g N hs hN
  unfold k0_pay15
  revert h0 h1 h2
  generalize k0_pay13 (F := Ideal) y lanes s = v
  generalize k0_pay14 (F := Ideal) y lanes s = u
  intro h0 h1 h2
  pointwise [k0_pay8]
  rw [h0]
  refine lane_min (fun l => v (ix2 i l)) _ (flane g a) (h1 a) fun l hl => ?_
  show v _ ≠ _
  rcases h2 l with ⟨e, rfl⟩ | h
  · rw [h1]
    refine ha e (Fin.lt_def.mpr ?_)
    have := Fin.lt_def.mp hl
    unfold flane at this
    dsimp only at this
    omega
  · rw [h]; exact hr.symm

include hs hN hab in
/-- The second greatest fine score. -/
theorem second_value (ha : ∀ k, k < a → N k ≠ N a) (hr : N a ≠ ⊥) (z : Fin 1) :
    k0_pay17 (F := Ideal) y lanes (k0_pay8 (F := Ideal)) s (ix2 i z) = N b := by
  have h0 := first_lane y s i g N hs hN a b hab ha hr 0
  have h1 := fine_at y s i g N hs hN
  have h2 := fine_cases y s i g N hs hN
  have inj : ∀ e f, flane g e = flane g f → e = f := fun e f h => by
    have := Fin.mk.inj_iff.mp h
    exact Fin.ext (by omega)
  unfold k0_pay17 k0_pay16
  revert h0 h1 h2
  generalize k0_pay13 (F := Ideal) y lanes s = v
  generalize k0_pay15 (F := Ideal) y lanes (k0_pay8 (F := Ideal)) s = u
  intro h0 h1 h2
  pointwise [lanes]
  rw [h0]
  simp only [test_eq, Soft.bits_bot, sel_ite]
  rw [fold_max_eq _ (flane g b), if_neg (fun h => hab.1 (inj _ _ h)), h1]
  intro l
  rw [if_neg (fun h => hab.1 (inj _ _ h)), h1]
  by_cases hl : l = flane g a
  · rw [if_pos hl]; exact bot_le
  · rw [if_neg hl]
    rcases h2 l with ⟨e, rfl⟩ | h
    · rw [h1]; exact hab.2.2 e fun q => hl (by rw [q])
    · rw [h]; exact bot_le

include hs hN hab in
/-- The exponential of the two scores' difference. -/
theorem ratio (hr : ∀ e, N e ≠ ⊥) (z : Fin 1) : k0_pay19 (F := Ideal) y lanes (k0_pay8 (F := Ideal)) s (ix2 i z) = Ideal.exp (N b - N a) := by
  obtain ⟨a', e1, ha⟩ := exists_first N a
  obtain ⟨b', hab', e2⟩ := hab.move a' e1
  have h1 := first_value y s i g N hs hN a b hab z
  have h2 := second_value y s i g N hs hN a' b' hab' (fun k hk => e1 ▸ ha k hk) (hr a') z
  rw [e2] at h2
  unfold k0_pay19
  revert h1 h2
  generalize k0_pay17 (F := Ideal) y lanes (k0_pay8 (F := Ideal)) s = v
  generalize k0_pay14 (F := Ideal) y lanes s = u
  intro h1 h2
  pointwise
  rw [h1, h2]
end

/-- A stored row. -/
theorem gates_at (p e : FVec Ideal S512x1 .f32) (i : Fin 512) (L : Fin 4 → EReal) (N : Fin 8 → EReal) (g : Fin 4) (a b : Fin 8)
    (hp : ∀ z, p (ix2 i z) = share L g) (he : ∀ z, e (ix2 i z) = Ideal.exp (N b - N a)) (l : Fin 128) :
    k0_pay31 (F := Ideal) lanes (k0_pay21 p e (FloatOps.ofBits FTy.f32 0x3F800000#32)) (k0_pay22 p e (FloatOps.ofBits FTy.f32 0x3F800000#32)) (ix2 i l)
      = gate L N g a b l := by
  pointwise [k0_pay31, k0_pay21, k0_pay22, k0_pay20, lanes]
  rw [hp, he, (test_lane l).1, (test_lane l).2, sel_ite, sel_ite]
  unfold gate
  simp only [bits_one]

end Cert.Gate

end
-- ==== Proof.GateBlock.lean ====
/- The router's gates: the call's final array, from its arguments. -/
module

public import proofs.«01_k».proof.Proof.GateKernel
public import proofs.«01_k».proof.Proof.ProjSpec

@[expose] public section

set_option maxRecDepth 16384

noncomputable section

namespace Cert.Gate

open Idealize.ShloMosaic Idealize.ShloMosaic.TcCoe Idealize.SL.Sem
open Idealize.ShloMosaic.Pipeline (Dat)
open Cert.Kernel6Ideal Cert.Kernel6Ideal.Gen

/-! ## Reals -/

/-- An extended real that is a real. -/
def Re (x : EReal) : Prop := ∃ r : ℝ, x = ((r : ℝ) : EReal)

/-- The sum of two reals is a real. -/
theorem Re.add {x y : EReal} : Re x → Re y → Re (x + y) := fun ⟨a, ha⟩ ⟨b, hb⟩ => ⟨a + b, by rw [ha, hb, EReal.coe_add]⟩
/-- The difference of two reals is a real. -/
theorem Re.sub {x y : EReal} : Re x → Re y → Re (x - y) := fun ⟨a, ha⟩ ⟨b, hb⟩ => ⟨a - b, by rw [ha, hb, EReal.coe_sub]⟩
/-- The product of two reals is a real. -/
theorem Re.mul {x y : EReal} : Re x → Re y → Re (x * y) := fun ⟨a, ha⟩ ⟨b, hb⟩ => ⟨a * b, by rw [ha, hb, EReal.coe_mul]⟩

/-- A sum of reals is a real. -/
theorem Re.sum {n : ℕ} {f : Fin n → EReal} (h : ∀ k, Re (f k)) : Re (∑ k, f k) := by
  choose g hg using h
  exact ⟨∑ k, g k, by rw [← Soft.coe_sum]; exact Finset.sum_congr rfl fun k _ => hg k⟩

/-- The pattern of 1024. -/
theorem bits_1024 : Ideal.ofBits .f32 0x44800000#32 = ((1024 : ℝ) : EReal) := by
  simp [Ideal.ofBits, Ideal.ieee, -EReal.coe_mul]; norm_num

/-- The mean of a row of reals. -/
theorem mean_real (y : Fin 1024 → EReal) (Y : Fin 1024 → ℝ) (h : ∀ j, y j = ((Y j : ℝ) : EReal)) :
    Mix.mean y = (((∑ j, Y j) * (1 / 1024) : ℝ) : EReal) := by
  unfold Mix.mean
  rw [bits_1024, Ideal.div_coe (by norm_num), EReal.coe_mul, ← Soft.coe_sum]
  exact congrArg (· * _) (Finset.sum_congr rfl fun j _ => h j)

/-- A square is not negative. -/
theorem sq_nonneg (x : EReal) : 0 ≤ x * x := by
  induction x with
  | bot => simp
  | top => simp
  | coe r => exact_mod_cast mul_self_nonneg r

/-- An infinite number less any number is infinite. -/
theorem sub_infinite (x z : EReal) (h : x = ⊤ ∨ x = ⊥) : (x - z) * (x - z) = ⊤ := by
  rcases h with rfl | rfl
  · induction z with
    | bot => simp
    | top => simp
    | coe r => simp
  · simp

/-- In a row with an infinite entry the norm's root is that of infinity, so that the result is the shift. -/
theorem norm_infinite (y : Fin 1024 → EReal) (g b : EReal) (j i : Fin 1024) (hi : y i = ⊤ ∨ y i = ⊥) : Mix.norm y g b j = b := by
  have hs : ∑ k, Mix.cen y k * Mix.cen y k = ⊤ := by
    rw [eq_top_iff, ← sub_infinite (y i) (Mix.mean y) hi]
    exact Finset.single_le_sum (f := fun k => Mix.cen y k * Mix.cen y k) (fun k _ => sq_nonneg _) (Finset.mem_univ i)
  have hm : Mix.mean (fun k => Mix.cen y k * Mix.cen y k) = ⊤ := by
    unfold Mix.mean
    rw [hs, bits_1024, Ideal.div_coe (by norm_num), EReal.top_mul_coe_of_pos (by norm_num)]
  unfold Mix.norm
  rw [hm, Proj.bits_eps.1, EReal.top_add_coe, Ideal.rsqrt_top, mul_zero, zero_mul, zero_add]

/-- The layer norm of a row of reals is real. -/
theorem norm_of_reals (y : Fin 1024 → EReal) (g b : EReal) (j : Fin 1024) (hy : ∀ j, Re (y j)) (hg : Re g) (hb : Re b) :
    Re (Mix.norm y g b j) := by
  choose Y hY using hy
  have hc : ∀ j, Mix.cen y j = ((Y j - (∑ j, Y j) * (1 / 1024) : ℝ) : EReal) := fun j => by
    unfold Mix.cen
    rw [mean_real y Y hY, hY, EReal.coe_sub]
  unfold Mix.norm
  refine ((Re.mul ⟨_, hc j⟩ ?_).mul hg).add hb
  rw [mean_real _ _ (fun k => by rw [hc k, ← EReal.coe_mul]), Proj.bits_eps.1, ← EReal.coe_add, Ideal.rsqrt_coe]
  have hp : 0 < (∑ k : Fin 1024, (Y k - (∑ j, Y j) * (1 / 1024)) * (Y k - (∑ j, Y j) * (1 / 1024))) * (1 / 1024) + Proj.eps := by
    have h1 : 0 ≤ ∑ k : Fin 1024, (Y k - (∑ j, Y j) * (1 / 1024)) * (Y k - (∑ j, Y j) * (1 / 1024)) :=
      Finset.sum_nonneg fun x _ => mul_self_nonneg _
    have h2 := Proj.bits_eps.2
    positivity
  rw [if_neg (not_lt.2 hp.le), if_neg hp.ne']
  exact ⟨_, rfl⟩

/-- The layer norm of any row, with a real gain and shift, is real. -/
theorem norm_real (y : Fin 1024 → EReal) (g b : EReal) (j : Fin 1024) (hg : Re g) (hb : Re b) : Re (Mix.norm y g b j) := by
  by_cases h : ∃ i, y i = ⊤ ∨ y i = ⊥
  · obtain ⟨i, hi⟩ := h
    rw [norm_infinite y g b j i hi]
    exact hb
  · refine norm_of_reals y g b j (fun i => ⟨EReal.toReal (y i), (EReal.coe_toReal ?_ ?_).symm⟩) hg hb
    · exact fun q => h ⟨i, Or.inl q⟩
    · exact fun q => h ⟨i, Or.inr q⟩

/-! ## The scores, from the arguments -/

section
variable (P Q : FVec Ideal S32768x512 .bf16) (B : FVec Ideal S1x1024x1024 .f32) (X : FVec Ideal S32768x1024 .f32)
  (G H : FVec Ideal S2x1024 .f32) (WG : FVec Ideal S2x1024x4 .f32) (BG : FVec Ideal S2x4 .f32)
  (WR : FVec Ideal S2x1024x32 .f32) (BR : FVec Ideal S2x32 .f32)

/-- An entry of the normed row. -/
def row1 (r : Fin 32768) (k : Fin 1024) : EReal := Mix.norm (Mix.arow P Q B X r) (G (ix2 0 k)) (H (ix2 0 k)) k

/-- The score of group `g`. -/
def coarse (r : Fin 32768) (g : Fin 4) : EReal := (∑ k : Fin 1024, row1 P Q B X G H r k * WG (ix3 0 k g)) + BG (ix2 0 g)

/-- The score of expert `e` of group `g`. -/
def fine (r : Fin 32768) (g : Fin 4) (e : Fin 8) : EReal :=
  (∑ k : Fin 1024, row1 P Q B X G H r k * WR (ix3 0 k ⟨8 * g.val + e.val, by omega⟩)) + BR (ix2 0 ⟨8 * g.val + e.val, by omega⟩)

/-- The group a row chooses. -/
def grp (r : Fin 32768) : Fin 4 := pos (coarse P Q B X G H WG BG r) 0

/-- The gates of a row. -/
def out (r : Fin 32768) (l : Fin 128) : EReal :=
  gate (coarse P Q B X G H WG BG r) (fine P Q B X G H WR BR r (grp P Q B X G H WG BG r)) (grp P Q B X G H WG BG r)
    (pos (fine P Q B X G H WR BR r (grp P Q B X G H WG BG r)) 0) (pos (fine P Q B X G H WR BR r (grp P Q B X G H WG BG r)) 1) l

variable (hG : ∀ k, Re (G (ix2 0 k))) (hH : ∀ k, Re (H (ix2 0 k))) (hWG : ∀ k g, Re (WG (ix3 0 k g))) (hBG : ∀ g, Re (BG (ix2 0 g)))
  (hWR : ∀ k e, Re (WR (ix3 0 k e))) (hBR : ∀ e, Re (BR (ix2 0 e)))

include hG hH in
/-- The normed row is real. -/
theorem row1_real (r : Fin 32768) (k : Fin 1024) : Re (row1 P Q B X G H r k) :=
  norm_real _ _ _ _ (hG _) (hH _)

include hG hH hWG hBG in
/-- The groups' scores are real. -/
theorem coarse_real (r : Fin 32768) (g : Fin 4) : Re (coarse P Q B X G H WG BG r g) :=
  (Re.sum fun k => (row1_real P Q B X G H hG hH r k).mul (hWG _ _)).add (hBG _)

include hG hH hWR hBR in
/-- The experts' scores are real. -/
theorem fine_real (r : Fin 32768) (g : Fin 4) (e : Fin 8) : Re (fine P Q B X G H WR BR r g e) :=
  (Re.sum fun k => (row1_real P Q B X G H hG hH r k).mul (hWR _ _)).add (hBR _)
end

/-! ## A stored row -/

/-- A stored row of gates, from the scores of its lanes. -/
theorem row_gates (a1 a2 : FVec Ideal S1x1024 .f32) (x : FVec Ideal S512x1024 .f32) (r : FVec Ideal S512x1 .f32)
    (w1 w2 : FVec Ideal S1024x128 .bf16) (b : FVec Ideal S1x128 .f32) (i : Fin 512) (y : Fin 1024 → EReal)
    (hy : ∀ k, k0_pay6 (F := Ideal) a1 a2 x r (ix2 i k) = y k) (hyR : ∀ k, Re (y k))
    (hwc : ∀ k g, w2 (ix2 k (clane g)) = 0) (hwf : ∀ k g e, w2 (ix2 k (flane g e)) = 0)
    (L : Fin 4 → EReal) (hL : ∀ g, (∑ k : Fin 1024, y k * w1 (ix2 k (clane g))) + b (ix2 0 (clane g)) = L g) (hLR : ∀ g, Re (L g))
    (M : Fin 4 → Fin 8 → EReal) (hM : ∀ g e, (∑ k : Fin 1024, y k * w1 (ix2 k (flane g e))) + b (ix2 0 (flane g e)) = M g e)
    (hMR : ∀ g e, Re (M g e)) (l : Fin 128) :
    k0_pay31 (F := Ideal) lanes
      (k0_pay21 (k0_pay12 (k0_pay9 a1 a2 x r w1 w2 w1 b) (k0_pay10 a1 a2 x r w1 w2 w1 b))
        (k0_pay19 (k0_pay7 a1 a2 x r w1 w2 w1 b) lanes k0_pay8 (k0_pay11 a1 a2 x r w1 w2 w1 b)) (FloatOps.ofBits FTy.f32 0x3F800000#32))
      (k0_pay22 (k0_pay12 (k0_pay9 a1 a2 x r w1 w2 w1 b) (k0_pay10 a1 a2 x r w1 w2 w1 b))
        (k0_pay19 (k0_pay7 a1 a2 x r w1 w2 w1 b) lanes k0_pay8 (k0_pay11 a1 a2 x r w1 w2 w1 b)) (FloatOps.ofBits FTy.f32 0x3F800000#32)) (ix2 i l)
      = gate L (M (pos L 0)) (pos L 0) (pos (M (pos L 0)) 0) (pos (M (pos L 0)) 1) l := by
  choose Y hY using hyR
  choose K hK using hLR
  obtain rfl : L = fun k => ((K k : ℝ) : EReal) := funext hK
  have h7 : ∀ l, (∀ k, w2 (ix2 k l) = 0) → k0_pay7 (F := Ideal) a1 a2 x r w1 w2 w1 b (ix2 i l)
      = (∑ k : Fin 1024, y k * w1 (ix2 k l)) + b (ix2 0 l) := fun l hw => by
    rw [score a1 a2 x r w1 w2 b i l Y (fun k => (hy k).trans (hY k)) hw]
    simp only [hy]
  have hc : ∀ k, k0_pay7 (F := Ideal) a1 a2 x r w1 w2 w1 b (ix2 i (clane k)) = ((K k : ℝ) : EReal) := fun k => by
    rw [h7 _ (fun q => hwc q k), hL]
  have hg := pos_first (fun k => ((K k : ℝ) : EReal))
  have hf : ∀ e, k0_pay7 (F := Ideal) a1 a2 x r w1 w2 w1 b (ix2 i (flane (pos (fun k => ((K k : ℝ) : EReal)) 0) e)) = M (pos (fun k => ((K k : ℝ) : EReal)) 0) e :=
    fun e => by rw [h7 _ (fun q => hwf q _ e), hM]
  have h11 := group a1 a2 x r w1 w2 b i K _ hc hg
  refine gates_at _ _ i _ (M _) _ _ _ (fun z => share_at a1 a2 x r w1 w2 b i K _ hc hg z)
    (fun z => ratio _ _ i _ (M _) h11 hf _ _ (pos_two _) (fun e => ?_) z) l
  obtain ⟨q, hq⟩ := hMR (pos (fun k => ((K k : ℝ) : EReal)) 0) e
  rw [hq]
  exact EReal.coe_ne_bot q

/-! ## The arrays the call reads -/

variable (m : (ℓ : Loc nD τ sig) → Buf (Elt Ideal) ℓ) (c : Dev nD)

section
variable (WG : FVec Ideal S2x1024x4 .f32) (hmWG : m ((c : Thread nD τ).loc main_arg6) = WG)
  (BG : FVec Ideal S2x4 .f32) (hmBG : m ((c : Thread nD τ).loc main_arg7) = BG)
  (WR : FVec Ideal S2x1024x32 .f32) (hmWR : m ((c : Thread nD τ).loc main_arg8) = WR)
  (BR : FVec Ideal S2x32 .f32) (hmBR : m ((c : Thread nD τ).loc main_arg9) = BR)

/-- A lane's weight. -/
def wcat (WG : FVec Ideal S2x1024x4 .f32) (WR : FVec Ideal S2x1024x32 .f32) (k : Fin 1024) (l : Fin 128) : EReal :=
  if h : l.val < 4 then WG (ix3 0 k ⟨l.val, h⟩) else if h' : l.val - 4 < 32 then WR (ix3 0 k ⟨l.val - 4, h'⟩) else 0

/-- A lane's bias. -/
def bcat (BG : FVec Ideal S2x4 .f32) (BR : FVec Ideal S2x32 .f32) (l : Fin 128) : EReal :=
  if h : l.val < 4 then BG (ix2 0 ⟨l.val, h⟩) else if h' : l.val - 4 < 32 then BR (ix2 0 ⟨l.val - 4, h'⟩) else 0

/-- A group's lane. -/
theorem wcat_c (k : Fin 1024) (g : Fin 4) : wcat WG WR k (clane g) = WG (ix3 0 k g) := dif_pos (show (clane g).val < 4 from g.isLt)

/-- An expert's lane. -/
theorem wcat_f (k : Fin 1024) (g : Fin 4) (e : Fin 8) : wcat WG WR k (flane g e) = WR (ix3 0 k ⟨8 * g.val + e.val, by omega⟩) := by
  unfold wcat
  rw [dif_neg (show ¬ ((flane g e).val < 4) by unfold flane; dsimp only; omega), dif_pos (show (flane g e).val - 4 < 32 by unfold flane; dsimp only; omega)]
  exact congrArg (fun q => WR (ix3 0 k q)) (Fin.ext (Nat.add_sub_cancel_left _ _))

/-- A group's lane. -/
theorem bcat_c (g : Fin 4) : bcat BG BR (clane g) = BG (ix2 0 g) := dif_pos (show (clane g).val < 4 from g.isLt)

/-- An expert's lane. -/
theorem bcat_f (g : Fin 4) (e : Fin 8) : bcat BG BR (flane g e) = BR (ix2 0 ⟨8 * g.val + e.val, by omega⟩) := by
  unfold bcat
  rw [dif_neg (show ¬ ((flane g e).val < 4) by unfold flane; dsimp only; omega), dif_pos (show (flane g e).val - 4 < 32 by unfold flane; dsimp only; omega)]
  exact congrArg (fun q => BR (ix2 0 q)) (Fin.ext (Nat.add_sub_cancel_left _ _))

include hmWG hmWR in
/-- The weight's first pass. -/
theorem whi (k : Fin 1024) (l : Fin 128) : (V m c main_v10 : FVec Ideal S1024x128 .bf16) (ix2 k l) = wcat WG WR k l := by
  subst hmWG hmWR
  unfold V
  after_results_simp; pointwise; after_results_simp; pointwise
  rfl

include hmWG hmWR in
/-- The weight's second pass. -/
theorem wmid (k : Fin 1024) (l : Fin 128) : (V m c main_v13 : FVec Ideal S1024x128 .bf16) (ix2 k l) = wcat WG WR k l - wcat WG WR k l := by
  subst hmWG hmWR
  unfold V
  after_results_simp; pointwise; after_results_simp; pointwise
  rfl

include hmBG hmBR in
/-- The bias. -/
theorem bias (z : Fin 1) (l : Fin 128) : (V m c main_v16 : FVec Ideal S1x128 .f32) (ix2 z l) = bcat BG BR l := by
  subst hmBG hmBR
  unfold V
  after_results_simp; pointwise; after_results_simp; pointwise
  rfl

/-- The windows' block indices in the point's position. -/
theorem idx : ∀ t : Fin cfg0.N, win0_6.index t = ![0, 0] ∧ win0_7.index t = ![0, 0] ∧ win0_8.index t = ![0, 0]
      ∧ win0_11.index t = ![t.val, 0] :=
  (by decide +kernel : ∀ t : Fin grid0.N, _)

include hmWG hmWR in
/-- The block of the weight's first pass. -/
theorem blk_whi (t : Fin cfg0.N) (k : Fin 1024) (l : Fin 128) : (iblk m c 6 t : FVec Ideal S1024x128 .bf16) (ix2 k l) = wcat WG WR k l := by
  rw [← whi m c WG hmWG WR hmWR]
  blk_simp [iblk]
  refine congrArg _ (funext fun a => Fin.ext ?_)
  fin_cases a <;> blk_simp [idx t]

include hmWG hmWR in
/-- The block of the weight's second pass. -/
theorem blk_wmid (t : Fin cfg0.N) (k : Fin 1024) (l : Fin 128) :
    (iblk m c 7 t : FVec Ideal S1024x128 .bf16) (ix2 k l) = wcat WG WR k l - wcat WG WR k l := by
  rw [← wmid m c WG hmWG WR hmWR]
  blk_simp [iblk]
  refine congrArg _ (funext fun a => Fin.ext ?_)
  fin_cases a <;> blk_simp [idx t]

include hmBG hmBR in
/-- The block of the bias. -/
theorem blk_bias (t : Fin cfg0.N) (z : Fin 1) (l : Fin 128) : (iblk m c 8 t : FVec Ideal S1x128 .f32) (ix2 z l) = bcat BG BR l := by
  rw [← bias m c BG hmBG BR hmBR z]
  blk_simp [iblk]
  refine congrArg _ (funext fun a => Fin.ext ?_)
  fin_cases a <;> blk_simp [idx t]
end

section
variable (P : FVec Ideal S32768x512 .bf16) (hmP : m ((c : Thread nD τ).loc main_arg0) = P)
  (Q : FVec Ideal S32768x512 .bf16) (hmQ : m ((c : Thread nD τ).loc main_arg1) = Q)
  (B : FVec Ideal S1x1024x1024 .f32) (hmB : m ((c : Thread nD τ).loc main_arg2) = B)
  (X : FVec Ideal S32768x1024 .f32) (hmX : m ((c : Thread nD τ).loc main_arg3) = X)
  (G : FVec Ideal S2x1024 .f32) (hmG : m ((c : Thread nD τ).loc main_arg4) = G)
  (H : FVec Ideal S2x1024 .f32) (hmH : m ((c : Thread nD τ).loc main_arg5) = H)
  (WG : FVec Ideal S2x1024x4 .f32) (hmWG : m ((c : Thread nD τ).loc main_arg6) = WG)
  (BG : FVec Ideal S2x4 .f32) (hmBG : m ((c : Thread nD τ).loc main_arg7) = BG)
  (WR : FVec Ideal S2x1024x32 .f32) (hmWR : m ((c : Thread nD τ).loc main_arg8) = WR)
  (BR : FVec Ideal S2x32 .f32) (hmBR : m ((c : Thread nD τ).loc main_arg9) = BR)
  (hG : ∀ k, Re (G (ix2 0 k))) (hH : ∀ k, Re (H (ix2 0 k))) (hWG : ∀ k g, Re (WG (ix3 0 k g))) (hBG : ∀ g, Re (BG (ix2 0 g)))
  (hWR : ∀ k e, Re (WR (ix3 0 k e))) (hBR : ∀ e, Re (BR (ix2 0 e)))

include hmP hmQ hmB hmX hmG hmH in
/-- The normed row of a block. -/
theorem normed (t : Fin cfg0.N) (i : Fin 512) (j : Fin 1024) :
    k0_pay6 (F := Ideal) (k0_pay2 (iblk m c 4 t)) (k0_pay3 (iblk m c 5 t))
      (k0_pay4 (iblk m c 0 t) (View.ld (iblk m c 2 t) (Rect.unit (s := S1024x1024) ![0, 0] ![512, 1024] inb_S1024x1024_S512x1024_0_0)) (iblk m c 1 t)
        (View.ld (iblk m c 2 t) (Rect.unit (s := S1024x1024) ![512, 0] ![512, 1024] inb_S1024x1024_S512x1024_512_0)) (iblk m c 3 t))
      (k0_pay5 (iblk m c 0 t) (View.ld (iblk m c 2 t) (Rect.unit (s := S1024x1024) ![0, 0] ![512, 1024] inb_S1024x1024_S512x1024_0_0)) (iblk m c 1 t)
        (View.ld (iblk m c 2 t) (Rect.unit (s := S1024x1024) ![512, 0] ![512, 1024] inb_S1024x1024_S512x1024_512_0)) (iblk m c 3 t)) (ix2 i j)
      = row1 P Q B X G H (Mix.arr t i) j :=
  Mix.stored m c P hmP Q hmQ B hmB X hmX G hmG H hmH t i j _ _

include hmP hmQ hmB hmX hmG hmH hmWG hmBG hmWR hmBR hG hH hWG hBG hWR hBR in
/-- The gates the body stores, in the arguments' entries. -/
theorem stored (t : Fin cfg0.N) (i : Fin 512) (l : Fin 128) (a1 a2 : FVec Ideal S1x1024 .f32) (x : FVec Ideal S512x1024 .f32)
    (r : FVec Ideal S512x1 .f32) (h6 : ∀ j, k0_pay6 (F := Ideal) a1 a2 x r (ix2 i j) = row1 P Q B X G H (Mix.arr t i) j) :
    k0_pay31 (F := Ideal) lanes
      (k0_pay21 (k0_pay12 (k0_pay9 a1 a2 x r (iblk m c 6 t) (iblk m c 7 t) (iblk m c 6 t) (iblk m c 8 t)) (k0_pay10 a1 a2 x r (iblk m c 6 t) (iblk m c 7 t) (iblk m c 6 t) (iblk m c 8 t)))
        (k0_pay19 (k0_pay7 a1 a2 x r (iblk m c 6 t) (iblk m c 7 t) (iblk m c 6 t) (iblk m c 8 t)) lanes k0_pay8 (k0_pay11 a1 a2 x r (iblk m c 6 t) (iblk m c 7 t) (iblk m c 6 t) (iblk m c 8 t))) (FloatOps.ofBits FTy.f32 0x3F800000#32))
      (k0_pay22 (k0_pay12 (k0_pay9 a1 a2 x r (iblk m c 6 t) (iblk m c 7 t) (iblk m c 6 t) (iblk m c 8 t)) (k0_pay10 a1 a2 x r (iblk m c 6 t) (iblk m c 7 t) (iblk m c 6 t) (iblk m c 8 t)))
        (k0_pay19 (k0_pay7 a1 a2 x r (iblk m c 6 t) (iblk m c 7 t) (iblk m c 6 t) (iblk m c 8 t)) lanes k0_pay8 (k0_pay11 a1 a2 x r (iblk m c 6 t) (iblk m c 7 t) (iblk m c 6 t) (iblk m c 8 t))) (FloatOps.ofBits FTy.f32 0x3F800000#32)) (ix2 i l)
      = out P Q B X G H WG BG WR BR (Mix.arr t i) l := by
  have sub0 : ∀ {v : EReal}, Re v → v - v = 0 := fun ⟨q, hq⟩ => by rw [hq, ← EReal.coe_sub, sub_self, EReal.coe_zero]
  refine row_gates a1 a2 x r _ _ _ i (row1 P Q B X G H (Mix.arr t i)) h6 (row1_real P Q B X G H hG hH _)
    (fun k g => ?_) (fun k g e => ?_) (coarse P Q B X G H WG BG (Mix.arr t i)) (fun g => ?_)
    (coarse_real P Q B X G H WG BG hG hH hWG hBG _) (fine P Q B X G H WR BR (Mix.arr t i)) (fun g e => ?_)
    (fine_real P Q B X G H WR BR hG hH hWR hBR _) l
  · rw [blk_wmid m c WG hmWG WR hmWR, wcat_c]; exact sub0 (hWG _ _)
  · rw [blk_wmid m c WG hmWG WR hmWR, wcat_f]; exact sub0 (hWR _ _)
  · rw [blk_bias m c BG hmBG BR hmBR, bcat_c]
    simp only [blk_whi m c WG hmWG WR hmWR, wcat_c]
    rfl
  · rw [blk_bias m c BG hmBG BR hmBR, bcat_f]
    simp only [blk_whi m c WG hmWG WR hmWR, wcat_f]
    rfl

include hmP hmQ hmB hmX hmG hmH hmWG hmBG hmWR hmBR hG hH hWG hBG hWR hBR in
/-- What the body leaves at an index of a point's block. -/
theorem point (t : Fin cfg0.N) (y : S512x128.Idx) (a : Fin 32768) (b : Fin 128) (ha : a.val = t.val * 512 + (y 0).val)
    (hb : b.val = (y 1).val) :
    (outsAt0 m c t.val t.isLt).2.2.1 y = out P Q B X G H WG BG WR BR a b := by
  by_cases h0 : t.val % 64 = 0
  · rw [outsAt0_A m c t h0]
    unfold out0_A_11
    frame_out
    idx_vars y
    obtain rfl : a = Mix.arr t y0 := Fin.ext ha
    obtain rfl : b = y1 := Fin.ext hb
    exact stored m c P hmP Q hmQ B hmB X hmX G hmG H hmH WG hmWG BG hmBG WR hmWR BR hmBR hG hH hWG hBG hWR hBR t y0 _ _ _ _ _
      (normed m c P hmP Q hmQ B hmB X hmX G hmG H hmH t y0)
  · rw [outsAt0_B m c t h0]
    unfold out0_B_11
    frame_out
    idx_vars y
    obtain rfl : a = Mix.arr t y0 := Fin.ext ha
    obtain rfl : b = y1 := Fin.ext hb
    exact stored m c P hmP Q hmQ B hmB X hmX G hmG H hmH WG hmWG BG hmBG WR hmWR BR hmBR hG hH hWG hBG hWR hBR t y0 _ _ _ _ _
      (normed m c P hmP Q hmQ B hmB X hmX G hmG H hmH t y0)

include hmP hmQ hmB hmX hmG hmH hmWG hmBG hmWR hmBR hG hH hWG hBG hWR hBR in
/-- The gates after the run. -/
theorem final : (dats m 0 c).arrAt 11 (cfgs 0).N
    = (fun i : S32768x128.Idx => out P Q B X G H WG BG WR BR (i 0) (i 1) : FVec Ideal S32768x128 .f32) := by
  refine (dats m 0 c).arrAt_eq_of_covers 11 _ (by decide +kernel) fun t _ y => ?_
  blk_simp
  rw [after0_11]
  refine point m c P hmP Q hmQ B hmB X hmX G hmG H hmH WG hmWG BG hmBG WR hmWR BR hmBR hG hH hWG hBG hWR hBR t y _ _ ?_ ?_ <;>
    blk_simp [idx t] <;> try omega
end

end Cert.Gate

end
-- ==== Proof.GateReference.lean ====
/- The router's gates: what the reference computes. -/
module

public import proofs.«01_k».proof.Proof.GateBlock
public import proofs.«01_k».proof.Proof.MixReference
public import proofs.«01_k».proof.Proof.Gen.Reference6Ideal.Read
public import Idealize.ShloMosaic.Lib.Pointwise

@[expose] public section

set_option maxRecDepth 16384

noncomputable section

namespace Cert.GateRef

open Idealize.ShloMosaic Idealize.ShloMosaic.TcCoe Idealize.SL.Sem
open Cert.Reference6Ideal Cert.Reference6Ideal.Gen Cert.Reference6Ideal.Read Cert.Gate

/-- The greatest of four scores per row, at its position as a word. -/
theorem top_group (x : FVec Ideal S32768x4 .f32) (r : Fin 32768) (z : Fin 1) :
    (Host.topK S32768x1 1 (FloatOps.cmpfTotal .gt) x sliceFits_S32768x4_S32768x1).2 (ix2 r z)
      = BitVec.ofNat 32 (pos (fun k => x (ix2 r k)) 0).val := by
  obtain rfl : z = 0 := Subsingleton.elim _ _
  have al : ∀ (j k : Fin 4), (ix2 r j : S32768x4.Idx).along (1 : Fin 2) k = ix2 r k := fun j k => by
    funext a; fin_cases a <;> rfl
  have hR : (fun k k' : Fin 4 => FloatOps.cmpfTotal (F := Ideal) (φ := .f32) CmpDirection.gt (x ((ix2 r (0 : Fin 4) : S32768x4.Idx).along (1 : Fin 2) k))
      (x ((ix2 r (0 : Fin 4) : S32768x4.Idx).along (1 : Fin 2) k')) == 1#1) = bef (fun k => x (ix2 r k)) := by
    funext k k'
    rw [al, al]
    rfl
  unfold Host.topK Host.sort2
  simp only [show (1 : ℕ) < S32768x4.rank from by decide, dif_pos]
  generalize hF : sortedFrom = F
  pointwise
  subst hF
  exact congrArg (fun R => BitVec.ofNat 32 (sortedFrom R (0 : Fin 4)).val) hR

/-- The two greatest of eight scores per row. -/
theorem top_two (x : FVec Ideal S32768x8 .f32) (r : Fin 32768) (j : Fin 2) :
    (Host.topK S32768x2 1 (FloatOps.cmpfTotal .gt) x sliceFits_S32768x8_S32768x2).1 (ix2 r j)
      = x (ix2 r (pos (fun k => x (ix2 r k)) ⟨j.val, by omega⟩)) := by
  have al : ∀ (j k : Fin 8), (ix2 r j : S32768x8.Idx).along (1 : Fin 2) k = ix2 r k := fun j k => by
    funext a; fin_cases a <;> rfl
  have hR : ∀ j, (fun k k' : Fin 8 => FloatOps.cmpfTotal (F := Ideal) (φ := .f32) CmpDirection.gt (x ((ix2 r j : S32768x8.Idx).along (1 : Fin 2) k))
      (x ((ix2 r j : S32768x8.Idx).along (1 : Fin 2) k')) == 1#1) = bef (fun k => x (ix2 r k)) := fun j => by
    funext k k'
    rw [al, al]
    rfl
  unfold Host.topK Host.sort2
  simp only [show (1 : ℕ) < S32768x8.rank from by decide, dif_pos]
  generalize hF : sortedFrom = F
  pointwise
  subst hF
  exact (congrArg x (al _ _)).trans (congrArg (fun R => x (ix2 r (sortedFrom R (⟨j.val, by omega⟩ : Fin 8)))) (hR _))

/-- One entry per row at the row's own position: the position, where it is in range. -/
theorem take_one (x : FVec Ideal S32768x4 .f32) (u : IVec S32768x1x1 32) (r : Fin 32768) (g : Fin 4) (h : u (ix3 r 0 0) = BitVec.ofNat 32 g.val) :
    Host.gather gather_S32768x4_S32768x1x1_S32768x1_n_1_0_0_1_2_11 x u (ix2 r 0) = x (ix2 r g) := by
  unfold Host.gather
  refine congrArg x (funext fun a => Fin.ext ?_)
  show gather_S32768x4_S32768x1x1_S32768x1_n_1_0_0_1_2_11.start _ u a + gather_S32768x4_S32768x1x1_S32768x1_n_1_0_0_1_2_11.batchCoord _ a
      + gather_S32768x4_S32768x1x1_S32768x1_n_1_0_0_1_2_11.offCoord _ a = _
  have hw : (BitVec.ofNat 32 g.val).toInt.toNat = g.val := (by decide : ∀ g : Fin 4, (BitVec.ofNat 32 g.val).toInt.toNat = g.val) g
  have h01 : a = (0 : Fin 2) ∨ a = (1 : Fin 2) := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun q => ((GatherDims.mem_sKept _ _).mp q).2 (List.mem_singleton.mpr rfl))]
    simp only [Nat.zero_add, Nat.add_zero]
    unfold GatherDims.batchCoord
    rw [dif_pos (show (0 : Fin 2) ∈ gather_S32768x4_S32768x1x1_S32768x1_n_1_0_0_1_2_11.operandBatchingDims from List.mem_singleton.mpr rfl)]
    rfl
  · rw [GatherDims.batchCoord_eq_zero _ _ _ (fun q => absurd (List.mem_singleton.mp q) (by decide)),
      GatherDims.offCoord_eq_zero _ _ _ (fun q => ((GatherDims.mem_sKept _ _).mp q).1 (List.mem_singleton.mpr rfl))]
    simp only [Nat.add_zero]
    unfold GatherDims.start
    rw [dif_pos (show (1 : Fin 2) ∈ gather_S32768x4_S32768x1x1_S32768x1_n_1_0_0_1_2_11.startIndexMap from List.mem_singleton.mpr rfl)]
    refine (congrArg (fun q => min (BitVec.toInt (u q)).toNat 3) (a₂ := ix3 r 0 0) (funext fun b => Fin.ext ?_)).trans ?_
    · match b with
      | ⟨0, _⟩ => rfl
      | ⟨1, _⟩ => rfl
      | ⟨2, _⟩ => rfl
    · rw [h, hw]
      exact Nat.min_eq_left (by omega)

/-- A row of eight per row of four such rows, at the row's own position: the position, where it is in range. -/
theorem take_row (x : FVec Ideal S32768x4x8 .f32) (u : IVec S32768x1x1 32) (r : Fin 32768) (e : Fin 8) (g : Fin 4) (h : u (ix3 r 0 0) = BitVec.ofNat 32 g.val) :
    Host.gather gather_S32768x4x8_S32768x1x1_S32768x1x8_2_1_0_0_1_2_118 x u (ix3 r 0 e) = x (ix3 r g e) := by
  unfold Host.gather
  refine congrArg x (funext fun a => Fin.ext ?_)
  show gather_S32768x4x8_S32768x1x1_S32768x1x8_2_1_0_0_1_2_118.start _ u a + gather_S32768x4x8_S32768x1x1_S32768x1x8_2_1_0_0_1_2_118.batchCoord _ a
      + gather_S32768x4x8_S32768x1x1_S32768x1x8_2_1_0_0_1_2_118.offCoord _ a = _
  have hw : (BitVec.ofNat 32 g.val).toInt.toNat = g.val := (by decide : ∀ g : Fin 4, (BitVec.ofNat 32 g.val).toInt.toNat = g.val) g
  have h01 : a = (0 : Fin 3) ∨ a = (1 : Fin 3) ∨ a = (2 : Fin 3) := by
    match a with
    | ⟨0, _⟩ => exact Or.inl rfl
    | ⟨1, _⟩ => exact Or.inr (Or.inl rfl)
    | ⟨2, _⟩ => exact Or.inr (Or.inr rfl)
  rcases h01 with rfl | rfl | rfl
  · rw [GatherDims.start_batching _ _ _ _ (List.mem_singleton.mpr rfl),
      GatherDims.offCoord_eq_zero _ _ _ (fun q => ((GatherDims.mem_sKept _ _).mp q).2 (List.mem_singleton.mpr rfl))]
    simp only [Nat.zero_add, Nat.add_zero]
    unfold GatherDims.batchCoord
    rw [dif_pos (show (0 : Fin 3) ∈ gather_S32768x4x8_S32768x1x1_S32768x1x8_2_1_0_0_1_2_118.operandBatchingDims from List.mem_singleton.mpr rfl)]
    rfl
  · rw [GatherDims.batchCoord_eq_zero _ _ _ (fun q => absurd (List.mem_singleton.mp q) (by decide)),
      GatherDims.offCoord_eq_zero _ _ _ (fun q => ((GatherDims.mem_sKept _ _).mp q).1 (List.mem_singleton.mpr rfl))]
    simp only [Nat.add_zero]
    unfold GatherDims.start
    rw [dif_pos (show (1 : Fin 3) ∈ gather_S32768x4x8_S32768x1x1_S32768x1x8_2_1_0_0_1_2_118.startIndexMap from List.mem_singleton.mpr rfl)]
    refine (congrArg (fun q => min (BitVec.toInt (u q)).toNat 3) (a₂ := ix3 r 0 0) (funext fun b => Fin.ext ?_)).trans ?_
    · match b with
      | ⟨0, _⟩ => rfl
      | ⟨1, _⟩ => rfl
      | ⟨2, _⟩ => rfl
    · rw [h, hw]
      exact Nat.min_eq_left (by omega)
  · rw [GatherDims.batchCoord_eq_zero _ _ _ (fun q => absurd (List.mem_singleton.mp q) (by decide))]
    unfold GatherDims.start
    rw [dif_neg (show ¬ (2 : Fin 3) ∈ gather_S32768x4x8_S32768x1x1_S32768x1x8_2_1_0_0_1_2_118.startIndexMap from fun q => absurd (List.mem_singleton.mp q) (by decide))]
    simp only [Nat.zero_add, Nat.add_zero]
    unfold GatherDims.offCoord
    rw [dif_pos (show (2 : Fin 3) ∈ gather_S32768x4x8_S32768x1x1_S32768x1x8_2_1_0_0_1_2_118.sKept from (GatherDims.mem_sKept _ _).mpr ⟨fun q => absurd (List.mem_singleton.mp q) (by decide), fun q => absurd (List.mem_singleton.mp q) (by decide)⟩)]
    rfl

/-- A group's word is not negative and at most three, and is left as it is. -/
theorem word_ok (g : Fin 4) : Scalar.select (IntOp.cmpi CmpIPredicate.slt (BitVec.ofNat 32 g.val) 0#32) (IntOp.addi (BitVec.ofNat 32 g.val) 4#32) (BitVec.ofNat 32 g.val) = BitVec.ofNat 32 g.val
    ∧ IntOp.andi (IntOp.cmpi CmpIPredicate.sge (BitVec.ofNat 32 g.val) 0#32) (IntOp.cmpi CmpIPredicate.sle (BitVec.ofNat 32 g.val) 3#32) = 1#1 :=
  (by decide : ∀ g : Fin 4, Scalar.select (IntOp.cmpi CmpIPredicate.slt (BitVec.ofNat 32 g.val) 0#32) (IntOp.addi (BitVec.ofNat 32 g.val) 4#32) (BitVec.ofNat 32 g.val) = BitVec.ofNat 32 g.val
    ∧ IntOp.andi (IntOp.cmpi CmpIPredicate.sge (BitVec.ofNat 32 g.val) 0#32) (IntOp.cmpi CmpIPredicate.sle (BitVec.ofNat 32 g.val) 3#32) = 1#1) g

section
variable (P Q : FVec Ideal S32768x512 .bf16) (B : FVec Ideal S1x1024x1024 .f32) (X : FVec Ideal S32768x1024 .f32)
  (G H : FVec Ideal S2x1024 .f32) (WG : FVec Ideal S2x1024x4 .f32) (BG : FVec Ideal S2x4 .f32)
  (WR : FVec Ideal S2x1024x32 .f32) (BR : FVec Ideal S2x32 .f32)

/-- The normed row. -/
theorem normed (r : Fin 32768) (k : Fin 1024) : val_main_v38 (F := Ideal) P Q B X G H (ix2 r k) = row1 P Q B X G H r k :=
  congrFun (MixRef.rows P Q B X G H) (ix2 r k)

/-- The groups' scores. -/
theorem coarse_at (r : Fin 32768) (g : Fin 4) : val_main_v46 (F := Ideal) P Q B X G H WG BG (ix2 r g) = coarse P Q B X G H WG BG r g := by
  have h := normed P Q B X G H r
  unfold val_main_v46 val_main_v41
  revert h
  generalize val_main_v38 (F := Ideal) P Q B X G H = y
  intro h
  pointwise [val_main_v45, val_main_v44, val_main_v43, val_main_v42, val_main_v40, val_main_v39, coarse]
  simp only [h]

/-- The experts' scores. -/
theorem fine_at (r : Fin 32768) (g : Fin 4) (e : Fin 8) :
    val_main_v68 (F := Ideal) P Q B X G H WR BR (ix3 r g e) = fine P Q B X G H WR BR r g e := by
  have h := normed P Q B X G H r
  unfold val_main_v68 val_main_v67 val_main_v62
  revert h
  generalize val_main_v38 (F := Ideal) P Q B X G H = y
  intro h
  pointwise [val_main_v66, val_main_v65, val_main_v64, val_main_v63, val_main_v61, val_main_v60, fine]
  simp only [h, Nat.mul_comm]

/-- The chosen group as a word. -/
theorem group_at (r : Fin 32768) (z : Fin 1) :
    val_main_indices (F := Ideal) P Q B X G H WG BG (ix2 r z) = BitVec.ofNat 32 (grp P Q B X G H WG BG r).val := by
  unfold val_main_indices
  rw [top_group]
  unfold grp
  simp only [coarse_at]

/-- The group as a position, of the first reading. -/
theorem word0 (r : Fin 32768) : val_main_call0_v5 (F := Ideal) P Q B X G H WG BG (ix3 r 0 0) = BitVec.ofNat 32 (grp P Q B X G H WG BG r).val := by
  have h := group_at P Q B X G H WG BG r
  unfold val_main_call0_v5 val_main_call0_v4 val_main_call0_v3 val_main_call0_v1
  revert h
  generalize val_main_indices (F := Ideal) P Q B X G H WG BG = u
  intro h
  pointwise [val_main_call0_v0, val_main_call0_c, val_main_call0_v2, val_main_call0_c_0]
  rw [h]
  exact (word_ok _).1

/-- The group as a position, of the second reading. -/
theorem word1 (r : Fin 32768) : val_main_call1_v4 (F := Ideal) P Q B X G H WG BG (ix3 r 0 0) = BitVec.ofNat 32 (grp P Q B X G H WG BG r).val := by
  have h := group_at P Q B X G H WG BG r
  unfold val_main_call1_v4 val_main_call1_v3 val_main_call1_v1 val_main_v69
  revert h
  generalize val_main_indices (F := Ideal) P Q B X G H WG BG = u
  intro h
  pointwise [val_main_call1_v0, val_main_call1_c, val_main_call1_v2, val_main_call1_c_0]
  rw [h]
  exact (word_ok _).1

/-- The first reading is in range. -/
theorem ok0 (r : Fin 32768) : val_main_call0_v12 (F := Ideal) P Q B X G H WG BG (ix2 r 0) = 1#1 := by
  have h := word0 P Q B X G H WG BG r
  unfold val_main_call0_v12 val_main_call0_v11 val_main_call0_v10 val_main_call0_v7
  revert h
  generalize val_main_call0_v5 (F := Ideal) P Q B X G H WG BG = u
  intro h
  pointwise [val_main_call0_v9, val_main_call0_v8, val_main_call0_v6, val_main_call0_c_1, val_main_call0_c_2, val_main_call0_c_3]
  rw [show (Finset.univ : Finset (Fin 1)) = {0} from rfl, Finset.fold_singleton, h, (word_ok _).2]
  rfl

/-- The second reading is in range. -/
theorem ok1 (r : Fin 32768) : val_main_call1_v11 (F := Ideal) P Q B X G H WG BG (ix2 r 0) = 1#1 := by
  have h := word1 P Q B X G H WG BG r
  unfold val_main_call1_v11 val_main_call1_v10 val_main_call1_v9 val_main_call1_v6
  revert h
  generalize val_main_call1_v4 (F := Ideal) P Q B X G H WG BG = u
  intro h
  pointwise [val_main_call1_v8, val_main_call1_v7, val_main_call1_v5, val_main_call1_c_1, val_main_call1_c_2, val_main_call1_c_3]
  rw [show (Finset.univ : Finset (Fin 1)) = {0} from rfl, Finset.fold_singleton, h, (word_ok _).2]
  rfl

/-- The chosen group's scores. -/
theorem chosen (r : Fin 32768) (e : Fin 8) : val_main_v71 (F := Ideal) P Q B X G H WG BG WR BR (ix2 r e)
    = fine P Q B X G H WR BR r (grp P Q B X G H WG BG r) e := by
  have h := take_row (val_main_v68 (F := Ideal) P Q B X G H WR BR) _ r e _ (word1 P Q B X G H WG BG r)
  have h2 := ok1 P Q B X G H WG BG r
  rw [fine_at] at h
  unfold val_main_v71 val_main_v70 val_main_call1_v13 val_main_call1_v12
  revert h h2
  generalize val_main_call1_v11 (F := Ideal) P Q B X G H WG BG = y
  generalize Host.gather _ _ _ = z
  intro h h2
  pointwise
  rw [h2, h]
  rfl

/-- The two greatest scores of the chosen group. -/
theorem two_at (r : Fin 32768) (j : Fin 2) : val_main_values_8 (F := Ideal) P Q B X G H WG BG WR BR (ix2 r j)
    = fine P Q B X G H WR BR r (grp P Q B X G H WG BG r) (pos (fine P Q B X G H WR BR r (grp P Q B X G H WG BG r)) ⟨j.val, by omega⟩) := by
  unfold val_main_values_8
  rw [top_two]
  simp only [chosen]

/-- A real's exponential, one at zero. -/
theorem exp_sub_self {x : EReal} (h : Re x) : Ideal.exp (x - x) = 1 := by
  obtain ⟨r, rfl⟩ := h
  rw [← EReal.coe_sub, sub_self, Ideal.exp_coe, Real.exp_zero, EReal.coe_one]

/-- The chosen group's share. -/
theorem share_at (hL : ∀ r g, Re (coarse P Q B X G H WG BG r g)) (r : Fin 32768) :
    val_main_v59 (F := Ideal) P Q B X G H WG BG (ix1 r) = share (coarse P Q B X G H WG BG r) (grp P Q B X G H WG BG r) := by
  have h := coarse_at P Q B X G H WG BG r
  have hg : ∀ k, coarse P Q B X G H WG BG r k ≤ coarse P Q B X G H WG BG r (grp P Q B X G H WG BG r) := (pos_first _).1
  have h57 : val_main_v57 (F := Ideal) P Q B X G H WG BG (ix2 r (grp P Q B X G H WG BG r)) = share (coarse P Q B X G H WG BG r) (grp P Q B X G H WG BG r) := by
    unfold val_main_v57 val_main_v56 val_main_v55 val_main_v54 val_main_v53 val_main_v52 val_main_v51 val_main_v50 val_main_v49 val_main_v47
    revert h
    generalize val_main_v46 (F := Ideal) P Q B X G H WG BG = y
    intro h
    pointwise [val_main_v48, val_main_cst_5, val_main_cst_6, val_main_cst_7]
    simp only [h]
    rw [Soft.bits_bot, max_bot_left, fold_max_eq _ _ hg, exp_sub_self (hL r _)]
    rfl
  have h1 := take_one (val_main_v57 (F := Ideal) P Q B X G H WG BG) _ r _ (word0 P Q B X G H WG BG r)
  have h2 := ok0 P Q B X G H WG BG r
  rw [h57] at h1
  unfold val_main_v59 val_main_v58 val_main_call0_v13
  revert h1 h2
  generalize val_main_call0_v12 (F := Ideal) P Q B X G H WG BG = y
  generalize Host.gather _ _ _ = z
  intro h1 h2
  pointwise
  rw [h2, h1]
  rfl

/-- The reference's gates are those of the call. -/
theorem result (hL : ∀ r g, Re (coarse P Q B X G H WG BG r g)) (hN : ∀ r g e, Re (fine P Q B X G H WR BR r g e))
    (r : Fin 32768) (l : Fin 128) :
    out P Q B X G H WG BG WR BR r l = val_main_v87 (F := Ideal) P Q B X G H WG BG WR BR (ix2 r l) := by
  have h := two_at P Q B X G H WG BG WR BR r
  have h2 := share_at P Q B X G H WG BG hL r
  have hn := hN r (grp P Q B X G H WG BG r)
  unfold out val_main_v87 val_main_v85 val_main_v84 val_main_v83 val_main_v82 val_main_v81 val_main_v80 val_main_v79 val_main_v78 val_main_v77 val_main_v76 val_main_v75 val_main_v73 val_main_v72
  revert h h2 hn
  generalize val_main_values_8 (F := Ideal) P Q B X G H WG BG WR BR = y
  generalize val_main_v59 (F := Ideal) P Q B X G H WG BG = u
  generalize fine P Q B X G H WR BR r (grp P Q B X G H WG BG r) = N
  generalize coarse P Q B X G H WG BG r = L
  generalize grp P Q B X G H WG BG r = g
  intro h h2 hn
  have y0 : y (ix2 r 0) = N (pos N 0) := h 0
  have y1 : y (ix2 r 1) = N (pos N 1) := h 1
  have hM : Finset.fold max (⊥ : EReal) (fun x => y (ix2 r x)) Finset.univ = N (pos N 0) := by
    rw [fold_max_eq _ (0 : Fin 2), y0]
    intro k
    fin_cases k
    · exact le_rfl
    · show y (ix2 r 1) ≤ y (ix2 r 0)
      rw [y0, y1]
      exact (pos_first N).1 _
  pointwise [val_main_v86, val_main_v74, val_main_cst_10, val_main_cst_11, val_main_cst_12, val_main_cst_13]
  rw [Soft.bits_bot, max_bot_left, hM, Fin.sum_univ_two, y0, y1, exp_sub_self (hn _), h2]
  unfold gate
  by_cases h0 : l.val = 0
  · have e : (⟨l.val, by omega⟩ : Fin 2) = 0 := Fin.ext h0
    rw [if_pos h0, dif_pos (by omega : l.val < 2), e, y0, exp_sub_self (hn _)]
  · by_cases h1 : l.val = 1
    · have e : (⟨l.val, by omega⟩ : Fin 2) = 1 := Fin.ext h1
      rw [if_neg h0, if_pos h1, dif_pos (by omega : l.val < 2), e, y1]
    · rw [if_neg h0, if_neg h1, dif_neg (by omega)]
end

end Cert.GateRef

end
-- ==== Proof.GateClaim.lean ====
/- The value claim of the router's gates: the call and the reference end with the same gates. -/
module

public import proofs.«01_k».proof.Defs
public import proofs.«01_k».proof.Proof.Gen.Kernel6
public import proofs.«01_k».proof.Proof.Gen.Pre_finite6
public import proofs.«01_k».proof.Proof.Gen.Reference6Ideal.Run
public import proofs.«01_k».proof.Proof.GateReference
public import Idealize.ShloMosaic.Lib.Claim

@[expose] public section

set_option maxRecDepth 16384

noncomputable section

namespace Cert.GateClaim

open Idealize.ShloMosaic Idealize.ShloMosaic.TcCoe Idealize.SL.Sem Cert.Soft

/-- An extended real that is its own real part is a real. -/
theorem re_of_self (x : EReal) (h : x = ((EReal.toReal x : ℝ) : EReal)) : Gate.Re x := ⟨_, h⟩

/-- What the precondition says: the first layer's entries of the norm's gain and shift and of the router's weights and
    biases are reals. -/
theorem pre_real (P : FVec Ideal Cert.Pre_finite6.S32768x512 .bf16)
    (Q : FVec Ideal Cert.Pre_finite6.S32768x512 .bf16)
    (B : FVec Ideal Cert.Pre_finite6.S1x1024x1024 .f32)
    (X : FVec Ideal Cert.Pre_finite6.S32768x1024 .f32)
    (G : FVec Ideal Cert.Pre_finite6.S2x1024 .f32)
    (H : FVec Ideal Cert.Pre_finite6.S2x1024 .f32)
    (WG : FVec Ideal Cert.Pre_finite6.S2x1024x4 .f32)
    (BG : FVec Ideal Cert.Pre_finite6.S2x4 .f32)
    (WR : FVec Ideal Cert.Pre_finite6.S2x1024x32 .f32)
    (BR : FVec Ideal Cert.Pre_finite6.S2x32 .f32)
    (h0 : (Cert.Pre_finite6.fn (F := Ideal) P Q B X G H WG BG WR BR).1 = fun _ => 1#1)
    (h1 : (Cert.Pre_finite6.fn (F := Ideal) P Q B X G H WG BG WR BR).2.1 = fun _ => 1#1)
    (h2 : (Cert.Pre_finite6.fn (F := Ideal) P Q B X G H WG BG WR BR).2.2.1 = fun _ => 1#1)
    (h3 : (Cert.Pre_finite6.fn (F := Ideal) P Q B X G H WG BG WR BR).2.2.2.1 = fun _ => 1#1)
    (h4 : (Cert.Pre_finite6.fn (F := Ideal) P Q B X G H WG BG WR BR).2.2.2.2.1 = fun _ => 1#1)
    (h5 : (Cert.Pre_finite6.fn (F := Ideal) P Q B X G H WG BG WR BR).2.2.2.2.2 = fun _ => 1#1) :
    (∀ k, Gate.Re (G (ix2 0 k))) ∧ (∀ k, Gate.Re (H (ix2 0 k))) ∧ (∀ k g, Gate.Re (WG (ix3 0 k g))) ∧ (∀ g, Gate.Re (BG (ix2 0 g))) ∧ (∀ k e, Gate.Re (WR (ix3 0 k e))) ∧ (∀ e, Gate.Re (BR (ix2 0 e))) := by
  refine ⟨fun k => ?_, fun k => ?_, fun k g => ?_, fun g => ?_, fun k e => ?_, fun e => ?_⟩
  · have hi := congrFun h0 (ix1 k)
    pointwise [Cert.Pre_finite6.fn, Cert.Pre_finite6.fn_part1] at hi
    refine re_of_self _ (real_of_abs_lt _ ?_)
    rw [← bits_top]
    exact of_bit _ hi
  · have hi := congrFun h1 (ix1 k)
    pointwise [Cert.Pre_finite6.fn, Cert.Pre_finite6.fn_part1] at hi
    refine re_of_self _ (real_of_abs_lt _ ?_)
    rw [← bits_top]
    exact of_bit _ hi
  · have hi := congrFun h2 (ix2 k g)
    pointwise [Cert.Pre_finite6.fn, Cert.Pre_finite6.fn_part1] at hi
    refine re_of_self _ (real_of_abs_lt _ ?_)
    rw [← bits_top]
    exact of_bit _ hi
  · have hi := congrFun h3 (ix1 g)
    pointwise [Cert.Pre_finite6.fn, Cert.Pre_finite6.fn_part1] at hi
    refine re_of_self _ (real_of_abs_lt _ ?_)
    rw [← bits_top]
    exact of_bit _ hi
  · have hi := congrFun h4 (ix2 k e)
    pointwise [Cert.Pre_finite6.fn, Cert.Pre_finite6.fn_part1] at hi
    refine re_of_self _ (real_of_abs_lt _ ?_)
    rw [← bits_top]
    exact of_bit _ hi
  · have hi := congrFun h5 (ix1 e)
    pointwise [Cert.Pre_finite6.fn, Cert.Pre_finite6.fn_part1] at hi
    refine re_of_self _ (real_of_abs_lt _ ?_)
    rw [← bits_top]
    exact of_bit _ hi

set_option maxHeartbeats 8000000 in
/-- The value claim of the output projection's call, of the router's gates. -/
theorem algebraic : Cert.algebraic_Kernel6Ideal_Reference6Ideal_pre_finite6 := by
  pair_intro
  · run_from Cert.Kernel6Ideal.Gen.run_main m g
  · run_from Cert.Reference6Ideal.Value.run m' g'
    obtain ⟨p0, p1, p2, p3, p4, p5⟩ := hpre c
    obtain ⟨r4, r5, r6, r7, r8, r9⟩ := pre_real _ _ _ _ _ _ _ _ _ _ p0 p1 p2 p3 p4 p5
    obtain ⟨e0, e1, e2, e3, e4, e5, e6, e7, e8, e9⟩ := hagree c
    rw [Cert.Gate.final m c _ rfl _ rfl _ rfl _ rfl _ rfl _ rfl _ rfl _ rfl _ rfl _ rfl r4 r5 r6 r7 r8 r9,
      Cert.Reference6Ideal.Read.val_main_v87_eq]
    change Cert.Reference6Ideal.Read.val_main_v87 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4)) (m' ((c.tc : Thread Cert.Reference6Ideal.nD Cert.Reference6Ideal.τ).loc Cert.Reference6Ideal.main_arg5)) (m' ((c.tc : Thread Cert.Reference6Ideal.nD Cert.Reference6Ideal.τ).loc Cert.Reference6Ideal.main_arg6)) (m' ((c.tc : Thread Cert.Reference6Ideal.nD Cert.Reference6Ideal.τ).loc Cert.Reference6Ideal.main_arg7)) (m' ((c.tc : Thread Cert.Reference6Ideal.nD Cert.Reference6Ideal.τ).loc Cert.Reference6Ideal.main_arg8)) (m' ((c.tc : Thread Cert.Reference6Ideal.nD Cert.Reference6Ideal.τ).loc Cert.Reference6Ideal.main_arg9)) = _
    rw [e0, e1, e2, e3, e4, e5, e6, e7, e8, e9]
    funext i
    rw [show i = ix2 (i 0) (i 1) from by funext a; fin_cases a <;> rfl]
    exact (Cert.GateRef.result _ _ _ _ _ _ _ _ _ _ (Cert.Gate.coarse_real _ _ _ _ _ _ _ _ r4 r5 r6 r7)
      (Cert.Gate.fine_real _ _ _ _ _ _ _ _ r4 r5 r8 r9) (i 0) (i 1)).symm

/-- The frame of the reference. -/
theorem frame_reference : Cert.quiescent_Reference6Ideal := by
  intro m g _
  exact (θ_run Cert.Reference6Ideal.defs _ _).mono
    (fun r h => ⟨fun c => (h c).2, sem_eq_zero_of_no_sems (by decide) r.2⟩) (Cert.Reference6Ideal.Value.run (F := Ideal) m g)

end Cert.GateClaim

end
-- ==== Proof.lean ====
/- The proof of the claim: the frames of every program, that nothing changes when a kernel is read over the
   extended reals, and the value claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Pre_finite
public import proofs.«01_k».proof.Proof.Gen.Pre_finite2
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Pre_finite4
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite6
public import proofs.«01_k».proof.Proof.DiffClaim
public import proofs.«01_k».proof.Proof.MlaClaim
public import proofs.«01_k».proof.Proof.DilClaim
public import proofs.«01_k».proof.Proof.MixClaim
public import proofs.«01_k».proof.Proof.ProjClaim
public import proofs.«01_k».proof.Proof.GateClaim
public import Idealize.ShloMosaic.Adequacy
public import Idealize.ShloMosaic.Init

@[expose] public section

noncomputable section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Pre_finite2.Gen.facts, Cert.Pre_finite4.Gen.facts, Cert.Pre_finite6.Gen.facts,
  fun m g _ => Cert.Kernel.Gen.frame m g,
  fun m g _ => Cert.KernelIdeal.Gen.frame m g,
  fun m g _ => Cert.KernelIdeal.Gen.frame m g,
  Cert.DiffClaim.frame_reference,
  fun m g _ => Cert.DiffClaim.frame_reference m g trivial,
  fun m g _ => Cert.Kernel2.Gen.frame m g,
  fun m g _ => Cert.Kernel2Ideal.Gen.frame m g,
  fun m g _ => Cert.Kernel2Ideal.Gen.frame m g,
  Cert.MlaClaim.frame_reference,
  fun m g _ => Cert.MlaClaim.frame_reference m g trivial,
  fun m g _ => Cert.Kernel3.Gen.frame m g,
  fun m g _ => Cert.Kernel3Ideal.Gen.frame m g,
  Cert.DilClaim.frame_reference,
  fun m g _ => Cert.Kernel4.Gen.frame m g,
  fun m g _ => Cert.Kernel4Ideal.Gen.frame m g,
  fun m g _ => Cert.Kernel4Ideal.Gen.frame m g,
  Cert.ProjClaim.frame_reference,
  fun m g _ => Cert.ProjClaim.frame_reference m g trivial,
  fun m g _ => Cert.Kernel5.Gen.frame m g,
  fun m g _ => Cert.Kernel5Ideal.Gen.frame m g,
  Cert.MixClaim.frame_reference,
  fun m g _ => Cert.Kernel6.Gen.frame m g,
  fun m g _ => Cert.Kernel6Ideal.Gen.frame m g,
  fun m g _ => Cert.Kernel6Ideal.Gen.frame m g,
  Cert.GateClaim.frame_reference,
  fun m g _ => Cert.GateClaim.frame_reference m g trivial,
  trivial,
  Cert.DiffClaim.algebraic,
  trivial,
  Cert.MlaClaim.algebraic,
  Cert.DilClaim.named_scale,
  Cert.DilClaim.algebraic,
  Cert.ProjClaim.named_scale,
  Cert.ProjClaim.algebraic,
  trivial,
  Cert.MixClaim.algebraic,
  trivial,
  Cert.GateClaim.algebraic⟩

end Cert.Proof

end
